-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "kt" .f32 0x421044FE#32 (((Real.log 2)⁻¹ * 25 : ℝ) : EReal)
  ∧ IdealRules.named_const.Statement Cert.KernelIdeal.κ "ks" .f32 0x4166D4CA#32 (((Real.log 2)⁻¹ * 10 : ℝ) : EReal)
  ∧ IdealRules.named_const.Statement Cert.KernelIdeal.κ "kt2" .f32 0x429044FE#32 (((Real.log 2)⁻¹ * 50 : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x5x128x1024 : Shape := ⟨4, ![2, 5, 128, 1024]⟩
abbrev S2x5x128 : Shape := ⟨3, ![2, 5, 128]⟩
abbrev S3x5x128x1024 : Shape := ⟨4, ![3, 5, 128, 1024]⟩
abbrev S3x5x128 : Shape := ⟨3, ![3, 5, 128]⟩
abbrev S8192x1024 : Shape := ⟨2, ![8192, 1024]⟩
abbrev S8192 : Shape := ⟨1, ![8192]⟩
abbrev S5 : Shape := ⟨1, ![5]⟩
abbrev S5x5x128x1024 : Shape := ⟨4, ![5, 5, 128, 1024]⟩
abbrev S5x640x1024 : Shape := ⟨3, ![5, 640, 1024]⟩
abbrev S5x5x128 : Shape := ⟨3, ![5, 5, 128]⟩
abbrev S1x8192 : Shape := ⟨2, ![1, 8192]⟩
abbrev S2x3 : Shape := ⟨2, ![2, 3]⟩
abbrev S2x3x5x128 : Shape := ⟨4, ![2, 3, 5, 128]⟩
abbrev S512x1024 : Shape := ⟨2, ![512, 1024]⟩
abbrev S1x512 : Shape := ⟨2, ![1, 512]⟩
abbrev S5x640x512 : Shape := ⟨3, ![5, 640, 512]⟩
abbrev S5x640x128 : Shape := ⟨3, ![5, 640, 128]⟩
abbrev S4x640x128 : Shape := ⟨3, ![4, 640, 128]⟩
abbrev S1x1x128 : Shape := ⟨3, ![1, 1, 128]⟩
abbrev S1x128 : Shape := ⟨2, ![1, 128]⟩
abbrev S128x128 : Shape := ⟨2, ![128, 128]⟩
abbrev S1 : Shape := ⟨1, ![1]⟩
abbrev S1x128x128 : Shape := ⟨3, ![1, 128, 128]⟩
abbrev S512x128 : Shape := ⟨2, ![512, 128]⟩
abbrev S128 : Shape := ⟨1, ![128]⟩
abbrev S1x640x1024 : Shape := ⟨3, ![1, 640, 1024]⟩
abbrev S640x1024 : Shape := ⟨2, ![640, 1024]⟩
abbrev S640x512 : Shape := ⟨2, ![640, 512]⟩
abbrev S1x640x512 : Shape := ⟨3, ![1, 640, 512]⟩
abbrev S8x128 : Shape := ⟨2, ![8, 128]⟩
abbrev S1x8x128 : Shape := ⟨3, ![1, 8, 128]⟩
abbrev S1x1 : Shape := ⟨2, ![1, 1]⟩
abbrev S1x1x1x128 : Shape := ⟨4, ![1, 1, 1, 128]⟩

abbrev nBuf : Space → Nat
  | .hbm => 16
  | .vmem => 18
  | .smem => 1
  | _ => 0

abbrev bufTy : (tb : Table) → Fin (tcTables nBuf tb) → BufTy
  | .hbm, ⟨0, _⟩ => ⟨S2x5x128x1024, .fp8e4m3⟩
  | .hbm, ⟨1, _⟩ => ⟨S2x5x128, .f32⟩
  | .hbm, ⟨2, _⟩ => ⟨S3x5x128x1024, .fp8e4m3⟩
  | .hbm, ⟨3, _⟩ => ⟨S3x5x128, .f32⟩
  | .hbm, ⟨4, _⟩ => ⟨S8192x1024, .fp8e4m3⟩
  | .hbm, ⟨5, _⟩ => ⟨S8192, .f32⟩
  | .hbm, ⟨6, _⟩ => ⟨S8192, .f32⟩
  | .hbm, ⟨7, _⟩ => ⟨S5x5x128x1024, .fp8e4m3⟩
  | .hbm, ⟨8, _⟩ => ⟨S5x640x1024, .fp8e4m3⟩
  | .hbm, ⟨9, _⟩ => ⟨S5x5x128, .f32⟩
  | .hbm, ⟨10, _⟩ => ⟨S1x8192, .f32⟩
  | .hbm, ⟨11, _⟩ => ⟨S1x8192, .f32⟩
  | .hbm, ⟨12, _⟩ => ⟨S2x3, .f32⟩
  | .hbm, ⟨13, _⟩ => ⟨S2x3x5x128, .f32⟩
  | .hbm, ⟨14, _⟩ => ⟨S1x8192, .f32⟩
  | .hbm, ⟨15, _⟩ => ⟨S8192, .f32⟩
  | .local _ .vmem, ⟨0, _⟩ => ⟨S5x640x1024, .fp8e4m3⟩
  | .local _ .vmem, ⟨1, _⟩ => ⟨S5x5x128, .f32⟩
  | .local _ .vmem, ⟨2, _⟩ => ⟨S512x1024, .fp8e4m3⟩
  | .local _ .vmem, ⟨3, _⟩ => ⟨S512x1024, .fp8e4m3⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S2x3, .f32⟩
  | .local _ .vmem, ⟨9, _⟩ => ⟨S2x3x5x128, .f32⟩
  | .local _ .vmem, ⟨10, _⟩ => ⟨S1x512, .f32⟩
  | .local _ .vmem, ⟨11, _⟩ => ⟨S1x512, .f32⟩
  | .local _ .vmem, ⟨12, _⟩ => ⟨S5x640x512, .f32⟩
  | .local _ .vmem, ⟨13, _⟩ => ⟨S5x640x128, .f32⟩
  | .local _ .vmem, ⟨14, _⟩ => ⟨S5x640x128, .f32⟩
  | .local _ .vmem, ⟨15, _⟩ => ⟨S5x640x128, .f32⟩
  | .local _ .vmem, ⟨16, _⟩ => ⟨S4x640x128, .f32⟩
  | .local _ .vmem, ⟨17, _⟩ => ⟨S1x512, .f32⟩
  | .local _ .smem, ⟨0, _⟩ => ⟨S5, .i32⟩
  | _, _ => ⟨S2x5x128x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_arg7 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_71 : BitVec 32 := 0#32
  let c80_i32 : BitVec 32 := 80#32
  let v120 : BitVec 32 := Scalar.addi c0_i32_71 c80_i32
  let c1_i32 : BitVec 32 := 1#32
  ⟨c0_i32_71, v120, c1_i32⟩
def k0_mult1 (k0_t1 : Fin k0_t1_loop.trips) : BitVec 32 :=
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  v161
def k0_off1 (k0_t1 : Fin k0_t1_loop.trips) : Fin 3 → Nat :=
  let c0_97 : Index := 0#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v163 : Index := Scalar.indexCast v162
  let c0_98 : Index := 0#32
  ![0, v163.toNat, 0]
def k0_off2 (k0_t1 : Fin k0_t1_loop.trips) : Fin 3 → Nat :=
  let c0_99 : Index := 0#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v166 : Index := Scalar.indexCast v162
  let c0_100 : Index := 0#32
  ![0, v166.toNat, 0]
def k0_off3 (k0_t1 : Fin k0_t1_loop.trips) : Fin 3 → Nat :=
  let c0_106 : Index := 0#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v180 : Index := Scalar.indexCast v162
  let c128_107 : Index := 128#32
  ![0, v180.toNat, 128]
def k0_off4 (k0_t1 : Fin k0_t1_loop.trips) : Fin 3 → Nat :=
  let c0_113 : Index := 0#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v194 : Index := Scalar.indexCast v162
  let c256_114 : Index := 256#32
  ![0, v194.toNat, 256]
def k0_off5 (k0_t1 : Fin k0_t1_loop.trips) : Fin 3 → Nat :=
  let c0_120 : Index := 0#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v208 : Index := Scalar.indexCast v162
  let c384_121 : Index := 384#32
  ![0, v208.toNat, 384]
def k0_off6 (k0_t1 : Fin k0_t1_loop.trips) : Fin 3 → Nat :=
  let c1_127 : Index := 1#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v222 : Index := Scalar.indexCast v162
  let c0_128 : Index := 0#32
  ![1, v222.toNat, 0]
def k0_off7 (k0_t1 : Fin k0_t1_loop.trips) : Fin 3 → Nat :=
  let c1_129 : Index := 1#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v225 : Index := Scalar.indexCast v162
  let c0_130 : Index := 0#32
  ![1, v225.toNat, 0]
def k0_off8 (k0_t1 : Fin k0_t1_loop.trips) : Fin 3 → Nat :=
  let c1_136 : Index := 1#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v239 : Index := Scalar.indexCast v162
  let c128_137 : Index := 128#32
  ![1, v239.toNat, 128]
def k0_off9 (k0_t1 : Fin k0_t1_loop.trips) : Fin 3 → Nat :=
  let c1_143 : Index := 1#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v253 : Index := Scalar.indexCast v162
  let c256_144 : Index := 256#32
  ![1, v253.toNat, 256]
def k0_off10 (k0_t1 : Fin k0_t1_loop.trips) : Fin 3 → Nat :=
  let c1_150 : Index := 1#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v267 : Index := Scalar.indexCast v162
  let c384_151 : Index := 384#32
  ![1, v267.toNat, 384]
def k0_off11 (k0_t1 : Fin k0_t1_loop.trips) : Fin 3 → Nat :=
  let c2_157 : Index := 2#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v281 : Index := Scalar.indexCast v162
  let c0_158 : Index := 0#32
  ![2, v281.toNat, 0]
def k0_off12 (k0_t1 : Fin k0_t1_loop.trips) : Fin 3 → Nat :=
  let c2_159 : Index := 2#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v284 : Index := Scalar.indexCast v162
  let c0_160 : Index := 0#32
  ![2, v284.toNat, 0]
def k0_off13 (k0_t1 : Fin k0_t1_loop.trips) : Fin 3 → Nat :=
  let c2_163 : Index := 2#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v291 : Index := Scalar.indexCast v162
  let c128_164 : Index := 128#32
  ![2, v291.toNat, 128]
def k0_off14 (k0_t1 : Fin k0_t1_loop.trips) : Fin 3 → Nat :=
  let c2_167 : Index := 2#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v298 : Index := Scalar.indexCast v162
  let c256_168 : Index := 256#32
  ![2, v298.toNat, 256]
def k0_off15 (k0_t1 : Fin k0_t1_loop.trips) : Fin 3 → Nat :=
  let c2_171 : Index := 2#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v305 : Index := Scalar.indexCast v162
  let c384_172 : Index := 384#32
  ![2, v305.toNat, 384]
def k0_off16 (k0_t1 : Fin k0_t1_loop.trips) : Fin 3 → Nat :=
  let c3_175 : Index := 3#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v312 : Index := Scalar.indexCast v162
  let c0_176 : Index := 0#32
  ![3, v312.toNat, 0]
def k0_off17 (k0_t1 : Fin k0_t1_loop.trips) : Fin 3 → Nat :=
  let c3_177 : Index := 3#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v315 : Index := Scalar.indexCast v162
  let c0_178 : Index := 0#32
  ![3, v315.toNat, 0]
def k0_off18 (k0_t1 : Fin k0_t1_loop.trips) : Fin 3 → Nat :=
  let c3_181 : Index := 3#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v322 : Index := Scalar.indexCast v162
  let c128_182 : Index := 128#32
  ![3, v322.toNat, 128]
def k0_off19 (k0_t1 : Fin k0_t1_loop.trips) : Fin 3 → Nat :=
  let c3_185 : Index := 3#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v329 : Index := Scalar.indexCast v162
  let c256_186 : Index := 256#32
  ![3, v329.toNat, 256]
def k0_off20 (k0_t1 : Fin k0_t1_loop.trips) : Fin 3 → Nat :=
  let c3_189 : Index := 3#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v336 : Index := Scalar.indexCast v162
  let c384_190 : Index := 384#32
  ![3, v336.toNat, 384]
def k0_off21 (k0_t1 : Fin k0_t1_loop.trips) : Fin 3 → Nat :=
  let c4_193 : Index := 4#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v343 : Index := Scalar.indexCast v162
  let c0_194 : Index := 0#32
  ![4, v343.toNat, 0]
def k0_off22 (k0_t1 : Fin k0_t1_loop.trips) : Fin 3 → Nat :=
  let c4_195 : Index := 4#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v346 : Index := Scalar.indexCast v162
  let c0_196 : Index := 0#32
  ![4, v346.toNat, 0]
def k0_off23 (k0_t1 : Fin k0_t1_loop.trips) : Fin 3 → Nat :=
  let c4_199 : Index := 4#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v353 : Index := Scalar.indexCast v162
  let c128_200 : Index := 128#32
  ![4, v353.toNat, 128]
def k0_off24 (k0_t1 : Fin k0_t1_loop.trips) : Fin 3 → Nat :=
  let c4_203 : Index := 4#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v360 : Index := Scalar.indexCast v162
  let c256_204 : Index := 256#32
  ![4, v360.toNat, 256]
def k0_off25 (k0_t1 : Fin k0_t1_loop.trips) : Fin 3 → Nat :=
  let c4_207 : Index := 4#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v367 : Index := Scalar.indexCast v162
  let c384_208 : Index := 384#32
  ![4, v367.toNat, 384]
def k0_off26 (k0_t1 : Fin k0_t1_loop.trips) : Fin 3 → Nat :=
  let c0_251 : Index := 0#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v546 : Index := Scalar.indexCast v162
  let c0_252 : Index := 0#32
  ![0, v546.toNat, 0]
def k0_off27 (k0_t1 : Fin k0_t1_loop.trips) : Fin 3 → Nat :=
  let c1_255 : Index := 1#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v562 : Index := Scalar.indexCast v162
  let c0_256 : Index := 0#32
  ![1, v562.toNat, 0]
def k0_off28 (k0_t1 : Fin k0_t1_loop.trips) : Fin 3 → Nat :=
  let c2_259 : Index := 2#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v578 : Index := Scalar.indexCast v162
  let c0_260 : Index := 0#32
  ![2, v578.toNat, 0]
def k0_off29 (k0_t1 : Fin k0_t1_loop.trips) : Fin 3 → Nat :=
  let c3_263 : Index := 3#32
  let c0_i32_71 : BitVec 32 := 0#32
  let c1_i32 : BitVec 32 := 1#32
  let arg16 : BitVec 32 := Scf.iv c0_i32_71 c1_i32 k0_t1
  let c8_i32 : BitVec 32 := 8#32
  let v161 : BitVec 32 := Scalar.muli arg16 c8_i32
  let v162 : BitVec 32 := v161
  let v594 : Index := Scalar.indexCast v162
  let c0_264 : Index := 0#32
  ![3, v594.toNat, 0]
def k0_cond2 (i : grid0.Coords) : BitVec 1 :=
  let arg0 : BitVec 32 := BitVec.ofNat 32 (i 0).val
  let c15_i32 : BitVec 32 := 15#32
  let v158 : BitVec 1 := Scalar.cmpi .eq arg0 c15_i32
  let v159 : BitVec 32 := Scalar.extui v158
  let c0_i32_96 : BitVec 32 := 0#32
  let v160 : BitVec 1 := Scalar.cmpi .ne v159 c0_i32_96
  v160

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S5x640x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5x5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x3x5x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "ks" => some (((Real.log 2)⁻¹ * 10 : ℝ) : EReal)
  | "kt" => some (((Real.log 2)⁻¹ * 25 : ℝ) : EReal)
  | "kt2" => some (((Real.log 2)⁻¹ * 50 : ℝ) : EReal)
  | "ln2" => some ((Real.log 2 : ℝ) : EReal)
  | "log2e" => some (((Real.log 2)⁻¹ : ℝ) : EReal)
  | _ => none
-- ==== ReferenceIdeal.lean ====
abbrev S2x5x128x1024 : Shape := ⟨4, ![2, 5, 128, 1024]⟩
abbrev S2x5x128 : Shape := ⟨3, ![2, 5, 128]⟩
abbrev S3x5x128x1024 : Shape := ⟨4, ![3, 5, 128, 1024]⟩
abbrev S3x5x128 : Shape := ⟨3, ![3, 5, 128]⟩
abbrev S8192x1024 : Shape := ⟨2, ![8192, 1024]⟩
abbrev S8192 : Shape := ⟨1, ![8192]⟩
abbrev S5 : Shape := ⟨1, ![5]⟩
abbrev S_ : Shape := ⟨0, ![]⟩
abbrev S2x5x128x8192 : Shape := ⟨4, ![2, 5, 128, 8192]⟩
abbrev S2x5x128x1 : Shape := ⟨4, ![2, 5, 128, 1]⟩
abbrev S1x1x1x8192 : Shape := ⟨4, ![1, 1, 1, 8192]⟩
abbrev S3x5x128x8192 : Shape := ⟨4, ![3, 5, 128, 8192]⟩
abbrev S3x5x128x1 : Shape := ⟨4, ![3, 5, 128, 1]⟩
abbrev S5x128x3x2 : Shape := ⟨4, ![5, 128, 3, 2]⟩
abbrev S2x3x5x128 : Shape := ⟨4, ![2, 3, 5, 128]⟩
abbrev S2x1x5x128 : Shape := ⟨4, ![2, 1, 5, 128]⟩
abbrev S1x3x5x128 : Shape := ⟨4, ![1, 3, 5, 128]⟩
abbrev S128 : Shape := ⟨1, ![128]⟩
abbrev S1x128 : Shape := ⟨2, ![1, 128]⟩
abbrev S5x1 : Shape := ⟨2, ![5, 1]⟩
abbrev S5x128 : Shape := ⟨2, ![5, 128]⟩
abbrev S2 : Shape := ⟨1, ![2]⟩
abbrev S2x1 : Shape := ⟨2, ![2, 1]⟩
abbrev S3 : Shape := ⟨1, ![3]⟩
abbrev S1x3 : Shape := ⟨2, ![1, 3]⟩
abbrev S2x3 : Shape := ⟨2, ![2, 3]⟩
abbrev S2x3x1x1 : Shape := ⟨4, ![2, 3, 1, 1]⟩
abbrev S1x1x5x128 : Shape := ⟨4, ![1, 1, 5, 128]⟩
abbrev S1x5x128x1 : Shape := ⟨4, ![1, 5, 128, 1]⟩

abbrev nBuf : Space → Nat
  | .hbm => 120
  | .vmem => 6
  | .smem => 0
  | _ => 0

abbrev bufTy : (tb : Table) → Fin (tcTables nBuf tb) → BufTy
  | .hbm, ⟨0, _⟩ => ⟨S2x5x128x1024, .fp8e4m3⟩
  | .hbm, ⟨1, _⟩ => ⟨S2x5x128, .f32⟩
  | .hbm, ⟨2, _⟩ => ⟨S3x5x128x1024, .fp8e4m3⟩
  | .hbm, ⟨3, _⟩ => ⟨S3x5x128, .f32⟩
  | .hbm, ⟨4, _⟩ => ⟨S8192x1024, .fp8e4m3⟩
  | .hbm, ⟨5, _⟩ => ⟨S8192, .f32⟩
  | .hbm, ⟨6, _⟩ => ⟨S8192, .f32⟩
  | .hbm, ⟨7, _⟩ => ⟨S5, .i32⟩
  | .hbm, ⟨8, _⟩ => ⟨S2x5x128x1024, .f32⟩
  | .hbm, ⟨9, _⟩ => ⟨S3x5x128x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .i1⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S2x5x128x8192, .f32⟩
  | .hbm, ⟨24, _⟩ => ⟨S2x5x128x1, .f32⟩
  | .hbm, ⟨25, _⟩ => ⟨S2x5x128x8192, .f32⟩
  | .hbm, ⟨26, _⟩ => ⟨S2x5x128x8192, .f32⟩
  | .hbm, ⟨27, _⟩ => ⟨S1x1x1x8192, .f32⟩
  | .hbm, ⟨28, _⟩ => ⟨S2x5x128x8192, .f32⟩
  | .hbm, ⟨29, _⟩ => ⟨S2x5x128x8192, .f32⟩
  | .hbm, ⟨30, _⟩ => ⟨S3x5x128x8192, .f32⟩
  | .hbm, ⟨31, _⟩ => ⟨S3x5x128x1, .f32⟩
  | .hbm, ⟨32, _⟩ => ⟨S3x5x128x8192, .f32⟩
  | .hbm, ⟨33, _⟩ => ⟨S3x5x128x8192, .f32⟩
  | .hbm, ⟨34, _⟩ => ⟨S1x1x1x8192, .f32⟩
  | .hbm, ⟨35, _⟩ => ⟨S3x5x128x8192, .f32⟩
  | .hbm, ⟨36, _⟩ => ⟨S3x5x128x8192, .f32⟩
  | .hbm, ⟨37, _⟩ => ⟨S1x1x1x8192, .f32⟩
  | .hbm, ⟨38, _⟩ => ⟨S2x5x128x8192, .f32⟩
  | .hbm, ⟨39, _⟩ => ⟨S2x5x128x8192, .f32⟩
  | .hbm, ⟨40, _⟩ => ⟨S_, .f32⟩
  | .hbm, ⟨41, _⟩ => ⟨S2x5x128x8192, .f32⟩
  | .hbm, ⟨42, _⟩ => ⟨S2x5x128x8192, .f32⟩
  | .hbm, ⟨43, _⟩ => ⟨S_, .f32⟩
  | .hbm, ⟨44, _⟩ => ⟨S2x5x128, .f32⟩
  | .hbm, ⟨45, _⟩ => ⟨S2x5x128x1, .f32⟩
  | .hbm, ⟨46, _⟩ => ⟨S2x5x128x8192, .f32⟩
  | .hbm, ⟨47, _⟩ => ⟨S2x5x128x8192, .f32⟩
  | .hbm, ⟨48, _⟩ => ⟨S2x5x128x8192, .f32⟩
  | .hbm, ⟨49, _⟩ => ⟨S_, .f32⟩
  | .hbm, ⟨50, _⟩ => ⟨S3x5x128x8192, .f32⟩
  | .hbm, ⟨51, _⟩ => ⟨S3x5x128x8192, .f32⟩
  | .hbm, ⟨52, _⟩ => ⟨S_, .f32⟩
  | .hbm, ⟨53, _⟩ => ⟨S3x5x128, .f32⟩
  | .hbm, ⟨54, _⟩ => ⟨S3x5x128x1, .f32⟩
  | .hbm, ⟨55, _⟩ => ⟨S3x5x128x8192, .f32⟩
  | .hbm, ⟨56, _⟩ => ⟨S3x5x128x8192, .f32⟩
  | .hbm, ⟨57, _⟩ => ⟨S3x5x128x8192, .f32⟩
  | .hbm, ⟨58, _⟩ => ⟨S_, .f32⟩
  | .hbm, ⟨59, _⟩ => ⟨S3x5x128, .f32⟩
  | .hbm, ⟨60, _⟩ => ⟨S3x5x128x1, .f32⟩
  | .hbm, ⟨61, _⟩ => ⟨S3x5x128x1, .f32⟩
  | .hbm, ⟨62, _⟩ => ⟨S3x5x128x1, .f32⟩
  | .hbm, ⟨63, _⟩ => ⟨S3x5x128, .f32⟩
  | .hbm, ⟨64, _⟩ => ⟨S5x128x3x2, .f32⟩
  | .hbm, ⟨65, _⟩ => ⟨S2x3x5x128, .f32⟩
  | .hbm, ⟨66, _⟩ => ⟨S_, .f32⟩
  | .hbm, ⟨67, _⟩ => ⟨S2x5x128, .f32⟩
  | .hbm, ⟨68, _⟩ => ⟨S2x1x5x128, .f32⟩
  | .hbm, ⟨69, _⟩ => ⟨S2x3x5x128, .f32⟩
  | .hbm, ⟨70, _⟩ => ⟨S2x3x5x128, .f32⟩
  | .hbm, ⟨71, _⟩ => ⟨S1x3x5x128, .f32⟩
  | .hbm, ⟨72, _⟩ => ⟨S2x3x5x128, .f32⟩
  | .hbm, ⟨73, _⟩ => ⟨S2x3x5x128, .f32⟩
  | .hbm, ⟨74, _⟩ => ⟨S128, .i32⟩
  | .hbm, ⟨75, _⟩ => ⟨S1x128, .i32⟩
  | .hbm, ⟨76, _⟩ => ⟨S5x1, .i32⟩
  | .hbm, ⟨77, _⟩ => ⟨S5x128, .i32⟩
  | .hbm, ⟨78, _⟩ => ⟨S5x128, .i32⟩
  | .hbm, ⟨79, _⟩ => ⟨S5x128, .i1⟩
  | .hbm, ⟨80, _⟩ => ⟨S2, .i32⟩
  | .hbm, ⟨81, _⟩ => ⟨S2x1, .i32⟩
  | .hbm, ⟨82, _⟩ => ⟨S3, .i32⟩
  | .hbm, ⟨83, _⟩ => ⟨S1x3, .i32⟩
  | .hbm, ⟨84, _⟩ => ⟨S2x3, .i32⟩
  | .hbm, ⟨85, _⟩ => ⟨S2x3, .i32⟩
  | .hbm, ⟨86, _⟩ => ⟨S2x3, .i1⟩
  | .hbm, ⟨87, _⟩ => ⟨S2x3x1x1, .i1⟩
  | .hbm, ⟨88, _⟩ => ⟨S1x1x5x128, .i1⟩
  | .hbm, ⟨89, _⟩ => ⟨S2x3x5x128, .i1⟩
  | .hbm, ⟨90, _⟩ => ⟨S2x3x5x128, .i1⟩
  | .hbm, ⟨91, _⟩ => ⟨S2x3x5x128, .i1⟩
  | .hbm, ⟨92, _⟩ => ⟨S_, .f32⟩
  | .hbm, ⟨93, _⟩ => ⟨S_, .f32⟩
  | .hbm, ⟨94, _⟩ => ⟨S2x3x5x128, .f32⟩
  | .hbm, ⟨95, _⟩ => ⟨S2x3x5x128, .f32⟩
  | .hbm, ⟨96, _⟩ => ⟨S_, .i32⟩
  | .hbm, ⟨97, _⟩ => ⟨S_, .i32⟩
  | .hbm, ⟨98, _⟩ => ⟨S_, .f32⟩
  | .hbm, ⟨99, _⟩ => ⟨S_, .f32⟩
  | .hbm, ⟨100, _⟩ => ⟨S_, .i1⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S2x3, .f32⟩
  | .hbm, ⟨106, _⟩ => ⟨S2x3, .f32⟩
  | .hbm, ⟨107, _⟩ => ⟨S2x3, .f32⟩
  | .hbm, ⟨108, _⟩ => ⟨S1x5x128x1, .i1⟩
  | .hbm, ⟨109, _⟩ => ⟨S_, .f32⟩
  | .hbm, ⟨110, _⟩ => ⟨S_, .f32⟩
  | .hbm, ⟨111, _⟩ => ⟨S2x5x128x8192, .i1⟩
  | .hbm, ⟨112, _⟩ => ⟨S2x5x128x8192, .f32⟩
  | .hbm, ⟨113, _⟩ => ⟨S2x5x128x8192, .f32⟩
  | .hbm, ⟨114, _⟩ => ⟨S_, .f32⟩
  | .hbm, ⟨115, _⟩ => ⟨S8192, .f32⟩
  | .hbm, ⟨116, _⟩ => ⟨S_, .f32⟩
  | .hbm, ⟨117, _⟩ => ⟨S_, .f32⟩
  | .hbm, ⟨118, _⟩ => ⟨S8192, .f32⟩
  | .hbm, ⟨119, _⟩ => ⟨S8192, .f32⟩
  | .local _ .vmem, ⟨0, _⟩ => ⟨S2x5x128x1024, .fp8e4m3⟩
  | .local _ .vmem, ⟨1, _⟩ => ⟨S3x5x128x1024, .fp8e4m3⟩
  | .local _ .vmem, ⟨2, _⟩ => ⟨S8192x1024, .fp8e4m3⟩
  | .local _ .vmem, ⟨3, _⟩ => ⟨S2x5x128x1024, .f32⟩
  | .local _ .vmem, ⟨4, _⟩ => ⟨S3x5x128x1024, .f32⟩
  | .local _ .vmem, ⟨5, _⟩ => ⟨S8192x1024, .f32⟩
  | _, _ => ⟨S2x5x128x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_8 : Ref sig .tc := ⟨.hbm, 92, rfl⟩
abbrev main_call1_v0 : Ref sig .tc := ⟨.hbm, 93, rfl⟩
abbrev main_call1_v1 : Ref sig .tc := ⟨.hbm, 94, rfl⟩
abbrev main_v71 : Ref sig .tc := ⟨.hbm, 95, rfl⟩
abbrev main_c : Ref sig .tc := ⟨.hbm, 96, rfl⟩
abbrev main_v72 : Ref sig .tc := ⟨.hbm, 97, rfl⟩
abbrev main_v73 : Ref sig .tc := ⟨.hbm, 98, rfl⟩
abbrev main_cst_9 : Ref sig .tc := ⟨.hbm, 99, rfl⟩
abbrev main_v74 : Ref sig .tc := ⟨.hbm, 100, rfl⟩
abbrev main_cst_10 : Ref sig .tc := ⟨.hbm, 101, rfl⟩
abbrev main_call2_v0 : Ref sig .tc := ⟨.hbm, 102, rfl⟩
abbrev main_v75 : Ref sig .tc := ⟨.hbm, 103, rfl⟩
abbrev main_cst_11 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_12 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_v80 : Ref sig .tc := ⟨.hbm, 113, rfl⟩
abbrev main_cst_13 : Ref sig .tc := ⟨.hbm, 114, rfl⟩
abbrev main_v81 : Ref sig .tc := ⟨.hbm, 115, rfl⟩
abbrev main_cst_14 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x5x128x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x5x128x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x5x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x5x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Frames.lean ====
/- The claims that need no value: the three frames and the agreement of the kernel's named constants with the
   words they stand for. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- The kernel as it stands ends, leaves its arguments alone and leaves every counter at zero. -/
theorem frame_p : Cert.quiescent_Kernel := fun m ρ _ => Cert.Kernel.Gen.frame m ρ trivial

/-- So does the kernel in exact arithmetic. -/
theorem frame_pi : Cert.quiescent_KernelIdeal := fun m ρ _ => Cert.KernelIdeal.Gen.frame m ρ trivial

/-- So does the reference in exact arithmetic. -/
theorem frame_ri : Cert.quiescent_ReferenceIdeal := fun m ρ _ => Cert.ReferenceIdeal.Gen.frame m ρ

/-- Every named constant of the exact kernel is the number whose rounding the printed word is. -/
theorem preserves : Cert.preserves_Kernel_KernelIdeal :=
  ⟨IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl⟩

end Cert.Proof

end
-- ==== Proof.Trip.lean ====
/- One trip of the kernel's row loop in exact arithmetic: what it leaves in the running maximum, the running sums and
   the partial centre sums, read at one element. -/
module

public import proofs.«01_k».proof.Proof.Gen.KernelIdeal.Frame
public import Idealize.ShloMosaic.Lib.Pointwise
public import Idealize.ShloMosaic.Lib.VecWindow
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The values of one trip -/

/-- Column `128 q + l` of a tile. -/
def col (q : Fin 4) (l : Fin 128) : Fin 512 := ⟨128 * q.val + l.val, by omega⟩

/-- The scaled score of candidate `c`, row `R`, at column `128 q + l` of the tile. -/
def yk (x : Vec Ideal S5x640x512 .f32) (s : Vec Ideal S5x640x128 .f32) (w : Vec Ideal S1x512 .f32)
    (c : Fin 5) (R : Fin 640) (q : Fin 4) (l : Fin 128) : EReal :=
  x (ix3 c R (col q l)) * w (ix2 0 (col q l)) * s (ix3 c R l)

/-- The same, a teacher's less the centre. -/
def zk (x : Vec Ideal S5x640x512 .f32) (s : Vec Ideal S5x640x128 .f32) (w g : Vec Ideal S1x512 .f32)
    (c : Fin 5) (R : Fin 640) (q : Fin 4) (l : Fin 128) : EReal :=
  if c.val < 2 then yk x s w c R q l - g (ix2 0 (col q l)) * (((Real.log 2)⁻¹ * 25 : ℝ) : EReal) else yk x s w c R q l

/-- The running maximum after a trip. -/
def newM (x : Vec Ideal S5x640x512 .f32) (s : Vec Ideal S5x640x128 .f32) (w g : Vec Ideal S1x512 .f32)
    (m : Vec Ideal S5x640x128 .f32) (c : Fin 5) (R : Fin 640) (l : Fin 128) : EReal :=
  max (max (max (max (m (ix3 c R l)) (zk x s w g c R 0 l)) (zk x s w g c R 1 l)) (zk x s w g c R 2 l)) (zk x s w g c R 3 l)

/-- The exponential of one score after a trip. -/
def ek (x : Vec Ideal S5x640x512 .f32) (s : Vec Ideal S5x640x128 .f32) (w g : Vec Ideal S1x512 .f32)
    (m : Vec Ideal S5x640x128 .f32) (c : Fin 5) (R : Fin 640) (q : Fin 4) (l : Fin 128) : EReal :=
  Ideal.exp2 (zk x s w g c R q l - newM x s w g m c R l)

/-- The running sum of exponentials after a trip. -/
def newL (x : Vec Ideal S5x640x512 .f32) (s : Vec Ideal S5x640x128 .f32) (w g : Vec Ideal S1x512 .f32)
    (m t : Vec Ideal S5x640x128 .f32) (c : Fin 5) (R : Fin 640) (l : Fin 128) : EReal :=
  t (ix3 c R l) * Ideal.exp2 (m (ix3 c R l) - newM x s w g m c R l)
    + (((ek x s w g m c R 0 l + ek x s w g m c R 1 l) + ek x s w g m c R 2 l) + ek x s w g m c R 3 l)

/-- The teacher and the student of the four pairs, as candidates. -/
def pT : Fin 4 → Fin 5 := ![0, 0, 1, 1]
def pS : Fin 4 → Fin 5 := ![3, 4, 2, 4]

/-- The running sum of exponentials times student scores after a trip. -/
def newA (x : Vec Ideal S5x640x512 .f32) (s : Vec Ideal S5x640x128 .f32) (w g : Vec Ideal S1x512 .f32)
    (m : Vec Ideal S5x640x128 .f32) (t : Vec Ideal S4x640x128 .f32) (p : Fin 4) (R : Fin 640) (l : Fin 128) : EReal :=
  t (ix3 p R l) * Ideal.exp2 (m (ix3 (pT p) R l) - newM x s w g m (pT p) R l)
    + (((ek x s w g m (pT p) R 0 l * zk x s w g (pS p) R 0 l + ek x s w g m (pT p) R 1 l * zk x s w g (pS p) R 1 l)
      + ek x s w g m (pT p) R 2 l * zk x s w g (pS p) R 2 l) + ek x s w g m (pT p) R 3 l * zk x s w g (pS p) R 3 l)

/-! ## Loads and stores of eight rows -/

section Rows

variable {κ : Kind} {sp : Space} {e : EltTy}

theorem rd3 {A B C a b c : ℕ} (v : View sig κ sp ⟨3, ![A, B, C]⟩ e) (f : v.ty.Contents (Elt Ideal)) {off : Fin 3 → ℕ} {o0 o1 o2 : ℕ}
    (heq : off = ![o0, o1, o2]) (inb) (x : Fin a) (y : Fin b) (z : Fin c) (X : Fin A) (Y : Fin B) (Z : Fin C)
    (hX : X.val = o0 + x.val) (hY : Y.val = o1 + y.val) (hZ : Z.val = o2 + z.val) :
    v.readAt (Elt Ideal) (Rect.unit (s := ⟨3, ![A, B, C]⟩) off ![a, b, c] inb).toLoadRect f (ix3 x y z)
      = v.read (Elt Ideal) f (ix3 X Y Z) := by
  subst heq
  refine congrArg (v.read (Elt Ideal) f) (funext fun i => Fin.ext ?_)
  match i with
  | ⟨0, _⟩ => exact (show o0 + 1 * x.val = X.val by omega)
  | ⟨1, _⟩ => exact (show o1 + 1 * y.val = Y.val by omega)
  | ⟨2, _⟩ => exact (show o2 + 1 * z.val = Z.val by omega)

theorem rd2 {A B a b : ℕ} (v : View sig κ sp ⟨2, ![A, B]⟩ e) (f : v.ty.Contents (Elt Ideal)) {off : Fin 2 → ℕ} {o0 o1 : ℕ}
    (heq : off = ![o0, o1]) (inb) (x : Fin a) (y : Fin b) (X : Fin A) (Y : Fin B)
    (hX : X.val = o0 + x.val) (hY : Y.val = o1 + y.val) :
    v.readAt (Elt Ideal) (Rect.unit (s := ⟨2, ![A, B]⟩) off ![a, b] inb).toLoadRect f (ix2 x y)
      = v.read (Elt Ideal) f (ix2 X Y) := by
  subst heq
  refine congrArg (v.read (Elt Ideal) f) (funext fun i => Fin.ext ?_)
  match i with
  | ⟨0, _⟩ => exact (show o0 + 1 * x.val = X.val by omega)
  | ⟨1, _⟩ => exact (show o1 + 1 * y.val = Y.val by omega)

/-- A piece of eight rows of one plane, read inside it. -/
theorem wr_mem {n : ℕ} (v : View sig κ sp ⟨3, ![n, 640, 128]⟩ e) (f : v.ty.Contents (Elt Ideal)) {off : Fin 3 → ℕ} {c k : ℕ}
    (heq : off = ![c, 8 * k, 0]) (inb) (w : Vec Ideal ⟨3, ![1, 8, 128]⟩ e) (T : List (View.Piece (Elt Ideal) ⟨3, ![n, 640, 128]⟩ e))
    (C : Fin n) (R : Fin 640) (l : Fin 128) (r : Fin 8) (hC : C.val = c) (hR : R.val = 8 * k + r.val) :
    v.read (Elt Ideal) (v.writes (Elt Ideal) f ((⟨Rect.unit (s := ⟨3, ![n, 640, 128]⟩) off ![1, 8, 128] inb, w⟩ : View.Piece (Elt Ideal) ⟨3, ![n, 640, 128]⟩ e) :: T)) (ix3 C R l)
      = w (ix3 0 r l) := by
  refine View.read_writes_cons_unit_of_mem v f inb w T (ix3 C R l) (ix3 0 r l) heq fun a => ?_
  match a with
  | ⟨0, _⟩ => exact hC
  | ⟨1, _⟩ => exact hR
  | ⟨2, _⟩ => exact (Nat.zero_add _).symm

/-- The same piece, read in another plane. -/
theorem wr_plane {n : ℕ} (v : View sig κ sp ⟨3, ![n, 640, 128]⟩ e) (f : v.ty.Contents (Elt Ideal)) {off : Fin 3 → ℕ} {c k : ℕ}
    (heq : off = ![c, 8 * k, 0]) (inb) (w : Vec Ideal ⟨3, ![1, 8, 128]⟩ e) (T : List (View.Piece (Elt Ideal) ⟨3, ![n, 640, 128]⟩ e))
    (C : Fin n) (R : Fin 640) (l : Fin 128) (hC : C.val ≠ c) :
    v.read (Elt Ideal) (v.writes (Elt Ideal) f ((⟨Rect.unit (s := ⟨3, ![n, 640, 128]⟩) off ![1, 8, 128] inb, w⟩ : View.Piece (Elt Ideal) ⟨3, ![n, 640, 128]⟩ e) :: T)) (ix3 C R l)
      = v.read (Elt Ideal) (v.writes (Elt Ideal) f T) (ix3 C R l) :=
  View.read_writes_cons_unit_of_not_mem v f inb w T (ix3 C R l) heq 0 (show C.val < c ∨ c + 1 ≤ C.val by omega)

/-- The same piece, read at another row. -/
theorem wr_row {n : ℕ} (v : View sig κ sp ⟨3, ![n, 640, 128]⟩ e) (f : v.ty.Contents (Elt Ideal)) {off : Fin 3 → ℕ} {c k : ℕ}
    (heq : off = ![c, 8 * k, 0]) (inb) (w : Vec Ideal ⟨3, ![1, 8, 128]⟩ e) (T : List (View.Piece (Elt Ideal) ⟨3, ![n, 640, 128]⟩ e))
    (C : Fin n) (R : Fin 640) (l : Fin 128) (hR : R.val < 8 * k ∨ 8 * k + 8 ≤ R.val) :
    v.read (Elt Ideal) (v.writes (Elt Ideal) f ((⟨Rect.unit (s := ⟨3, ![n, 640, 128]⟩) off ![1, 8, 128] inb, w⟩ : View.Piece (Elt Ideal) ⟨3, ![n, 640, 128]⟩ e) :: T)) (ix3 C R l)
      = v.read (Elt Ideal) (v.writes (Elt Ideal) f T) (ix3 C R l) :=
  View.read_writes_cons_unit_of_not_mem v f inb w T (ix3 C R l) heq 1 hR

end Rows

theorem kt_named : (Named.named κ "kt" 1108362494#32 : Ideal .f32) = (((Real.log 2)⁻¹ * 25 : ℝ) : EReal) := rfl

/-- Every load of the trip, at one element of its eight rows. -/
theorem loads (k : Fin k0_t1_loop.trips) (r : Fin 8) (l : Fin 128) (R : Fin 640) (hR : R.val = 8 * k.val + r.val) :
    (∀ {κ : Kind} {sp : Space} (v : View sig κ sp S5x640x128 .f32) (f : v.ty.Contents (Elt Ideal)) inb, v.readAt (Elt Ideal) (Rect.unit (s := S5x640x128) (k0_off1 k) ![1, 8, 128] inb).toLoadRect f (ix3 0 r l) = v.read (Elt Ideal) f (ix3 0 R l))
    ∧ (∀ {κ : Kind} {sp : Space} (v : View sig κ sp S5x640x512 .f32) (f : v.ty.Contents (Elt Ideal)) inb, v.readAt (Elt Ideal) (Rect.unit (s := S5x640x512) (k0_off2 k) ![1, 8, 128] inb).toLoadRect f (ix3 0 r l) = v.read (Elt Ideal) f (ix3 0 R (col 0 l)))
    ∧ (∀ {κ : Kind} {sp : Space} (v : View sig κ sp S5x640x512 .f32) (f : v.ty.Contents (Elt Ideal)) inb, v.readAt (Elt Ideal) (Rect.unit (s := S5x640x512) (k0_off3 k) ![1, 8, 128] inb).toLoadRect f (ix3 0 r l) = v.read (Elt Ideal) f (ix3 0 R (col 1 l)))
    ∧ (∀ {κ : Kind} {sp : Space} (v : View sig κ sp S5x640x512 .f32) (f : v.ty.Contents (Elt Ideal)) inb, v.readAt (Elt Ideal) (Rect.unit (s := S5x640x512) (k0_off4 k) ![1, 8, 128] inb).toLoadRect f (ix3 0 r l) = v.read (Elt Ideal) f (ix3 0 R (col 2 l)))
    ∧ (∀ {κ : Kind} {sp : Space} (v : View sig κ sp S5x640x512 .f32) (f : v.ty.Contents (Elt Ideal)) inb, v.readAt (Elt Ideal) (Rect.unit (s := S5x640x512) (k0_off5 k) ![1, 8, 128] inb).toLoadRect f (ix3 0 r l) = v.read (Elt Ideal) f (ix3 0 R (col 3 l)))
    ∧ (∀ {κ : Kind} {sp : Space} (v : View sig κ sp S5x640x128 .f32) (f : v.ty.Contents (Elt Ideal)) inb, v.readAt (Elt Ideal) (Rect.unit (s := S5x640x128) (k0_off6 k) ![1, 8, 128] inb).toLoadRect f (ix3 0 r l) = v.read (Elt Ideal) f (ix3 1 R l))
    ∧ (∀ {κ : Kind} {sp : Space} (v : View sig κ sp S5x640x512 .f32) (f : v.ty.Contents (Elt Ideal)) inb, v.readAt (Elt Ideal) (Rect.unit (s := S5x640x512) (k0_off7 k) ![1, 8, 128] inb).toLoadRect f (ix3 0 r l) = v.read (Elt Ideal) f (ix3 1 R (col 0 l)))
    ∧ (∀ {κ : Kind} {sp : Space} (v : View sig κ sp S5x640x512 .f32) (f : v.ty.Contents (Elt Ideal)) inb, v.readAt (Elt Ideal) (Rect.unit (s := S5x640x512) (k0_off8 k) ![1, 8, 128] inb).toLoadRect f (ix3 0 r l) = v.read (Elt Ideal) f (ix3 1 R (col 1 l)))
    ∧ (∀ {κ : Kind} {sp : Space} (v : View sig κ sp S5x640x512 .f32) (f : v.ty.Contents (Elt Ideal)) inb, v.readAt (Elt Ideal) (Rect.unit (s := S5x640x512) (k0_off9 k) ![1, 8, 128] inb).toLoadRect f (ix3 0 r l) = v.read (Elt Ideal) f (ix3 1 R (col 2 l)))
    ∧ (∀ {κ : Kind} {sp : Space} (v : View sig κ sp S5x640x512 .f32) (f : v.ty.Contents (Elt Ideal)) inb, v.readAt (Elt Ideal) (Rect.unit (s := S5x640x512) (k0_off10 k) ![1, 8, 128] inb).toLoadRect f (ix3 0 r l) = v.read (Elt Ideal) f (ix3 1 R (col 3 l)))
    ∧ (∀ {κ : Kind} {sp : Space} (v : View sig κ sp S5x640x128 .f32) (f : v.ty.Contents (Elt Ideal)) inb, v.readAt (Elt Ideal) (Rect.unit (s := S5x640x128) (k0_off11 k) ![1, 8, 128] inb).toLoadRect f (ix3 0 r l) = v.read (Elt Ideal) f (ix3 2 R l))
    ∧ (∀ {κ : Kind} {sp : Space} (v : View sig κ sp S5x640x512 .f32) (f : v.ty.Contents (Elt Ideal)) inb, v.readAt (Elt Ideal) (Rect.unit (s := S5x640x512) (k0_off12 k) ![1, 8, 128] inb).toLoadRect f (ix3 0 r l) = v.read (Elt Ideal) f (ix3 2 R (col 0 l)))
    ∧ (∀ {κ : Kind} {sp : Space} (v : View sig κ sp S5x640x512 .f32) (f : v.ty.Contents (Elt Ideal)) inb, v.readAt (Elt Ideal) (Rect.unit (s := S5x640x512) (k0_off13 k) ![1, 8, 128] inb).toLoadRect f (ix3 0 r l) = v.read (Elt Ideal) f (ix3 2 R (col 1 l)))
    ∧ (∀ {κ : Kind} {sp : Space} (v : View sig κ sp S5x640x512 .f32) (f : v.ty.Contents (Elt Ideal)) inb, v.readAt (Elt Ideal) (Rect.unit (s := S5x640x512) (k0_off14 k) ![1, 8, 128] inb).toLoadRect f (ix3 0 r l) = v.read (Elt Ideal) f (ix3 2 R (col 2 l)))
    ∧ (∀ {κ : Kind} {sp : Space} (v : View sig κ sp S5x640x512 .f32) (f : v.ty.Contents (Elt Ideal)) inb, v.readAt (Elt Ideal) (Rect.unit (s := S5x640x512) (k0_off15 k) ![1, 8, 128] inb).toLoadRect f (ix3 0 r l) = v.read (Elt Ideal) f (ix3 2 R (col 3 l)))
    ∧ (∀ {κ : Kind} {sp : Space} (v : View sig κ sp S5x640x128 .f32) (f : v.ty.Contents (Elt Ideal)) inb, v.readAt (Elt Ideal) (Rect.unit (s := S5x640x128) (k0_off16 k) ![1, 8, 128] inb).toLoadRect f (ix3 0 r l) = v.read (Elt Ideal) f (ix3 3 R l))
    ∧ (∀ {κ : Kind} {sp : Space} (v : View sig κ sp S5x640x512 .f32) (f : v.ty.Contents (Elt Ideal)) inb, v.readAt (Elt Ideal) (Rect.unit (s := S5x640x512) (k0_off17 k) ![1, 8, 128] inb).toLoadRect f (ix3 0 r l) = v.read (Elt Ideal) f (ix3 3 R (col 0 l)))
    ∧ (∀ {κ : Kind} {sp : Space} (v : View sig κ sp S5x640x512 .f32) (f : v.ty.Contents (Elt Ideal)) inb, v.readAt (Elt Ideal) (Rect.unit (s := S5x640x512) (k0_off18 k) ![1, 8, 128] inb).toLoadRect f (ix3 0 r l) = v.read (Elt Ideal) f (ix3 3 R (col 1 l)))
    ∧ (∀ {κ : Kind} {sp : Space} (v : View sig κ sp S5x640x512 .f32) (f : v.ty.Contents (Elt Ideal)) inb, v.readAt (Elt Ideal) (Rect.unit (s := S5x640x512) (k0_off19 k) ![1, 8, 128] inb).toLoadRect f (ix3 0 r l) = v.read (Elt Ideal) f (ix3 3 R (col 2 l)))
    ∧ (∀ {κ : Kind} {sp : Space} (v : View sig κ sp S5x640x512 .f32) (f : v.ty.Contents (Elt Ideal)) inb, v.readAt (Elt Ideal) (Rect.unit (s := S5x640x512) (k0_off20 k) ![1, 8, 128] inb).toLoadRect f (ix3 0 r l) = v.read (Elt Ideal) f (ix3 3 R (col 3 l)))
    ∧ (∀ {κ : Kind} {sp : Space} (v : View sig κ sp S5x640x128 .f32) (f : v.ty.Contents (Elt Ideal)) inb, v.readAt (Elt Ideal) (Rect.unit (s := S5x640x128) (k0_off21 k) ![1, 8, 128] inb).toLoadRect f (ix3 0 r l) = v.read (Elt Ideal) f (ix3 4 R l))
    ∧ (∀ {κ : Kind} {sp : Space} (v : View sig κ sp S5x640x512 .f32) (f : v.ty.Contents (Elt Ideal)) inb, v.readAt (Elt Ideal) (Rect.unit (s := S5x640x512) (k0_off22 k) ![1, 8, 128] inb).toLoadRect f (ix3 0 r l) = v.read (Elt Ideal) f (ix3 4 R (col 0 l)))
    ∧ (∀ {κ : Kind} {sp : Space} (v : View sig κ sp S5x640x512 .f32) (f : v.ty.Contents (Elt Ideal)) inb, v.readAt (Elt Ideal) (Rect.unit (s := S5x640x512) (k0_off23 k) ![1, 8, 128] inb).toLoadRect f (ix3 0 r l) = v.read (Elt Ideal) f (ix3 4 R (col 1 l)))
    ∧ (∀ {κ : Kind} {sp : Space} (v : View sig κ sp S5x640x512 .f32) (f : v.ty.Contents (Elt Ideal)) inb, v.readAt (Elt Ideal) (Rect.unit (s := S5x640x512) (k0_off24 k) ![1, 8, 128] inb).toLoadRect f (ix3 0 r l) = v.read (Elt Ideal) f (ix3 4 R (col 2 l)))
    ∧ (∀ {κ : Kind} {sp : Space} (v : View sig κ sp S5x640x512 .f32) (f : v.ty.Contents (Elt Ideal)) inb, v.readAt (Elt Ideal) (Rect.unit (s := S5x640x512) (k0_off25 k) ![1, 8, 128] inb).toLoadRect f (ix3 0 r l) = v.read (Elt Ideal) f (ix3 4 R (col 3 l)))
    ∧ (∀ {κ : Kind} {sp : Space} (v : View sig κ sp S4x640x128 .f32) (f : v.ty.Contents (Elt Ideal)) inb, v.readAt (Elt Ideal) (Rect.unit (s := S4x640x128) (k0_off26 k) ![1, 8, 128] inb).toLoadRect f (ix3 0 r l) = v.read (Elt Ideal) f (ix3 0 R l))
    ∧ (∀ {κ : Kind} {sp : Space} (v : View sig κ sp S4x640x128 .f32) (f : v.ty.Contents (Elt Ideal)) inb, v.readAt (Elt Ideal) (Rect.unit (s := S4x640x128) (k0_off27 k) ![1, 8, 128] inb).toLoadRect f (ix3 0 r l) = v.read (Elt Ideal) f (ix3 1 R l))
    ∧ (∀ {κ : Kind} {sp : Space} (v : View sig κ sp S4x640x128 .f32) (f : v.ty.Contents (Elt Ideal)) inb, v.readAt (Elt Ideal) (Rect.unit (s := S4x640x128) (k0_off28 k) ![1, 8, 128] inb).toLoadRect f (ix3 0 r l) = v.read (Elt Ideal) f (ix3 2 R l))
    ∧ (∀ {κ : Kind} {sp : Space} (v : View sig κ sp S4x640x128 .f32) (f : v.ty.Contents (Elt Ideal)) inb, v.readAt (Elt Ideal) (Rect.unit (s := S4x640x128) (k0_off29 k) ![1, 8, 128] inb).toLoadRect f (ix3 0 r l) = v.read (Elt Ideal) f (ix3 3 R l))
    ∧ (∀ {κ : Kind} {sp : Space} (v : View sig κ sp S1x512 .f32) (f : v.ty.Contents (Elt Ideal)) inb, v.readAt (Elt Ideal) (Rect.unit (s := S1x512) ![0, 0] ![1, 128] inb).toLoadRect f (ix2 0 l) = v.read (Elt Ideal) f (ix2 0 (col 0 l)))
    ∧ (∀ {κ : Kind} {sp : Space} (v : View sig κ sp S1x512 .f32) (f : v.ty.Contents (Elt Ideal)) inb, v.readAt (Elt Ideal) (Rect.unit (s := S1x512) ![0, 128] ![1, 128] inb).toLoadRect f (ix2 0 l) = v.read (Elt Ideal) f (ix2 0 (col 1 l)))
    ∧ (∀ {κ : Kind} {sp : Space} (v : View sig κ sp S1x512 .f32) (f : v.ty.Contents (Elt Ideal)) inb, v.readAt (Elt Ideal) (Rect.unit (s := S1x512) ![0, 256] ![1, 128] inb).toLoadRect f (ix2 0 l) = v.read (Elt Ideal) f (ix2 0 (col 2 l)))
    ∧ (∀ {κ : Kind} {sp : Space} (v : View sig κ sp S1x512 .f32) (f : v.ty.Contents (Elt Ideal)) inb, v.readAt (Elt Ideal) (Rect.unit (s := S1x512) ![0, 384] ![1, 128] inb).toLoadRect f (ix2 0 l) = v.read (Elt Ideal) f (ix2 0 (col 3 l))) :=
  ⟨fun v f inb => rd3 v f (k0_off1_eq k) inb (0 : Fin 1) r l (0 : Fin 5) R l rfl hR (Nat.zero_add _).symm,
    fun v f inb => rd3 v f (k0_off2_eq k) inb (0 : Fin 1) r l (0 : Fin 5) R (col 0 l) rfl hR (by simp [col]),
    fun v f inb => rd3 v f (k0_off3_eq k) inb (0 : Fin 1) r l (0 : Fin 5) R (col 1 l) rfl hR (by simp [col]),
    fun v f inb => rd3 v f (k0_off4_eq k) inb (0 : Fin 1) r l (0 : Fin 5) R (col 2 l) rfl hR (by simp [col]),
    fun v f inb => rd3 v f (k0_off5_eq k) inb (0 : Fin 1) r l (0 : Fin 5) R (col 3 l) rfl hR (by simp [col]),
    fun v f inb => rd3 v f (k0_off6_eq k) inb (0 : Fin 1) r l (1 : Fin 5) R l rfl hR (Nat.zero_add _).symm,
    fun v f inb => rd3 v f (k0_off7_eq k) inb (0 : Fin 1) r l (1 : Fin 5) R (col 0 l) rfl hR (by simp [col]),
    fun v f inb => rd3 v f (k0_off8_eq k) inb (0 : Fin 1) r l (1 : Fin 5) R (col 1 l) rfl hR (by simp [col]),
    fun v f inb => rd3 v f (k0_off9_eq k) inb (0 : Fin 1) r l (1 : Fin 5) R (col 2 l) rfl hR (by simp [col]),
    fun v f inb => rd3 v f (k0_off10_eq k) inb (0 : Fin 1) r l (1 : Fin 5) R (col 3 l) rfl hR (by simp [col]),
    fun v f inb => rd3 v f (k0_off11_eq k) inb (0 : Fin 1) r l (2 : Fin 5) R l rfl hR (Nat.zero_add _).symm,
    fun v f inb => rd3 v f (k0_off12_eq k) inb (0 : Fin 1) r l (2 : Fin 5) R (col 0 l) rfl hR (by simp [col]),
    fun v f inb => rd3 v f (k0_off13_eq k) inb (0 : Fin 1) r l (2 : Fin 5) R (col 1 l) rfl hR (by simp [col]),
    fun v f inb => rd3 v f (k0_off14_eq k) inb (0 : Fin 1) r l (2 : Fin 5) R (col 2 l) rfl hR (by simp [col]),
    fun v f inb => rd3 v f (k0_off15_eq k) inb (0 : Fin 1) r l (2 : Fin 5) R (col 3 l) rfl hR (by simp [col]),
    fun v f inb => rd3 v f (k0_off16_eq k) inb (0 : Fin 1) r l (3 : Fin 5) R l rfl hR (Nat.zero_add _).symm,
    fun v f inb => rd3 v f (k0_off17_eq k) inb (0 : Fin 1) r l (3 : Fin 5) R (col 0 l) rfl hR (by simp [col]),
    fun v f inb => rd3 v f (k0_off18_eq k) inb (0 : Fin 1) r l (3 : Fin 5) R (col 1 l) rfl hR (by simp [col]),
    fun v f inb => rd3 v f (k0_off19_eq k) inb (0 : Fin 1) r l (3 : Fin 5) R (col 2 l) rfl hR (by simp [col]),
    fun v f inb => rd3 v f (k0_off20_eq k) inb (0 : Fin 1) r l (3 : Fin 5) R (col 3 l) rfl hR (by simp [col]),
    fun v f inb => rd3 v f (k0_off21_eq k) inb (0 : Fin 1) r l (4 : Fin 5) R l rfl hR (Nat.zero_add _).symm,
    fun v f inb => rd3 v f (k0_off22_eq k) inb (0 : Fin 1) r l (4 : Fin 5) R (col 0 l) rfl hR (by simp [col]),
    fun v f inb => rd3 v f (k0_off23_eq k) inb (0 : Fin 1) r l (4 : Fin 5) R (col 1 l) rfl hR (by simp [col]),
    fun v f inb => rd3 v f (k0_off24_eq k) inb (0 : Fin 1) r l (4 : Fin 5) R (col 2 l) rfl hR (by simp [col]),
    fun v f inb => rd3 v f (k0_off25_eq k) inb (0 : Fin 1) r l (4 : Fin 5) R (col 3 l) rfl hR (by simp [col]),
    fun v f inb => rd3 v f (k0_off26_eq k) inb (0 : Fin 1) r l (0 : Fin 4) R l rfl hR (Nat.zero_add _).symm,
    fun v f inb => rd3 v f (k0_off27_eq k) inb (0 : Fin 1) r l (1 : Fin 4) R l rfl hR (Nat.zero_add _).symm,
    fun v f inb => rd3 v f (k0_off28_eq k) inb (0 : Fin 1) r l (2 : Fin 4) R l rfl hR (Nat.zero_add _).symm,
    fun v f inb => rd3 v f (k0_off29_eq k) inb (0 : Fin 1) r l (3 : Fin 4) R l rfl hR (Nat.zero_add _).symm,
    fun v f inb => rd2 v f (off := ![0, 0]) rfl inb (0 : Fin 1) l (0 : Fin 1) (col 0 l) rfl (by simp [col]),
    fun v f inb => rd2 v f (off := ![0, 128]) rfl inb (0 : Fin 1) l (0 : Fin 1) (col 1 l) rfl (by simp [col]),
    fun v f inb => rd2 v f (off := ![0, 256]) rfl inb (0 : Fin 1) l (0 : Fin 1) (col 2 l) rfl (by simp [col]),
    fun v f inb => rd2 v f (off := ![0, 384]) rfl inb (0 : Fin 1) l (0 : Fin 1) (col 3 l) rfl (by simp [col])⟩

/-! ## The trip -/

set_option maxHeartbeats 2000000 in
/-- Inside the trip's eight rows. -/
theorem trip_m (𝒱 : Variants) (c : Dev nD) (bd : Option 𝒱.V) (i : grid0.Coords) (arg1 : Memref sig .tc .smem S5 .i32) (harg1 : arg1.IsWhole) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (v105 : FVec Ideal S640x512 .f32) (X_arg6 : BufTy.Contents (Elt Ideal) arg6.view.ty) (X_arg10 : BufTy.Contents (Elt Ideal) arg10.view.ty) (X_arg11 : BufTy.Contents (Elt Ideal) arg11.view.ty) (X_arg15 : BufTy.Contents (Elt Ideal) arg15.view.ty) (k : Fin k0_t1_loop.trips) (acc : FVec Ideal S8x128 .f32 × FVec Ideal S8x128 .f32 × FVec Ideal S8x128 .f32 × FVec Ideal S8x128 .f32) (f_arg12 : BufTy.Contents (Elt Ideal) arg12.view.ty) (f_arg13 : BufTy.Contents (Elt Ideal) arg13.view.ty) (f_arg14 : BufTy.Contents (Elt Ideal) arg14.view.ty)
    (r : Fin 8) (l : Fin 128) (R : Fin 640) (hR : R.val = 8 * k.val + r.val) (C : Fin 5) :
    arg12.view.read (Elt Ideal) (arg12.view.writes (Elt Ideal) f_arg12 (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 k acc f_arg12 f_arg13 f_arg14).1) (ix3 C R l)
      = newM (arg10.view.read (Elt Ideal) X_arg10) (arg11.view.read (Elt Ideal) X_arg11) (arg15.view.read (Elt Ideal) X_arg15) (arg6.view.read (Elt Ideal) X_arg6) (arg12.view.read (Elt Ideal) f_arg12) C R l := by
  unfold tripL_k0_t1 trip_k0_t1
  dsimp only
  obtain rfl | h0 := eq_or_ne C 0
  · rw [wr_plane _ _ (k0_off21_eq k) _ _ _ _ _ _ (by decide)]
    rw [wr_plane _ _ (k0_off16_eq k) _ _ _ _ _ _ (by decide)]
    rw [wr_plane _ _ (k0_off11_eq k) _ _ _ _ _ _ (by decide)]
    rw [wr_plane _ _ (k0_off6_eq k) _ _ _ _ _ _ (by decide)]
    rw [wr_mem _ _ (k0_off1_eq k) _ _ _ _ _ _ r rfl hR]
    have LD := loads k r l R hR
    sl_unfold_run_names
    unfold_payloads
    dsimp only
    pointwise [newM, newL, newA, ek, zk, yk, pT, pS]
    simp only [kt_named, LD] <;> rfl
  obtain rfl | h1 := eq_or_ne C 1
  · rw [wr_plane _ _ (k0_off21_eq k) _ _ _ _ _ _ (by decide)]
    rw [wr_plane _ _ (k0_off16_eq k) _ _ _ _ _ _ (by decide)]
    rw [wr_plane _ _ (k0_off11_eq k) _ _ _ _ _ _ (by decide)]
    rw [wr_mem _ _ (k0_off6_eq k) _ _ _ _ _ _ r rfl hR]
    have LD := loads k r l R hR
    sl_unfold_run_names
    unfold_payloads
    dsimp only
    pointwise [newM, newL, newA, ek, zk, yk, pT, pS]
    simp only [kt_named, LD] <;> rfl
  obtain rfl | h2 := eq_or_ne C 2
  · rw [wr_plane _ _ (k0_off21_eq k) _ _ _ _ _ _ (by decide)]
    rw [wr_plane _ _ (k0_off16_eq k) _ _ _ _ _ _ (by decide)]
    rw [wr_mem _ _ (k0_off11_eq k) _ _ _ _ _ _ r rfl hR]
    have LD := loads k r l R hR
    sl_unfold_run_names
    unfold_payloads
    dsimp only
    pointwise [newM, newL, newA, ek, zk, yk, pT, pS]
    simp only [kt_named, LD] <;> rfl
  obtain rfl | h3 := eq_or_ne C 3
  · rw [wr_plane _ _ (k0_off21_eq k) _ _ _ _ _ _ (by decide)]
    rw [wr_mem _ _ (k0_off16_eq k) _ _ _ _ _ _ r rfl hR]
    have LD := loads k r l R hR
    sl_unfold_run_names
    unfold_payloads
    dsimp only
    pointwise [newM, newL, newA, ek, zk, yk, pT, pS]
    simp only [kt_named, LD] <;> rfl
  obtain rfl | h4 := eq_or_ne C 4
  · rw [wr_mem _ _ (k0_off21_eq k) _ _ _ _ _ _ r rfl hR]
    have LD := loads k r l R hR
    sl_unfold_run_names
    unfold_payloads
    dsimp only
    pointwise [newM, newL, newA, ek, zk, yk, pT, pS]
    simp only [kt_named, LD] <;> rfl
  omega

/-- Outside them nothing changes. -/
theorem trip_m_out (𝒱 : Variants) (c : Dev nD) (bd : Option 𝒱.V) (i : grid0.Coords) (arg1 : Memref sig .tc .smem S5 .i32) (harg1 : arg1.IsWhole) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (v105 : FVec Ideal S640x512 .f32) (X_arg6 : BufTy.Contents (Elt Ideal) arg6.view.ty) (X_arg10 : BufTy.Contents (Elt Ideal) arg10.view.ty) (X_arg11 : BufTy.Contents (Elt Ideal) arg11.view.ty) (X_arg15 : BufTy.Contents (Elt Ideal) arg15.view.ty) (k : Fin k0_t1_loop.trips) (acc : FVec Ideal S8x128 .f32 × FVec Ideal S8x128 .f32 × FVec Ideal S8x128 .f32 × FVec Ideal S8x128 .f32) (f_arg12 : BufTy.Contents (Elt Ideal) arg12.view.ty) (f_arg13 : BufTy.Contents (Elt Ideal) arg13.view.ty) (f_arg14 : BufTy.Contents (Elt Ideal) arg14.view.ty)
    (l : Fin 128) (R : Fin 640) (hR : R.val < 8 * k.val ∨ 8 * k.val + 8 ≤ R.val) (C : Fin 5) :
    arg12.view.read (Elt Ideal) (arg12.view.writes (Elt Ideal) f_arg12 (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 k acc f_arg12 f_arg13 f_arg14).1) (ix3 C R l)
      = arg12.view.read (Elt Ideal) f_arg12 (ix3 C R l) := by
  unfold tripL_k0_t1 trip_k0_t1
  dsimp only
  rw [wr_row _ _ (k0_off21_eq k) _ _ _ _ _ _ hR, wr_row _ _ (k0_off16_eq k) _ _ _ _ _ _ hR, wr_row _ _ (k0_off11_eq k) _ _ _ _ _ _ hR, wr_row _ _ (k0_off6_eq k) _ _ _ _ _ _ hR, wr_row _ _ (k0_off1_eq k) _ _ _ _ _ _ hR]
  rfl

set_option maxHeartbeats 2000000 in
/-- Inside the trip's eight rows. -/
theorem trip_l (𝒱 : Variants) (c : Dev nD) (bd : Option 𝒱.V) (i : grid0.Coords) (arg1 : Memref sig .tc .smem S5 .i32) (harg1 : arg1.IsWhole) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (v105 : FVec Ideal S640x512 .f32) (X_arg6 : BufTy.Contents (Elt Ideal) arg6.view.ty) (X_arg10 : BufTy.Contents (Elt Ideal) arg10.view.ty) (X_arg11 : BufTy.Contents (Elt Ideal) arg11.view.ty) (X_arg15 : BufTy.Contents (Elt Ideal) arg15.view.ty) (k : Fin k0_t1_loop.trips) (acc : FVec Ideal S8x128 .f32 × FVec Ideal S8x128 .f32 × FVec Ideal S8x128 .f32 × FVec Ideal S8x128 .f32) (f_arg12 : BufTy.Contents (Elt Ideal) arg12.view.ty) (f_arg13 : BufTy.Contents (Elt Ideal) arg13.view.ty) (f_arg14 : BufTy.Contents (Elt Ideal) arg14.view.ty)
    (r : Fin 8) (l : Fin 128) (R : Fin 640) (hR : R.val = 8 * k.val + r.val) (C : Fin 5) :
    arg13.view.read (Elt Ideal) (arg13.view.writes (Elt Ideal) f_arg13 (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 k acc f_arg12 f_arg13 f_arg14).2.1) (ix3 C R l)
      = newL (arg10.view.read (Elt Ideal) X_arg10) (arg11.view.read (Elt Ideal) X_arg11) (arg15.view.read (Elt Ideal) X_arg15) (arg6.view.read (Elt Ideal) X_arg6) (arg12.view.read (Elt Ideal) f_arg12) (arg13.view.read (Elt Ideal) f_arg13) C R l := by
  unfold tripL_k0_t1 trip_k0_t1
  dsimp only
  obtain rfl | h0 := eq_or_ne C 0
  · rw [wr_plane _ _ (k0_off21_eq k) _ _ _ _ _ _ (by decide)]
    rw [wr_plane _ _ (k0_off16_eq k) _ _ _ _ _ _ (by decide)]
    rw [wr_plane _ _ (k0_off11_eq k) _ _ _ _ _ _ (by decide)]
    rw [wr_plane _ _ (k0_off6_eq k) _ _ _ _ _ _ (by decide)]
    rw [wr_mem _ _ (k0_off1_eq k) _ _ _ _ _ _ r rfl hR]
    have LD := loads k r l R hR
    sl_unfold_run_names
    unfold_payloads
    dsimp only
    pointwise [newM, newL, newA, ek, zk, yk, pT, pS]
    simp only [kt_named, LD] <;> rfl
  obtain rfl | h1 := eq_or_ne C 1
  · rw [wr_plane _ _ (k0_off21_eq k) _ _ _ _ _ _ (by decide)]
    rw [wr_plane _ _ (k0_off16_eq k) _ _ _ _ _ _ (by decide)]
    rw [wr_plane _ _ (k0_off11_eq k) _ _ _ _ _ _ (by decide)]
    rw [wr_mem _ _ (k0_off6_eq k) _ _ _ _ _ _ r rfl hR]
    have LD := loads k r l R hR
    sl_unfold_run_names
    unfold_payloads
    dsimp only
    pointwise [newM, newL, newA, ek, zk, yk, pT, pS]
    simp only [kt_named, LD] <;> rfl
  obtain rfl | h2 := eq_or_ne C 2
  · rw [wr_plane _ _ (k0_off21_eq k) _ _ _ _ _ _ (by decide)]
    rw [wr_plane _ _ (k0_off16_eq k) _ _ _ _ _ _ (by decide)]
    rw [wr_mem _ _ (k0_off11_eq k) _ _ _ _ _ _ r rfl hR]
    have LD := loads k r l R hR
    sl_unfold_run_names
    unfold_payloads
    dsimp only
    pointwise [newM, newL, newA, ek, zk, yk, pT, pS]
    simp only [kt_named, LD] <;> rfl
  obtain rfl | h3 := eq_or_ne C 3
  · rw [wr_plane _ _ (k0_off21_eq k) _ _ _ _ _ _ (by decide)]
    rw [wr_mem _ _ (k0_off16_eq k) _ _ _ _ _ _ r rfl hR]
    have LD := loads k r l R hR
    sl_unfold_run_names
    unfold_payloads
    dsimp only
    pointwise [newM, newL, newA, ek, zk, yk, pT, pS]
    simp only [kt_named, LD] <;> rfl
  obtain rfl | h4 := eq_or_ne C 4
  · rw [wr_mem _ _ (k0_off21_eq k) _ _ _ _ _ _ r rfl hR]
    have LD := loads k r l R hR
    sl_unfold_run_names
    unfold_payloads
    dsimp only
    pointwise [newM, newL, newA, ek, zk, yk, pT, pS]
    simp only [kt_named, LD] <;> rfl
  omega

/-- Outside them nothing changes. -/
theorem trip_l_out (𝒱 : Variants) (c : Dev nD) (bd : Option 𝒱.V) (i : grid0.Coords) (arg1 : Memref sig .tc .smem S5 .i32) (harg1 : arg1.IsWhole) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (v105 : FVec Ideal S640x512 .f32) (X_arg6 : BufTy.Contents (Elt Ideal) arg6.view.ty) (X_arg10 : BufTy.Contents (Elt Ideal) arg10.view.ty) (X_arg11 : BufTy.Contents (Elt Ideal) arg11.view.ty) (X_arg15 : BufTy.Contents (Elt Ideal) arg15.view.ty) (k : Fin k0_t1_loop.trips) (acc : FVec Ideal S8x128 .f32 × FVec Ideal S8x128 .f32 × FVec Ideal S8x128 .f32 × FVec Ideal S8x128 .f32) (f_arg12 : BufTy.Contents (Elt Ideal) arg12.view.ty) (f_arg13 : BufTy.Contents (Elt Ideal) arg13.view.ty) (f_arg14 : BufTy.Contents (Elt Ideal) arg14.view.ty)
    (l : Fin 128) (R : Fin 640) (hR : R.val < 8 * k.val ∨ 8 * k.val + 8 ≤ R.val) (C : Fin 5) :
    arg13.view.read (Elt Ideal) (arg13.view.writes (Elt Ideal) f_arg13 (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 k acc f_arg12 f_arg13 f_arg14).2.1) (ix3 C R l)
      = arg13.view.read (Elt Ideal) f_arg13 (ix3 C R l) := by
  unfold tripL_k0_t1 trip_k0_t1
  dsimp only
  rw [wr_row _ _ (k0_off21_eq k) _ _ _ _ _ _ hR, wr_row _ _ (k0_off16_eq k) _ _ _ _ _ _ hR, wr_row _ _ (k0_off11_eq k) _ _ _ _ _ _ hR, wr_row _ _ (k0_off6_eq k) _ _ _ _ _ _ hR, wr_row _ _ (k0_off1_eq k) _ _ _ _ _ _ hR]
  rfl

set_option maxHeartbeats 2000000 in
/-- Inside the trip's eight rows. -/
theorem trip_a (𝒱 : Variants) (c : Dev nD) (bd : Option 𝒱.V) (i : grid0.Coords) (arg1 : Memref sig .tc .smem S5 .i32) (harg1 : arg1.IsWhole) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (v105 : FVec Ideal S640x512 .f32) (X_arg6 : BufTy.Contents (Elt Ideal) arg6.view.ty) (X_arg10 : BufTy.Contents (Elt Ideal) arg10.view.ty) (X_arg11 : BufTy.Contents (Elt Ideal) arg11.view.ty) (X_arg15 : BufTy.Contents (Elt Ideal) arg15.view.ty) (k : Fin k0_t1_loop.trips) (acc : FVec Ideal S8x128 .f32 × FVec Ideal S8x128 .f32 × FVec Ideal S8x128 .f32 × FVec Ideal S8x128 .f32) (f_arg12 : BufTy.Contents (Elt Ideal) arg12.view.ty) (f_arg13 : BufTy.Contents (Elt Ideal) arg13.view.ty) (f_arg14 : BufTy.Contents (Elt Ideal) arg14.view.ty)
    (r : Fin 8) (l : Fin 128) (R : Fin 640) (hR : R.val = 8 * k.val + r.val) (C : Fin 4) :
    arg14.view.read (Elt Ideal) (arg14.view.writes (Elt Ideal) f_arg14 (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 k acc f_arg12 f_arg13 f_arg14).2.2) (ix3 C R l)
      = newA (arg10.view.read (Elt Ideal) X_arg10) (arg11.view.read (Elt Ideal) X_arg11) (arg15.view.read (Elt Ideal) X_arg15) (arg6.view.read (Elt Ideal) X_arg6) (arg12.view.read (Elt Ideal) f_arg12) (arg14.view.read (Elt Ideal) f_arg14) C R l := by
  unfold tripL_k0_t1 trip_k0_t1
  dsimp only
  obtain rfl | h0 := eq_or_ne C 0
  · rw [wr_plane _ _ (k0_off29_eq k) _ _ _ _ _ _ (by decide)]
    rw [wr_plane _ _ (k0_off28_eq k) _ _ _ _ _ _ (by decide)]
    rw [wr_plane _ _ (k0_off27_eq k) _ _ _ _ _ _ (by decide)]
    rw [wr_mem _ _ (k0_off26_eq k) _ _ _ _ _ _ r rfl hR]
    have LD := loads k r l R hR
    sl_unfold_run_names
    unfold_payloads
    dsimp only
    pointwise [newM, newL, newA, ek, zk, yk, pT, pS]
    simp only [kt_named, LD] <;> rfl
  obtain rfl | h1 := eq_or_ne C 1
  · rw [wr_plane _ _ (k0_off29_eq k) _ _ _ _ _ _ (by decide)]
    rw [wr_plane _ _ (k0_off28_eq k) _ _ _ _ _ _ (by decide)]
    rw [wr_mem _ _ (k0_off27_eq k) _ _ _ _ _ _ r rfl hR]
    have LD := loads k r l R hR
    sl_unfold_run_names
    unfold_payloads
    dsimp only
    pointwise [newM, newL, newA, ek, zk, yk, pT, pS]
    simp only [kt_named, LD] <;> rfl
  obtain rfl | h2 := eq_or_ne C 2
  · rw [wr_plane _ _ (k0_off29_eq k) _ _ _ _ _ _ (by decide)]
    rw [wr_mem _ _ (k0_off28_eq k) _ _ _ _ _ _ r rfl hR]
    have LD := loads k r l R hR
    sl_unfold_run_names
    unfold_payloads
    dsimp only
    pointwise [newM, newL, newA, ek, zk, yk, pT, pS]
    simp only [kt_named, LD] <;> rfl
  obtain rfl | h3 := eq_or_ne C 3
  · rw [wr_mem _ _ (k0_off29_eq k) _ _ _ _ _ _ r rfl hR]
    have LD := loads k r l R hR
    sl_unfold_run_names
    unfold_payloads
    dsimp only
    pointwise [newM, newL, newA, ek, zk, yk, pT, pS]
    simp only [kt_named, LD] <;> rfl
  omega

/-- Outside them nothing changes. -/
theorem trip_a_out (𝒱 : Variants) (c : Dev nD) (bd : Option 𝒱.V) (i : grid0.Coords) (arg1 : Memref sig .tc .smem S5 .i32) (harg1 : arg1.IsWhole) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (v105 : FVec Ideal S640x512 .f32) (X_arg6 : BufTy.Contents (Elt Ideal) arg6.view.ty) (X_arg10 : BufTy.Contents (Elt Ideal) arg10.view.ty) (X_arg11 : BufTy.Contents (Elt Ideal) arg11.view.ty) (X_arg15 : BufTy.Contents (Elt Ideal) arg15.view.ty) (k : Fin k0_t1_loop.trips) (acc : FVec Ideal S8x128 .f32 × FVec Ideal S8x128 .f32 × FVec Ideal S8x128 .f32 × FVec Ideal S8x128 .f32) (f_arg12 : BufTy.Contents (Elt Ideal) arg12.view.ty) (f_arg13 : BufTy.Contents (Elt Ideal) arg13.view.ty) (f_arg14 : BufTy.Contents (Elt Ideal) arg14.view.ty)
    (l : Fin 128) (R : Fin 640) (hR : R.val < 8 * k.val ∨ 8 * k.val + 8 ≤ R.val) (C : Fin 4) :
    arg14.view.read (Elt Ideal) (arg14.view.writes (Elt Ideal) f_arg14 (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 k acc f_arg12 f_arg13 f_arg14).2.2) (ix3 C R l)
      = arg14.view.read (Elt Ideal) f_arg14 (ix3 C R l) := by
  unfold tripL_k0_t1 trip_k0_t1
  dsimp only
  rw [wr_row _ _ (k0_off29_eq k) _ _ _ _ _ _ hR, wr_row _ _ (k0_off28_eq k) _ _ _ _ _ _ hR, wr_row _ _ (k0_off27_eq k) _ _ _ _ _ _ hR, wr_row _ _ (k0_off26_eq k) _ _ _ _ _ _ hR]
  rfl

set_option maxHeartbeats 2000000 in
/-- The trip adds both teachers' scores of its rows to the carried sums. -/
theorem trip_r0 (𝒱 : Variants) (c : Dev nD) (bd : Option 𝒱.V) (i : grid0.Coords) (arg1 : Memref sig .tc .smem S5 .i32) (harg1 : arg1.IsWhole) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (v105 : FVec Ideal S640x512 .f32) (X_arg6 : BufTy.Contents (Elt Ideal) arg6.view.ty) (X_arg10 : BufTy.Contents (Elt Ideal) arg10.view.ty) (X_arg11 : BufTy.Contents (Elt Ideal) arg11.view.ty) (X_arg15 : BufTy.Contents (Elt Ideal) arg15.view.ty) (k : Fin k0_t1_loop.trips) (acc : FVec Ideal S8x128 .f32 × FVec Ideal S8x128 .f32 × FVec Ideal S8x128 .f32 × FVec Ideal S8x128 .f32) (f_arg12 : BufTy.Contents (Elt Ideal) arg12.view.ty) (f_arg13 : BufTy.Contents (Elt Ideal) arg13.view.ty) (f_arg14 : BufTy.Contents (Elt Ideal) arg14.view.ty)
    (r : Fin 8) (l : Fin 128) (R : Fin 640) (hR : R.val = 8 * k.val + r.val) :
    (tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 k acc f_arg12 f_arg13 f_arg14).1 (ix2 r l)
      = acc.1 (ix2 r l) + yk (arg10.view.read (Elt Ideal) X_arg10) (arg11.view.read (Elt Ideal) X_arg11) (arg15.view.read (Elt Ideal) X_arg15) 0 R 0 l + yk (arg10.view.read (Elt Ideal) X_arg10) (arg11.view.read (Elt Ideal) X_arg11) (arg15.view.read (Elt Ideal) X_arg15) 1 R 0 l := by
  unfold tripR_k0_t1 trip_k0_t1
  dsimp only
  have LD := loads k r l R hR
  sl_unfold_run_names
  unfold_payloads
  dsimp only
  pointwise [yk]
  simp only [LD] <;> rfl

set_option maxHeartbeats 2000000 in
/-- The trip adds both teachers' scores of its rows to the carried sums. -/
theorem trip_r1 (𝒱 : Variants) (c : Dev nD) (bd : Option 𝒱.V) (i : grid0.Coords) (arg1 : Memref sig .tc .smem S5 .i32) (harg1 : arg1.IsWhole) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (v105 : FVec Ideal S640x512 .f32) (X_arg6 : BufTy.Contents (Elt Ideal) arg6.view.ty) (X_arg10 : BufTy.Contents (Elt Ideal) arg10.view.ty) (X_arg11 : BufTy.Contents (Elt Ideal) arg11.view.ty) (X_arg15 : BufTy.Contents (Elt Ideal) arg15.view.ty) (k : Fin k0_t1_loop.trips) (acc : FVec Ideal S8x128 .f32 × FVec Ideal S8x128 .f32 × FVec Ideal S8x128 .f32 × FVec Ideal S8x128 .f32) (f_arg12 : BufTy.Contents (Elt Ideal) arg12.view.ty) (f_arg13 : BufTy.Contents (Elt Ideal) arg13.view.ty) (f_arg14 : BufTy.Contents (Elt Ideal) arg14.view.ty)
    (r : Fin 8) (l : Fin 128) (R : Fin 640) (hR : R.val = 8 * k.val + r.val) :
    (tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 k acc f_arg12 f_arg13 f_arg14).2.1 (ix2 r l)
      = acc.2.1 (ix2 r l) + yk (arg10.view.read (Elt Ideal) X_arg10) (arg11.view.read (Elt Ideal) X_arg11) (arg15.view.read (Elt Ideal) X_arg15) 0 R 1 l + yk (arg10.view.read (Elt Ideal) X_arg10) (arg11.view.read (Elt Ideal) X_arg11) (arg15.view.read (Elt Ideal) X_arg15) 1 R 1 l := by
  unfold tripR_k0_t1 trip_k0_t1
  dsimp only
  have LD := loads k r l R hR
  sl_unfold_run_names
  unfold_payloads
  dsimp only
  pointwise [yk]
  simp only [LD] <;> rfl

set_option maxHeartbeats 2000000 in
/-- The trip adds both teachers' scores of its rows to the carried sums. -/
theorem trip_r2 (𝒱 : Variants) (c : Dev nD) (bd : Option 𝒱.V) (i : grid0.Coords) (arg1 : Memref sig .tc .smem S5 .i32) (harg1 : arg1.IsWhole) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (v105 : FVec Ideal S640x512 .f32) (X_arg6 : BufTy.Contents (Elt Ideal) arg6.view.ty) (X_arg10 : BufTy.Contents (Elt Ideal) arg10.view.ty) (X_arg11 : BufTy.Contents (Elt Ideal) arg11.view.ty) (X_arg15 : BufTy.Contents (Elt Ideal) arg15.view.ty) (k : Fin k0_t1_loop.trips) (acc : FVec Ideal S8x128 .f32 × FVec Ideal S8x128 .f32 × FVec Ideal S8x128 .f32 × FVec Ideal S8x128 .f32) (f_arg12 : BufTy.Contents (Elt Ideal) arg12.view.ty) (f_arg13 : BufTy.Contents (Elt Ideal) arg13.view.ty) (f_arg14 : BufTy.Contents (Elt Ideal) arg14.view.ty)
    (r : Fin 8) (l : Fin 128) (R : Fin 640) (hR : R.val = 8 * k.val + r.val) :
    (tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 k acc f_arg12 f_arg13 f_arg14).2.2.1 (ix2 r l)
      = acc.2.2.1 (ix2 r l) + yk (arg10.view.read (Elt Ideal) X_arg10) (arg11.view.read (Elt Ideal) X_arg11) (arg15.view.read (Elt Ideal) X_arg15) 0 R 2 l + yk (arg10.view.read (Elt Ideal) X_arg10) (arg11.view.read (Elt Ideal) X_arg11) (arg15.view.read (Elt Ideal) X_arg15) 1 R 2 l := by
  unfold tripR_k0_t1 trip_k0_t1
  dsimp only
  have LD := loads k r l R hR
  sl_unfold_run_names
  unfold_payloads
  dsimp only
  pointwise [yk]
  simp only [LD] <;> rfl

set_option maxHeartbeats 2000000 in
/-- The trip adds both teachers' scores of its rows to the carried sums. -/
theorem trip_r3 (𝒱 : Variants) (c : Dev nD) (bd : Option 𝒱.V) (i : grid0.Coords) (arg1 : Memref sig .tc .smem S5 .i32) (harg1 : arg1.IsWhole) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (v105 : FVec Ideal S640x512 .f32) (X_arg6 : BufTy.Contents (Elt Ideal) arg6.view.ty) (X_arg10 : BufTy.Contents (Elt Ideal) arg10.view.ty) (X_arg11 : BufTy.Contents (Elt Ideal) arg11.view.ty) (X_arg15 : BufTy.Contents (Elt Ideal) arg15.view.ty) (k : Fin k0_t1_loop.trips) (acc : FVec Ideal S8x128 .f32 × FVec Ideal S8x128 .f32 × FVec Ideal S8x128 .f32 × FVec Ideal S8x128 .f32) (f_arg12 : BufTy.Contents (Elt Ideal) arg12.view.ty) (f_arg13 : BufTy.Contents (Elt Ideal) arg13.view.ty) (f_arg14 : BufTy.Contents (Elt Ideal) arg14.view.ty)
    (r : Fin 8) (l : Fin 128) (R : Fin 640) (hR : R.val = 8 * k.val + r.val) :
    (tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 k acc f_arg12 f_arg13 f_arg14).2.2.2 (ix2 r l)
      = acc.2.2.2 (ix2 r l) + yk (arg10.view.read (Elt Ideal) X_arg10) (arg11.view.read (Elt Ideal) X_arg11) (arg15.view.read (Elt Ideal) X_arg15) 0 R 3 l + yk (arg10.view.read (Elt Ideal) X_arg10) (arg11.view.read (Elt Ideal) X_arg11) (arg15.view.read (Elt Ideal) X_arg15) 1 R 3 l := by
  unfold tripR_k0_t1 trip_k0_t1
  dsimp only
  have LD := loads k r l R hR
  sl_unfold_run_names
  unfold_payloads
  dsimp only
  pointwise [yk]
  simp only [LD] <;> rfl

end Cert.KernelIdeal.Gen

end
-- ==== Proof.Loop.lean ====
/- The kernel's row loop in exact arithmetic: what the eighty trips leave, read at one element. -/
module

public import proofs.«01_k».proof.Proof.Gen.KernelIdeal.Frame
public import proofs.«01_k».proof.Proof.Trip

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- Row `8 k + r`. -/
def rowN (k : ℕ) (r : Fin 8) : Fin 640 := Fin.ofNat 640 (8 * k + r.val)

theorem rowN_val {k : ℕ} (hk : k < 80) (r : Fin 8) : (rowN k r).val = 8 * k + r.val := by
  have := r.isLt
  exact Nat.mod_eq_of_lt (by omega)

/-- What trip `k` adds to the centre sum of lane `l`, sublane `r`. -/
def bcTerm (x : Vec Ideal S5x640x512 .f32) (s : Vec Ideal S5x640x128 .f32) (w : Vec Ideal S1x512 .f32)
    (q : Fin 4) (k : ℕ) (r : Fin 8) (l : Fin 128) : EReal :=
  yk x s w 0 (rowN k r) q l + yk x s w 1 (rowN k r) q l

set_option maxHeartbeats 2000000 in
/-- After `n` trips the first `8 n` rows are the new ones and the carried sums hold the first `n` trips' terms. -/
theorem st_spec (𝒱 : Variants) (c : Dev nD) (bd : Option 𝒱.V) (i : grid0.Coords) (arg1 : Memref sig .tc .smem S5 .i32) (harg1 : arg1.IsWhole) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (v105 : FVec Ideal S640x512 .f32) (X_arg6 : BufTy.Contents (Elt Ideal) arg6.view.ty) (X_arg10 : BufTy.Contents (Elt Ideal) arg10.view.ty) (X_arg11 : BufTy.Contents (Elt Ideal) arg11.view.ty) (X_arg15 : BufTy.Contents (Elt Ideal) arg15.view.ty) (G_arg12 : BufTy.Contents (Elt Ideal) arg12.view.ty) (G_arg13 : BufTy.Contents (Elt Ideal) arg13.view.ty) (G_arg14 : BufTy.Contents (Elt Ideal) arg14.view.ty) (init : FVec Ideal S8x128 .f32 × FVec Ideal S8x128 .f32 × FVec Ideal S8x128 .f32 × FVec Ideal S8x128 .f32) :
    ∀ n : ℕ, n ≤ 80 → (∀ C R l, arg12.view.read (Elt Ideal) (arg12.view.writes (Elt Ideal) G_arg12 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 G_arg12 G_arg13 G_arg14 init n).2.1) (ix3 C R l)
        = if R.val < 8 * (n) then newM (arg10.view.read (Elt Ideal) X_arg10) (arg11.view.read (Elt Ideal) X_arg11) (arg15.view.read (Elt Ideal) X_arg15) (arg6.view.read (Elt Ideal) X_arg6) (arg12.view.read (Elt Ideal) G_arg12) C R l else (arg12.view.read (Elt Ideal) G_arg12) (ix3 C R l))
    ∧ (∀ C R l, arg13.view.read (Elt Ideal) (arg13.view.writes (Elt Ideal) G_arg13 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 G_arg12 G_arg13 G_arg14 init n).2.2.1) (ix3 C R l)
        = if R.val < 8 * (n) then newL (arg10.view.read (Elt Ideal) X_arg10) (arg11.view.read (Elt Ideal) X_arg11) (arg15.view.read (Elt Ideal) X_arg15) (arg6.view.read (Elt Ideal) X_arg6) (arg12.view.read (Elt Ideal) G_arg12) (arg13.view.read (Elt Ideal) G_arg13) C R l else (arg13.view.read (Elt Ideal) G_arg13) (ix3 C R l))
    ∧ (∀ C R l, arg14.view.read (Elt Ideal) (arg14.view.writes (Elt Ideal) G_arg14 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 G_arg12 G_arg13 G_arg14 init n).2.2.2) (ix3 C R l)
        = if R.val < 8 * (n) then newA (arg10.view.read (Elt Ideal) X_arg10) (arg11.view.read (Elt Ideal) X_arg11) (arg15.view.read (Elt Ideal) X_arg15) (arg6.view.read (Elt Ideal) X_arg6) (arg12.view.read (Elt Ideal) G_arg12) (arg14.view.read (Elt Ideal) G_arg14) C R l else (arg14.view.read (Elt Ideal) G_arg14) (ix3 C R l))
    ∧ (∀ r l, (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 G_arg12 G_arg13 G_arg14 init n).1.1 (ix2 r l) = init.1 (ix2 r l) + ∑ k ∈ Finset.range (n), bcTerm (arg10.view.read (Elt Ideal) X_arg10) (arg11.view.read (Elt Ideal) X_arg11) (arg15.view.read (Elt Ideal) X_arg15) 0 k r l)
    ∧ (∀ r l, (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 G_arg12 G_arg13 G_arg14 init n).1.2.1 (ix2 r l) = init.2.1 (ix2 r l) + ∑ k ∈ Finset.range (n), bcTerm (arg10.view.read (Elt Ideal) X_arg10) (arg11.view.read (Elt Ideal) X_arg11) (arg15.view.read (Elt Ideal) X_arg15) 1 k r l)
    ∧ (∀ r l, (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 G_arg12 G_arg13 G_arg14 init n).1.2.2.1 (ix2 r l) = init.2.2.1 (ix2 r l) + ∑ k ∈ Finset.range (n), bcTerm (arg10.view.read (Elt Ideal) X_arg10) (arg11.view.read (Elt Ideal) X_arg11) (arg15.view.read (Elt Ideal) X_arg15) 2 k r l)
    ∧ (∀ r l, (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 G_arg12 G_arg13 G_arg14 init n).1.2.2.2 (ix2 r l) = init.2.2.2 (ix2 r l) + ∑ k ∈ Finset.range (n), bcTerm (arg10.view.read (Elt Ideal) X_arg10) (arg11.view.read (Elt Ideal) X_arg11) (arg15.view.read (Elt Ideal) X_arg15) 3 k r l)
  | 0, _ => by
    refine ⟨?_, ?_, ?_, ?_, ?_, ?_, ?_⟩
    all_goals intros
    all_goals simp only [Nat.mul_zero, Nat.not_lt_zero, if_false, Finset.range_zero, Finset.sum_empty, add_zero]
    all_goals rfl
  | n + 1, hn => by
    obtain ⟨hM, hL, hA, h0, h1, h2, h3⟩ := st_spec 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 G_arg12 G_arg13 G_arg14 init n (by omega)
    have hk : n < k0_t1_loop.trips := hn
    have e := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v105 X_arg6 X_arg10 X_arg11 X_arg15 G_arg12 G_arg13 G_arg14 init ⟨n, hk⟩
    dsimp only at e
    rw [e]
    dsimp only
    have split : ∀ R : Fin 640, (∃ r : Fin 8, R.val = 8 * n + r.val) ∨ (R.val < 8 * n ∨ 8 * n + 8 ≤ R.val) := fun R => by
      by_cases h : 8 * n ≤ R.val ∧ R.val < 8 * n + 8
      · exact .inl ⟨⟨R.val - 8 * n, by omega⟩, by simp only; omega⟩
      · exact .inr (by omega)
    refine ⟨fun C R l => ?_, fun C R l => ?_, fun C R l => ?_, fun r l => ?_, fun r l => ?_, fun r l => ?_, fun r l => ?_⟩
    · rw [View.writes_append]
      obtain ⟨r, hr⟩ | hr := split R
      · rw [trip_m _ _ _ _ _ _ _ _ _ _ _ _ _ _ _ _ _ _ _ _ _ _ _ _ _ _ _ _ _ _ _ _ _ _ _ _ _ _ _ ⟨n, hk⟩ _ _ _ _ r l R hr C, if_pos (by omega)]
        simp only [newM, hM, if_neg (show ¬ R.val < 8 * n by omega)]
      · rw [trip_m_out _ _ _ _ _ _ _ _ _ _ _ _ _ _ _ _ _ _ _ _ _ _ _ _ _ _ _ _ _ _ _ _ _ _ _ _ _ _ _ ⟨n, hk⟩ _ _ _ _ l R hr C, hM]
        exact if_congr (by omega) rfl rfl
    · rw [View.writes_append]
      obtain ⟨r, hr⟩ | hr := split R
      · rw [trip_l _ _ _ _ _ _ _ _ _ _ _ _ _ _ _ _ _ _ _ _ _ _ _ _ _ _ _ _ _ _ _ _ _ _ _ _ _ _ _ ⟨n, hk⟩ _ _ _ _ r l R hr C, if_pos (by omega)]
        simp only [newL, ek, newM, hM, hL, if_neg (show ¬ R.val < 8 * n by omega)]
      · rw [trip_l_out _ _ _ _ _ _ _ _ _ _ _ _ _ _ _ _ _ _ _ _ _ _ _ _ _ _ _ _ _ _ _ _ _ _ _ _ _ _ _ ⟨n, hk⟩ _ _ _ _ l R hr C, hL]
        exact if_congr (by omega) rfl rfl
    · rw [View.writes_append]
      obtain ⟨r, hr⟩ | hr := split R
      · rw [trip_a _ _ _ _ _ _ _ _ _ _ _ _ _ _ _ _ _ _ _ _ _ _ _ _ _ _ _ _ _ _ _ _ _ _ _ _ _ _ _ ⟨n, hk⟩ _ _ _ _ r l R hr C, if_pos (by omega)]
        simp only [newA, ek, newM, hM, hA, if_neg (show ¬ R.val < 8 * n by omega)]
      · rw [trip_a_out _ _ _ _ _ _ _ _ _ _ _ _ _ _ _ _ _ _ _ _ _ _ _ _ _ _ _ _ _ _ _ _ _ _ _ _ _ _ _ ⟨n, hk⟩ _ _ _ _ l R hr C, hA]
        exact if_congr (by omega) rfl rfl
    · rw [trip_r0 _ _ _ _ _ _ _ _ _ _ _ _ _ _ _ _ _ _ _ _ _ _ _ _ _ _ _ _ _ _ _ _ _ _ _ _ _ _ _ ⟨n, hk⟩ _ _ _ _ r l (rowN n r) (rowN_val (by omega) r), h0,
        Finset.sum_range_succ, bcTerm, add_assoc, add_assoc]
    · rw [trip_r1 _ _ _ _ _ _ _ _ _ _ _ _ _ _ _ _ _ _ _ _ _ _ _ _ _ _ _ _ _ _ _ _ _ _ _ _ _ _ _ ⟨n, hk⟩ _ _ _ _ r l (rowN n r) (rowN_val (by omega) r), h1,
        Finset.sum_range_succ, bcTerm, add_assoc, add_assoc]
    · rw [trip_r2 _ _ _ _ _ _ _ _ _ _ _ _ _ _ _ _ _ _ _ _ _ _ _ _ _ _ _ _ _ _ _ _ _ _ _ _ _ _ _ ⟨n, hk⟩ _ _ _ _ r l (rowN n r) (rowN_val (by omega) r), h2,
        Finset.sum_range_succ, bcTerm, add_assoc, add_assoc]
    · rw [trip_r3 _ _ _ _ _ _ _ _ _ _ _ _ _ _ _ _ _ _ _ _ _ _ _ _ _ _ _ _ _ _ _ _ _ _ _ _ _ _ _ ⟨n, hk⟩ _ _ _ _ r l (rowN n r) (rowN_val (by omega) r), h3,
        Finset.sum_range_succ, bcTerm, add_assoc, add_assoc]

end Cert.KernelIdeal.Gen

end
-- ==== Proof.Fill.lean ====
/- What a point leaves in the kernel's scratch buffers before its row loop, in exact arithmetic. -/
module

public import proofs.«01_k».proof.Proof.Gen.KernelIdeal.Frame
public import proofs.«01_k».proof.Proof.Loop

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section W
variable {κ : Kind} {sp : Space} {e : EltTy}

/-- A piece of a rank-3 buffer, read inside it. -/
theorem wr3_mem {A B C a b c : ℕ} (v : View sig κ sp ⟨3, ![A, B, C]⟩ e) (f : v.ty.Contents (Elt Ideal)) {off : Fin 3 → ℕ} {o0 o1 o2 : ℕ}
    (heq : off = ![o0, o1, o2]) (inb) (w : Vec Ideal ⟨3, ![a, b, c]⟩ e) (T : List (View.Piece (Elt Ideal) ⟨3, ![A, B, C]⟩ e))
    (X : Fin A) (Y : Fin B) (Z : Fin C) (x : Fin a) (y : Fin b) (z : Fin c)
    (hX : X.val = o0 + x.val) (hY : Y.val = o1 + y.val) (hZ : Z.val = o2 + z.val) :
    v.read (Elt Ideal) (v.writes (Elt Ideal) f ((⟨Rect.unit (s := ⟨3, ![A, B, C]⟩) off ![a, b, c] inb, w⟩ : View.Piece (Elt Ideal) ⟨3, ![A, B, C]⟩ e) :: T)) (ix3 X Y Z)
      = w (ix3 x y z) := by
  refine View.read_writes_cons_unit_of_mem v f inb w T (ix3 X Y Z) (ix3 x y z) heq fun i => ?_
  match i with
  | ⟨0, _⟩ => exact hX
  | ⟨1, _⟩ => exact hY
  | ⟨2, _⟩ => exact hZ

/-- The same piece, read in another plane. -/
theorem wr3_not0 {A B C a b c : ℕ} (v : View sig κ sp ⟨3, ![A, B, C]⟩ e) (f : v.ty.Contents (Elt Ideal)) {off : Fin 3 → ℕ} {o0 o1 o2 : ℕ}
    (heq : off = ![o0, o1, o2]) (inb) (w : Vec Ideal ⟨3, ![a, b, c]⟩ e) (T : List (View.Piece (Elt Ideal) ⟨3, ![A, B, C]⟩ e))
    (X : Fin A) (Y : Fin B) (Z : Fin C) (hX : X.val < o0 ∨ o0 + a ≤ X.val) :
    v.read (Elt Ideal) (v.writes (Elt Ideal) f ((⟨Rect.unit (s := ⟨3, ![A, B, C]⟩) off ![a, b, c] inb, w⟩ : View.Piece (Elt Ideal) ⟨3, ![A, B, C]⟩ e) :: T)) (ix3 X Y Z)
      = v.read (Elt Ideal) (v.writes (Elt Ideal) f T) (ix3 X Y Z) :=
  View.read_writes_cons_unit_of_not_mem v f inb w T (ix3 X Y Z) heq 0 hX

/-- The same piece, read in another row. -/
theorem wr3_not1 {A B C a b c : ℕ} (v : View sig κ sp ⟨3, ![A, B, C]⟩ e) (f : v.ty.Contents (Elt Ideal)) {off : Fin 3 → ℕ} {o0 o1 o2 : ℕ}
    (heq : off = ![o0, o1, o2]) (inb) (w : Vec Ideal ⟨3, ![a, b, c]⟩ e) (T : List (View.Piece (Elt Ideal) ⟨3, ![A, B, C]⟩ e))
    (X : Fin A) (Y : Fin B) (Z : Fin C) (hY : Y.val < o1 ∨ o1 + b ≤ Y.val) :
    v.read (Elt Ideal) (v.writes (Elt Ideal) f ((⟨Rect.unit (s := ⟨3, ![A, B, C]⟩) off ![a, b, c] inb, w⟩ : View.Piece (Elt Ideal) ⟨3, ![A, B, C]⟩ e) :: T)) (ix3 X Y Z)
      = v.read (Elt Ideal) (v.writes (Elt Ideal) f T) (ix3 X Y Z) :=
  View.read_writes_cons_unit_of_not_mem v f inb w T (ix3 X Y Z) heq 1 hY

/-- A piece of a rank-2 buffer, read inside it. -/
theorem wr2_mem {A B a b : ℕ} (v : View sig κ sp ⟨2, ![A, B]⟩ e) (f : v.ty.Contents (Elt Ideal)) {off : Fin 2 → ℕ} {o0 o1 : ℕ}
    (heq : off = ![o0, o1]) (inb) (w : Vec Ideal ⟨2, ![a, b]⟩ e) (T : List (View.Piece (Elt Ideal) ⟨2, ![A, B]⟩ e))
    (X : Fin A) (Y : Fin B) (x : Fin a) (y : Fin b) (hX : X.val = o0 + x.val) (hY : Y.val = o1 + y.val) :
    v.read (Elt Ideal) (v.writes (Elt Ideal) f ((⟨Rect.unit (s := ⟨2, ![A, B]⟩) off ![a, b] inb, w⟩ : View.Piece (Elt Ideal) ⟨2, ![A, B]⟩ e) :: T)) (ix2 X Y)
      = w (ix2 x y) := by
  refine View.read_writes_cons_unit_of_mem v f inb w T (ix2 X Y) (ix2 x y) heq fun i => ?_
  match i with
  | ⟨0, _⟩ => exact hX
  | ⟨1, _⟩ => exact hY

/-- The same piece, read in another row. -/
theorem wr2_not0 {A B a b : ℕ} (v : View sig κ sp ⟨2, ![A, B]⟩ e) (f : v.ty.Contents (Elt Ideal)) {off : Fin 2 → ℕ} {o0 o1 : ℕ}
    (heq : off = ![o0, o1]) (inb) (w : Vec Ideal ⟨2, ![a, b]⟩ e) (T : List (View.Piece (Elt Ideal) ⟨2, ![A, B]⟩ e))
    (X : Fin A) (Y : Fin B) (hX : X.val < o0 ∨ o0 + a ≤ X.val) :
    v.read (Elt Ideal) (v.writes (Elt Ideal) f ((⟨Rect.unit (s := ⟨2, ![A, B]⟩) off ![a, b] inb, w⟩ : View.Piece (Elt Ideal) ⟨2, ![A, B]⟩ e) :: T)) (ix2 X Y)
      = v.read (Elt Ideal) (v.writes (Elt Ideal) f T) (ix2 X Y) :=
  View.read_writes_cons_unit_of_not_mem v f inb w T (ix2 X Y) heq 0 hX

/-- The same piece, read in another column. -/
theorem wr2_not1 {A B a b : ℕ} (v : View sig κ sp ⟨2, ![A, B]⟩ e) (f : v.ty.Contents (Elt Ideal)) {off : Fin 2 → ℕ} {o0 o1 : ℕ}
    (heq : off = ![o0, o1]) (inb) (w : Vec Ideal ⟨2, ![a, b]⟩ e) (T : List (View.Piece (Elt Ideal) ⟨2, ![A, B]⟩ e))
    (X : Fin A) (Y : Fin B) (hY : Y.val < o1 ∨ o1 + b ≤ Y.val) :
    v.read (Elt Ideal) (v.writes (Elt Ideal) f ((⟨Rect.unit (s := ⟨2, ![A, B]⟩) off ![a, b] inb, w⟩ : View.Piece (Elt Ideal) ⟨2, ![A, B]⟩ e) :: T)) (ix2 X Y)
      = v.read (Elt Ideal) (v.writes (Elt Ideal) f T) (ix2 X Y) :=
  View.read_writes_cons_unit_of_not_mem v f inb w T (ix2 X Y) heq 1 hY

end W

section W4
variable {κ : Kind} {sp : Space} {e : EltTy}

/-- A piece of a rank-4 buffer, read inside it. -/
theorem wr4_mem {A B C D a b c d : ℕ} (v : View sig κ sp ⟨4, ![A, B, C, D]⟩ e) (f : v.ty.Contents (Elt Ideal)) {off : Fin 4 → ℕ} {o0 o1 o2 o3 : ℕ}
    (heq : off = ![o0, o1, o2, o3]) (inb) (w : Vec Ideal ⟨4, ![a, b, c, d]⟩ e) (T : List (View.Piece (Elt Ideal) ⟨4, ![A, B, C, D]⟩ e))
    (X : Fin A) (Y : Fin B) (Z : Fin C) (U : Fin D) (x : Fin a) (y : Fin b) (z : Fin c) (u : Fin d)
    (hX : X.val = o0 + x.val) (hY : Y.val = o1 + y.val) (hZ : Z.val = o2 + z.val) (hU : U.val = o3 + u.val) :
    v.read (Elt Ideal) (v.writes (Elt Ideal) f ((⟨Rect.unit (s := ⟨4, ![A, B, C, D]⟩) off ![a, b, c, d] inb, w⟩ : View.Piece (Elt Ideal) ⟨4, ![A, B, C, D]⟩ e) :: T)) (ix4 X Y Z U)
      = w (ix4 x y z u) := by
  refine View.read_writes_cons_unit_of_mem v f inb w T (ix4 X Y Z U) (ix4 x y z u) heq fun i => ?_
  match i with
  | ⟨0, _⟩ => exact hX
  | ⟨1, _⟩ => exact hY
  | ⟨2, _⟩ => exact hZ
  | ⟨3, _⟩ => exact hU

/-- The same piece, read outside it: `i` is an axis on which the element lies outside. -/
theorem wr4_not {A B C D a b c d : ℕ} (v : View sig κ sp ⟨4, ![A, B, C, D]⟩ e) (f : v.ty.Contents (Elt Ideal)) {off : Fin 4 → ℕ} {o0 o1 o2 o3 : ℕ}
    (heq : off = ![o0, o1, o2, o3]) (inb) (w : Vec Ideal ⟨4, ![a, b, c, d]⟩ e) (T : List (View.Piece (Elt Ideal) ⟨4, ![A, B, C, D]⟩ e))
    (X : Fin A) (Y : Fin B) (Z : Fin C) (U : Fin D)
    (h : (X.val < o0 ∨ o0 + a ≤ X.val) ∨ (Y.val < o1 ∨ o1 + b ≤ Y.val) ∨ (Z.val < o2 ∨ o2 + c ≤ Z.val)) :
    v.read (Elt Ideal) (v.writes (Elt Ideal) f ((⟨Rect.unit (s := ⟨4, ![A, B, C, D]⟩) off ![a, b, c, d] inb, w⟩ : View.Piece (Elt Ideal) ⟨4, ![A, B, C, D]⟩ e) :: T)) (ix4 X Y Z U)
      = v.read (Elt Ideal) (v.writes (Elt Ideal) f T) (ix4 X Y Z U) := by
  rcases h with h | h | h
  · exact View.read_writes_cons_unit_of_not_mem v f inb w T (ix4 X Y Z U) heq 0 h
  · exact View.read_writes_cons_unit_of_not_mem v f inb w T (ix4 X Y Z U) heq 1 h
  · exact View.read_writes_cons_unit_of_not_mem v f inb w T (ix4 X Y Z U) heq 2 h

end W4

/-! ## Loads -/

section L
variable {κ : Kind} {sp : Space} {e : EltTy}

/-- A whole rank-2 buffer, loaded. -/
theorem rd2z {A B : ℕ} (v : View sig κ sp ⟨2, ![A, B]⟩ e) (f : v.ty.Contents (Elt Ideal)) (inb) (x : Fin A) (y : Fin B) :
    v.readAt (Elt Ideal) (Rect.unit (s := ⟨2, ![A, B]⟩) ![0, 0] ![A, B] inb).toLoadRect f (ix2 x y) = v.read (Elt Ideal) f (ix2 x y) :=
  rd2 v f rfl inb x y x y (Nat.zero_add _).symm (Nat.zero_add _).symm

/-- One plane of a rank-3 buffer, loaded whole. -/
theorem rd3z {A B C o : ℕ} (v : View sig κ sp ⟨3, ![A, B, C]⟩ e) (f : v.ty.Contents (Elt Ideal)) (inb) (ho : o < A) (y : Fin B) (z : Fin C) :
    v.readAt (Elt Ideal) (Rect.unit (s := ⟨3, ![A, B, C]⟩) ![o, 0, 0] ![1, B, C] inb).toLoadRect f (ix3 0 y z) = v.read (Elt Ideal) f (ix3 ⟨o, ho⟩ y z) :=
  rd3 v f rfl inb 0 y z ⟨o, ho⟩ y z rfl (Nat.zero_add _).symm (Nat.zero_add _).symm

/-- Some lanes of a rank-2 buffer of one row, loaded. -/
theorem rd2l {B b o : ℕ} (v : View sig κ sp ⟨2, ![1, B]⟩ e) (f : v.ty.Contents (Elt Ideal)) (inb) (y : Fin b) (h : o + b ≤ B) :
    v.readAt (Elt Ideal) (Rect.unit (s := ⟨2, ![1, B]⟩) ![0, o] ![1, b] inb).toLoadRect f (ix2 0 y) = v.read (Elt Ideal) f (ix2 0 ⟨o + y.val, by omega⟩) :=
  rd2 v f rfl inb (0 : Fin 1) y (0 : Fin 1) ⟨o + y.val, by omega⟩ rfl rfl

/-- One row of one plane of a rank-3 buffer, loaded. -/
theorem rd3r {A B C o p : ℕ} (v : View sig κ sp ⟨3, ![A, B, C]⟩ e) (f : v.ty.Contents (Elt Ideal)) (inb) (ho : o < A) (hp : p < B) (z : Fin C) :
    v.readAt (Elt Ideal) (Rect.unit (s := ⟨3, ![A, B, C]⟩) ![o, p, 0] ![1, 1, C] inb).toLoadRect f (ix3 0 0 z) = v.read (Elt Ideal) f (ix3 ⟨o, ho⟩ ⟨p, hp⟩ z) :=
  rd3 v f rfl inb (0 : Fin 1) (0 : Fin 1) z ⟨o, ho⟩ ⟨p, hp⟩ z rfl rfl (Nat.zero_add _).symm

/-- Some rows of one plane of a rank-3 buffer, loaded. -/
theorem rd3b {A B C b o p : ℕ} (v : View sig κ sp ⟨3, ![A, B, C]⟩ e) (f : v.ty.Contents (Elt Ideal)) (inb) (ho : o < A) (hp : p + b ≤ B) (y : Fin b) (z : Fin C) :
    v.readAt (Elt Ideal) (Rect.unit (s := ⟨3, ![A, B, C]⟩) ![o, p, 0] ![1, b, C] inb).toLoadRect f (ix3 0 y z) = v.read (Elt Ideal) f (ix3 ⟨o, ho⟩ ⟨p + y.val, by omega⟩ z) :=
  rd3 v f rfl inb (0 : Fin 1) y z ⟨o, ho⟩ ⟨p + y.val, by omega⟩ z rfl rfl (Nat.zero_add _).symm

/-- One word of a rank-1 buffer, loaded. -/
theorem rd1 {A o : ℕ} (v : View sig κ sp ⟨1, ![A]⟩ e) (f : v.ty.Contents (Elt Ideal)) (inb) (ho : o < A) (h) :
    v.readAt (Elt Ideal) (Rect.unit (s := ⟨1, ![A]⟩) ![o] ![1] inb).toLoadRect f (Shape.Idx.first h) = v.read (Elt Ideal) f (ix1 ⟨o, ho⟩) := by
  refine congrArg (v.read (Elt Ideal) f) (funext fun i => Fin.ext ?_)
  match i with
  | ⟨0, _⟩ => rfl

end L

/-! ## What the scratch buffers hold -/

theorem ks_named : (Named.named κ "ks" 1097229908#32 : Ideal .f32) = (((Real.log 2)⁻¹ * 10 : ℝ) : EReal) := rfl

/-- The unscaled scores of a tile. -/
def XV (x0 : Vec Ideal S5x640x1024 .fp8e4m3) (x2 : Vec Ideal S512x1024 .fp8e4m3) : Vec Ideal S5x640x512 .f32 :=
  fun j => ∑ d : Fin 1024, (x0 (ix3 (j 0) (j 1) d) : EReal) * x2 (ix2 (j 2) d)

/-- A prototype row's norm, summed as the kernel sums it: eight chunks of 128 lanes added lane by lane, then the lanes. -/
def nrm (x2 : Vec Ideal S512x1024 .fp8e4m3) (j : Fin 512) : EReal :=
  Ideal.sqrt (∑ x : Fin 128, (((((((sq x 0 + sq x 1) + sq x 2) + sq x 3) + sq x 4) + sq x 5) + sq x 6) + sq x 7))
where
  sq (x : Fin 128) (k : Fin 8) : EReal := (x2 (ix2 j ⟨128 * k.val + x.val, by omega⟩) : EReal) * x2 (ix2 j ⟨128 * k.val + x.val, by omega⟩)

/-- The prototypes' weights in a tile. -/
def WV (x2 : Vec Ideal S512x1024 .fp8e4m3) (x3 : Vec Ideal S1x512 .f32) : Vec Ideal S1x512 .f32 :=
  fun j => Ideal.div (x3 (ix2 0 (j 1))) (if 0 < nrm x2 (j 1) then nrm x2 (j 1) else 1)

/-- The table of valid counts. -/
def NV {c : Dev nD} (xt0 : TbBuf0 (F := Ideal) c tbM0_0) (b : Fin 5) : BitVec 32 := (View.whole main_arg7).read (Elt Ideal) xt0 (ix1 b)

/-- A token's scale over its temperature, in base two; zero for a teacher's token past the valid ones. -/
def sv (x1 : Vec Ideal S5x5x128 .f32) (nv : Fin 5 → BitVec 32) (C b : Fin 5) (s : Fin 128) : EReal :=
  if C.val < 2 then Scalar.select (IntOp.cmpi .slt (BitVec.ofNat 32 s.val) (nv b)) ((x1 (ix3 C b s) : EReal) * (((Real.log 2)⁻¹ * 25 : ℝ) : EReal)) 0
  else (x1 (ix3 C b s) : EReal) * (((Real.log 2)⁻¹ * 10 : ℝ) : EReal)

/-- The batch and the token of a row. -/
def rB (R : Fin 640) : Fin 5 := ⟨R.val / 128, by omega⟩
def rS (R : Fin 640) : Fin 128 := ⟨R.val % 128, by omega⟩
/-- The row of a batch and a token. -/
def row (b : Fin 5) (s : Fin 128) : Fin 640 := ⟨128 * b.val + s.val, by omega⟩

theorem rB_row (b s) : rB (row b s) = b := by ext; simp only [rB, row]; omega
theorem rS_row (b s) : rS (row b s) = s := by ext; simp only [rS, row]; omega
theorem row_eq (R) : row (rB R) (rS R) = R := by ext; simp only [rS, rB, row]; omega

/-- The scales of all rows, on every lane. -/
def SV (x1 : Vec Ideal S5x5x128 .f32) (nv : Fin 5 → BitVec 32) : Vec Ideal S5x640x128 .f32 :=
  fun j => sv x1 nv (j 0) (rB (j 1)) (rS (j 1))

theorem SV_row (x1 nv C b s l) : SV x1 nv (ix3 C (row b s) l) = sv x1 nv C b s := by
  rw [← congrArg₂ (sv x1 nv C) (rB_row b s) (rS_row b s)]; rfl

theorem col_eq (j : Fin 512) : ∃ q l, j = col q l :=
  ⟨⟨j.val / 128, by omega⟩, ⟨j.val % 128, by omega⟩, by ext; simp only [col]; omega⟩

set_option maxHeartbeats 2000000 in
theorem x10_A (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : cond0_0 i) (hc1 : ¬cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) :
    arg10.view.read (Elt Ideal) (arg10.view.writes (Elt Ideal) arg10.view.junk (kernelRun0_A.sl.HS0_5 c arg2 harg2 arg4 harg4 x0 x2)) = XV x0 x2 := by
  have LA : ∀ R d, arg4.view.readAt (Elt Ideal) (Rect.unit (s := S512x1024) ![0, 0] ![512, 1024] inb_S512x1024_S512x1024_0_0).toLoadRect (harg4.unread x2) (ix2 R d) = x2 (ix2 R d) :=
    fun R d => by rw [rd2z, harg4.read_unread]
  funext j
  idx_vars j
  sl_unfold_run_names
  dsimp only
  match j0 with
  | ⟨0, _⟩ =>
    rw [wr3_not0 _ _ rfl _ _ _ _ _ _ (.inl (show 0 < 4 by decide)), wr3_not0 _ _ rfl _ _ _ _ _ _ (.inl (show 0 < 3 by decide)), wr3_not0 _ _ rfl _ _ _ _ _ _ (.inl (show 0 < 2 by decide)), wr3_not0 _ _ rfl _ _ _ _ _ _ (.inl (show 0 < 1 by decide)), wr3_mem _ _ rfl _ _ _ _ _ _ 0 j1 j2 rfl (Nat.zero_add _).symm (Nat.zero_add _).symm]
    unfold_payloads
    try dsimp only
    pointwise []
    refine Finset.sum_congr rfl fun d _ => ?_
    rw [LA, rd3z (ho := by decide), harg2.read_unread]
    rfl
  | ⟨1, _⟩ =>
    rw [wr3_not0 _ _ rfl _ _ _ _ _ _ (.inl (show 1 < 4 by decide)), wr3_not0 _ _ rfl _ _ _ _ _ _ (.inl (show 1 < 3 by decide)), wr3_not0 _ _ rfl _ _ _ _ _ _ (.inl (show 1 < 2 by decide)), wr3_mem _ _ rfl _ _ _ _ _ _ 0 j1 j2 rfl (Nat.zero_add _).symm (Nat.zero_add _).symm]
    unfold_payloads
    try dsimp only
    pointwise []
    refine Finset.sum_congr rfl fun d _ => ?_
    rw [LA, rd3z (ho := by decide), harg2.read_unread]
    rfl
  | ⟨2, _⟩ =>
    rw [wr3_not0 _ _ rfl _ _ _ _ _ _ (.inl (show 2 < 4 by decide)), wr3_not0 _ _ rfl _ _ _ _ _ _ (.inl (show 2 < 3 by decide)), wr3_mem _ _ rfl _ _ _ _ _ _ 0 j1 j2 rfl (Nat.zero_add _).symm (Nat.zero_add _).symm]
    unfold_payloads
    try dsimp only
    pointwise []
    refine Finset.sum_congr rfl fun d _ => ?_
    rw [LA, rd3z (ho := by decide), harg2.read_unread]
    rfl
  | ⟨3, _⟩ =>
    rw [wr3_not0 _ _ rfl _ _ _ _ _ _ (.inl (show 3 < 4 by decide)), wr3_mem _ _ rfl _ _ _ _ _ _ 0 j1 j2 rfl (Nat.zero_add _).symm (Nat.zero_add _).symm]
    unfold_payloads
    try dsimp only
    pointwise []
    refine Finset.sum_congr rfl fun d _ => ?_
    rw [LA, rd3z (ho := by decide), harg2.read_unread]
    rfl
  | ⟨4, _⟩ =>
    rw [wr3_mem _ _ rfl _ _ _ _ _ _ 0 j1 j2 rfl (Nat.zero_add _).symm (Nat.zero_add _).symm]
    unfold_payloads
    try dsimp only
    pointwise []
    refine Finset.sum_congr rfl fun d _ => ?_
    rw [LA, rd3z (ho := by decide), harg2.read_unread]
    rfl

set_option maxHeartbeats 2000000 in
theorem x15_A (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : cond0_0 i) (hc1 : ¬cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) :
    arg15.view.read (Elt Ideal) (arg15.view.writes (Elt Ideal) arg15.view.junk (kernelRun0_A.sl.HS5_4 c arg4 harg4 arg5 harg5 x2 x3)) = WV x2 x3 := by
  have LA : ∀ R d, arg4.view.readAt (Elt Ideal) (Rect.unit (s := S512x1024) ![0, 0] ![512, 1024] inb_S512x1024_S512x1024_0_0).toLoadRect (harg4.unread x2) (ix2 R d) = x2 (ix2 R d) :=
    fun R d => by rw [rd2z, harg4.read_unread]
  funext j
  idx_vars j
  obtain rfl : j0 = 0 := Subsingleton.elim _ _
  obtain ⟨q, l, rfl⟩ := col_eq j1
  sl_unfold_run_names
  dsimp only
  match q with
  | ⟨0, _⟩ =>
    rw [wr2_not1 _ _ rfl _ _ _ _ _ (by simp only [col]; omega), wr2_not1 _ _ rfl _ _ _ _ _ (by simp only [col]; omega), wr2_not1 _ _ rfl _ _ _ _ _ (by simp only [col]; omega), wr2_mem _ _ rfl _ _ _ _ _ 0 l rfl rfl]
    unfold_payloads
    try dsimp only
    pointwise []
    simp only [LA]
    rw [rd2l (h := by decide), harg5.read_unread]
    simp only [WV, nrm, nrm.sq, col, Fin.val_zero, Nat.mul_zero, Nat.zero_add]
    rfl
  | ⟨1, _⟩ =>
    rw [wr2_not1 _ _ rfl _ _ _ _ _ (by simp only [col]; omega), wr2_not1 _ _ rfl _ _ _ _ _ (by simp only [col]; omega), wr2_mem _ _ rfl _ _ _ _ _ 0 l rfl rfl]
    unfold_payloads
    try dsimp only
    pointwise []
    simp only [LA]
    rw [rd2l (h := by decide), harg5.read_unread]
    simp only [WV, nrm, nrm.sq, col, Fin.val_zero, Nat.mul_zero, Nat.zero_add]
    rfl
  | ⟨2, _⟩ =>
    rw [wr2_not1 _ _ rfl _ _ _ _ _ (by simp only [col]; omega), wr2_mem _ _ rfl _ _ _ _ _ 0 l rfl rfl]
    unfold_payloads
    try dsimp only
    pointwise []
    simp only [LA]
    rw [rd2l (h := by decide), harg5.read_unread]
    simp only [WV, nrm, nrm.sq, col, Fin.val_zero, Nat.mul_zero, Nat.zero_add]
    rfl
  | ⟨3, _⟩ =>
    rw [wr2_mem _ _ rfl _ _ _ _ _ 0 l rfl rfl]
    unfold_payloads
    try dsimp only
    pointwise []
    simp only [LA]
    rw [rd2l (h := by decide), harg5.read_unread]
    simp only [WV, nrm, nrm.sq, col, Fin.val_zero, Nat.mul_zero, Nat.zero_add]
    rfl

set_option maxHeartbeats 2000000 in
theorem x10_B (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : ¬cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) :
    arg10.view.read (Elt Ideal) (arg10.view.writes (Elt Ideal) arg10.view.junk (kernelRun0_B.sl.HS0_5 c arg2 harg2 arg4 harg4 x0 x2)) = XV x0 x2 := by
  have LA : ∀ R d, arg4.view.readAt (Elt Ideal) (Rect.unit (s := S512x1024) ![0, 0] ![512, 1024] inb_S512x1024_S512x1024_0_0).toLoadRect (harg4.unread x2) (ix2 R d) = x2 (ix2 R d) :=
    fun R d => by rw [rd2z, harg4.read_unread]
  funext j
  idx_vars j
  sl_unfold_run_names
  dsimp only
  match j0 with
  | ⟨0, _⟩ =>
    rw [wr3_not0 _ _ rfl _ _ _ _ _ _ (.inl (show 0 < 4 by decide)), wr3_not0 _ _ rfl _ _ _ _ _ _ (.inl (show 0 < 3 by decide)), wr3_not0 _ _ rfl _ _ _ _ _ _ (.inl (show 0 < 2 by decide)), wr3_not0 _ _ rfl _ _ _ _ _ _ (.inl (show 0 < 1 by decide)), wr3_mem _ _ rfl _ _ _ _ _ _ 0 j1 j2 rfl (Nat.zero_add _).symm (Nat.zero_add _).symm]
    unfold_payloads
    try dsimp only
    pointwise []
    refine Finset.sum_congr rfl fun d _ => ?_
    rw [LA, rd3z (ho := by decide), harg2.read_unread]
    rfl
  | ⟨1, _⟩ =>
    rw [wr3_not0 _ _ rfl _ _ _ _ _ _ (.inl (show 1 < 4 by decide)), wr3_not0 _ _ rfl _ _ _ _ _ _ (.inl (show 1 < 3 by decide)), wr3_not0 _ _ rfl _ _ _ _ _ _ (.inl (show 1 < 2 by decide)), wr3_mem _ _ rfl _ _ _ _ _ _ 0 j1 j2 rfl (Nat.zero_add _).symm (Nat.zero_add _).symm]
    unfold_payloads
    try dsimp only
    pointwise []
    refine Finset.sum_congr rfl fun d _ => ?_
    rw [LA, rd3z (ho := by decide), harg2.read_unread]
    rfl
  | ⟨2, _⟩ =>
    rw [wr3_not0 _ _ rfl _ _ _ _ _ _ (.inl (show 2 < 4 by decide)), wr3_not0 _ _ rfl _ _ _ _ _ _ (.inl (show 2 < 3 by decide)), wr3_mem _ _ rfl _ _ _ _ _ _ 0 j1 j2 rfl (Nat.zero_add _).symm (Nat.zero_add _).symm]
    unfold_payloads
    try dsimp only
    pointwise []
    refine Finset.sum_congr rfl fun d _ => ?_
    rw [LA, rd3z (ho := by decide), harg2.read_unread]
    rfl
  | ⟨3, _⟩ =>
    rw [wr3_not0 _ _ rfl _ _ _ _ _ _ (.inl (show 3 < 4 by decide)), wr3_mem _ _ rfl _ _ _ _ _ _ 0 j1 j2 rfl (Nat.zero_add _).symm (Nat.zero_add _).symm]
    unfold_payloads
    try dsimp only
    pointwise []
    refine Finset.sum_congr rfl fun d _ => ?_
    rw [LA, rd3z (ho := by decide), harg2.read_unread]
    rfl
  | ⟨4, _⟩ =>
    rw [wr3_mem _ _ rfl _ _ _ _ _ _ 0 j1 j2 rfl (Nat.zero_add _).symm (Nat.zero_add _).symm]
    unfold_payloads
    try dsimp only
    pointwise []
    refine Finset.sum_congr rfl fun d _ => ?_
    rw [LA, rd3z (ho := by decide), harg2.read_unread]
    rfl

set_option maxHeartbeats 2000000 in
theorem x15_B (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : ¬cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) :
    arg15.view.read (Elt Ideal) (arg15.view.writes (Elt Ideal) arg15.view.junk (kernelRun0_B.sl.HS5_4 c arg4 harg4 arg5 harg5 x2 x3)) = WV x2 x3 := by
  have LA : ∀ R d, arg4.view.readAt (Elt Ideal) (Rect.unit (s := S512x1024) ![0, 0] ![512, 1024] inb_S512x1024_S512x1024_0_0).toLoadRect (harg4.unread x2) (ix2 R d) = x2 (ix2 R d) :=
    fun R d => by rw [rd2z, harg4.read_unread]
  funext j
  idx_vars j
  obtain rfl : j0 = 0 := Subsingleton.elim _ _
  obtain ⟨q, l, rfl⟩ := col_eq j1
  sl_unfold_run_names
  dsimp only
  match q with
  | ⟨0, _⟩ =>
    rw [wr2_not1 _ _ rfl _ _ _ _ _ (by simp only [col]; omega), wr2_not1 _ _ rfl _ _ _ _ _ (by simp only [col]; omega), wr2_not1 _ _ rfl _ _ _ _ _ (by simp only [col]; omega), wr2_mem _ _ rfl _ _ _ _ _ 0 l rfl rfl]
    unfold_payloads
    try dsimp only
    pointwise []
    simp only [LA]
    rw [rd2l (h := by decide), harg5.read_unread]
    simp only [WV, nrm, nrm.sq, col, Fin.val_zero, Nat.mul_zero, Nat.zero_add]
    rfl
  | ⟨1, _⟩ =>
    rw [wr2_not1 _ _ rfl _ _ _ _ _ (by simp only [col]; omega), wr2_not1 _ _ rfl _ _ _ _ _ (by simp only [col]; omega), wr2_mem _ _ rfl _ _ _ _ _ 0 l rfl rfl]
    unfold_payloads
    try dsimp only
    pointwise []
    simp only [LA]
    rw [rd2l (h := by decide), harg5.read_unread]
    simp only [WV, nrm, nrm.sq, col, Fin.val_zero, Nat.mul_zero, Nat.zero_add]
    rfl
  | ⟨2, _⟩ =>
    rw [wr2_not1 _ _ rfl _ _ _ _ _ (by simp only [col]; omega), wr2_mem _ _ rfl _ _ _ _ _ 0 l rfl rfl]
    unfold_payloads
    try dsimp only
    pointwise []
    simp only [LA]
    rw [rd2l (h := by decide), harg5.read_unread]
    simp only [WV, nrm, nrm.sq, col, Fin.val_zero, Nat.mul_zero, Nat.zero_add]
    rfl
  | ⟨3, _⟩ =>
    rw [wr2_mem _ _ rfl _ _ _ _ _ 0 l rfl rfl]
    unfold_payloads
    try dsimp only
    pointwise []
    simp only [LA]
    rw [rd2l (h := by decide), harg5.read_unread]
    simp only [WV, nrm, nrm.sq, col, Fin.val_zero, Nat.mul_zero, Nat.zero_add]
    rfl

set_option maxHeartbeats 2000000 in
theorem x10_C (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) :
    arg10.view.read (Elt Ideal) (arg10.view.writes (Elt Ideal) arg10.view.junk (kernelRun0_C.sl.HS0_5 c arg2 harg2 arg4 harg4 x0 x2)) = XV x0 x2 := by
  have LA : ∀ R d, arg4.view.readAt (Elt Ideal) (Rect.unit (s := S512x1024) ![0, 0] ![512, 1024] inb_S512x1024_S512x1024_0_0).toLoadRect (harg4.unread x2) (ix2 R d) = x2 (ix2 R d) :=
    fun R d => by rw [rd2z, harg4.read_unread]
  funext j
  idx_vars j
  sl_unfold_run_names
  dsimp only
  match j0 with
  | ⟨0, _⟩ =>
    rw [wr3_not0 _ _ rfl _ _ _ _ _ _ (.inl (show 0 < 4 by decide)), wr3_not0 _ _ rfl _ _ _ _ _ _ (.inl (show 0 < 3 by decide)), wr3_not0 _ _ rfl _ _ _ _ _ _ (.inl (show 0 < 2 by decide)), wr3_not0 _ _ rfl _ _ _ _ _ _ (.inl (show 0 < 1 by decide)), wr3_mem _ _ rfl _ _ _ _ _ _ 0 j1 j2 rfl (Nat.zero_add _).symm (Nat.zero_add _).symm]
    unfold_payloads
    try dsimp only
    pointwise []
    refine Finset.sum_congr rfl fun d _ => ?_
    rw [LA, rd3z (ho := by decide), harg2.read_unread]
    rfl
  | ⟨1, _⟩ =>
    rw [wr3_not0 _ _ rfl _ _ _ _ _ _ (.inl (show 1 < 4 by decide)), wr3_not0 _ _ rfl _ _ _ _ _ _ (.inl (show 1 < 3 by decide)), wr3_not0 _ _ rfl _ _ _ _ _ _ (.inl (show 1 < 2 by decide)), wr3_mem _ _ rfl _ _ _ _ _ _ 0 j1 j2 rfl (Nat.zero_add _).symm (Nat.zero_add _).symm]
    unfold_payloads
    try dsimp only
    pointwise []
    refine Finset.sum_congr rfl fun d _ => ?_
    rw [LA, rd3z (ho := by decide), harg2.read_unread]
    rfl
  | ⟨2, _⟩ =>
    rw [wr3_not0 _ _ rfl _ _ _ _ _ _ (.inl (show 2 < 4 by decide)), wr3_not0 _ _ rfl _ _ _ _ _ _ (.inl (show 2 < 3 by decide)), wr3_mem _ _ rfl _ _ _ _ _ _ 0 j1 j2 rfl (Nat.zero_add _).symm (Nat.zero_add _).symm]
    unfold_payloads
    try dsimp only
    pointwise []
    refine Finset.sum_congr rfl fun d _ => ?_
    rw [LA, rd3z (ho := by decide), harg2.read_unread]
    rfl
  | ⟨3, _⟩ =>
    rw [wr3_not0 _ _ rfl _ _ _ _ _ _ (.inl (show 3 < 4 by decide)), wr3_mem _ _ rfl _ _ _ _ _ _ 0 j1 j2 rfl (Nat.zero_add _).symm (Nat.zero_add _).symm]
    unfold_payloads
    try dsimp only
    pointwise []
    refine Finset.sum_congr rfl fun d _ => ?_
    rw [LA, rd3z (ho := by decide), harg2.read_unread]
    rfl
  | ⟨4, _⟩ =>
    rw [wr3_mem _ _ rfl _ _ _ _ _ _ 0 j1 j2 rfl (Nat.zero_add _).symm (Nat.zero_add _).symm]
    unfold_payloads
    try dsimp only
    pointwise []
    refine Finset.sum_congr rfl fun d _ => ?_
    rw [LA, rd3z (ho := by decide), harg2.read_unread]
    rfl

set_option maxHeartbeats 2000000 in
theorem x15_C (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) :
    arg15.view.read (Elt Ideal) (arg15.view.writes (Elt Ideal) arg15.view.junk (kernelRun0_C.sl.HS5_4 c arg4 harg4 arg5 harg5 x2 x3)) = WV x2 x3 := by
  have LA : ∀ R d, arg4.view.readAt (Elt Ideal) (Rect.unit (s := S512x1024) ![0, 0] ![512, 1024] inb_S512x1024_S512x1024_0_0).toLoadRect (harg4.unread x2) (ix2 R d) = x2 (ix2 R d) :=
    fun R d => by rw [rd2z, harg4.read_unread]
  funext j
  idx_vars j
  obtain rfl : j0 = 0 := Subsingleton.elim _ _
  obtain ⟨q, l, rfl⟩ := col_eq j1
  sl_unfold_run_names
  dsimp only
  match q with
  | ⟨0, _⟩ =>
    rw [wr2_not1 _ _ rfl _ _ _ _ _ (by simp only [col]; omega), wr2_not1 _ _ rfl _ _ _ _ _ (by simp only [col]; omega), wr2_not1 _ _ rfl _ _ _ _ _ (by simp only [col]; omega), wr2_mem _ _ rfl _ _ _ _ _ 0 l rfl rfl]
    unfold_payloads
    try dsimp only
    pointwise []
    simp only [LA]
    rw [rd2l (h := by decide), harg5.read_unread]
    simp only [WV, nrm, nrm.sq, col, Fin.val_zero, Nat.mul_zero, Nat.zero_add]
    rfl
  | ⟨1, _⟩ =>
    rw [wr2_not1 _ _ rfl _ _ _ _ _ (by simp only [col]; omega), wr2_not1 _ _ rfl _ _ _ _ _ (by simp only [col]; omega), wr2_mem _ _ rfl _ _ _ _ _ 0 l rfl rfl]
    unfold_payloads
    try dsimp only
    pointwise []
    simp only [LA]
    rw [rd2l (h := by decide), harg5.read_unread]
    simp only [WV, nrm, nrm.sq, col, Fin.val_zero, Nat.mul_zero, Nat.zero_add]
    rfl
  | ⟨2, _⟩ =>
    rw [wr2_not1 _ _ rfl _ _ _ _ _ (by simp only [col]; omega), wr2_mem _ _ rfl _ _ _ _ _ 0 l rfl rfl]
    unfold_payloads
    try dsimp only
    pointwise []
    simp only [LA]
    rw [rd2l (h := by decide), harg5.read_unread]
    simp only [WV, nrm, nrm.sq, col, Fin.val_zero, Nat.mul_zero, Nat.zero_add]
    rfl
  | ⟨3, _⟩ =>
    rw [wr2_mem _ _ rfl _ _ _ _ _ 0 l rfl rfl]
    unfold_payloads
    try dsimp only
    pointwise []
    simp only [LA]
    rw [rd2l (h := by decide), harg5.read_unread]
    simp only [WV, nrm, nrm.sq, col, Fin.val_zero, Nat.mul_zero, Nat.zero_add]
    rfl

set_option maxHeartbeats 2000000 in
theorem x11_A (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : cond0_0 i) (hc1 : ¬cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) :
    arg11.view.read (Elt Ideal) (arg11.view.writes (Elt Ideal) arg11.view.junk (kernelRun0_A.sl.HS1_25 c arg3 harg3 x1 xt0)) = SV x1 (NV xt0) := by
  funext j
  idx_vars j
  obtain ⟨b, s, rfl⟩ : ∃ b s, j1 = row b s := ⟨rB j1, rS j1, (row_eq j1).symm⟩
  rw [SV_row]
  sl_unfold_run_names
  dsimp only
  match j0, b with
  | ⟨4, _⟩, ⟨4, _⟩ =>
    rw [wr3_mem _ _ rfl _ _ _ _ _ _ 0 s j2 rfl rfl (Nat.zero_add _).symm]
    unfold_payloads
    try dsimp only
    pointwise []
    rw [rd3r (ho := by decide) (hp := by decide), harg3.read_unread]
    rfl
  | ⟨4, _⟩, ⟨3, _⟩ =>
    rw [wr3_not1 _ _ rfl _ _ _ _ _ _ (.inl (show 128 * 3 + s.val < 512 by omega)), wr3_mem _ _ rfl _ _ _ _ _ _ 0 s j2 rfl rfl (Nat.zero_add _).symm]
    unfold_payloads
    try dsimp only
    pointwise []
    rw [rd3r (ho := by decide) (hp := by decide), harg3.read_unread]
    rfl
  | ⟨4, _⟩, ⟨2, _⟩ =>
    rw [wr3_not1 _ _ rfl _ _ _ _ _ _ (.inl (show 128 * 2 + s.val < 512 by omega)), wr3_not1 _ _ rfl _ _ _ _ _ _ (.inl (show 128 * 2 + s.val < 384 by omega)), wr3_mem _ _ rfl _ _ _ _ _ _ 0 s j2 rfl rfl (Nat.zero_add _).symm]
    unfold_payloads
    try dsimp only
    pointwise []
    rw [rd3r (ho := by decide) (hp := by decide), harg3.read_unread]
    rfl
  | ⟨4, _⟩, ⟨1, _⟩ =>
    rw [wr3_not1 _ _ rfl _ _ _ _ _ _ (.inl (show 128 * 1 + s.val < 512 by omega)), wr3_not1 _ _ rfl _ _ _ _ _ _ (.inl (show 128 * 1 + s.val < 384 by omega)), wr3_not1 _ _ rfl _ _ _ _ _ _ (.inl (show 128 * 1 + s.val < 256 by omega)), wr3_mem _ _ rfl _ _ _ _ _ _ 0 s j2 rfl rfl (Nat.zero_add _).symm]
    unfold_payloads
    try dsimp only
    pointwise []
    rw [rd3r (ho := by decide) (hp := by decide), harg3.read_unread]
    rfl
  | ⟨4, _⟩, ⟨0, _⟩ =>
    rw [wr3_not1 _ _ rfl _ _ _ _ _ _ (.inl (show 128 * 0 + s.val < 512 by omega)), wr3_not1 _ _ rfl _ _ _ _ _ _ (.inl (show 128 * 0 + s.val < 384 by omega)), wr3_not1 _ _ rfl _ _ _ _ _ _ (.inl (show 128 * 0 + s.val < 256 by omega)), wr3_not1 _ _ rfl _ _ _ _ _ _ (.inl (show 128 * 0 + s.val < 128 by omega)), wr3_mem _ _ rfl _ _ _ _ _ _ 0 s j2 rfl rfl (Nat.zero_add _).symm]
    unfold_payloads
    try dsimp only
    pointwise []
    rw [rd3r (ho := by decide) (hp := by decide), harg3.read_unread]
    rfl
  | ⟨3, _⟩, ⟨4, _⟩ =>
    rw [wr3_not0 _ _ rfl _ _ _ _ _ _ (.inl (show 3 < 4 by decide)), wr3_not0 _ _ rfl _ _ _ _ _ _ (.inl (show 3 < 4 by decide)), wr3_not0 _ _ rfl _ _ _ _ _ _ (.inl (show 3 < 4 by decide)), wr3_not0 _ _ rfl _ _ _ _ _ _ (.inl (show 3 < 4 by decide)), wr3_not0 _ _ rfl _ _ _ _ _ _ (.inl (show 3 < 4 by decide)), wr3_mem _ _ rfl _ _ _ _ _ _ 0 s j2 rfl rfl (Nat.zero_add _).symm]
    unfold_payloads
    try dsimp only
    pointwise []
    rw [rd3r (ho := by decide) (hp := by decide), harg3.read_unread]
    rfl
  | ⟨3, _⟩, ⟨3, _⟩ =>
    rw [wr3_not0 _ _ rfl _ _ _ _ _ _ (.inl (show 3 < 4 by decide)), wr3_not0 _ _ rfl _ _ _ _ _ _ (.inl (show 3 < 4 by decide)), wr3_not0 _ _ rfl _ _ _ _ _ _ (.inl (show 3 < 4 by decide)), wr3_not0 _ _ rfl _ _ _ _ _ _ (.inl (show 3 < 4 by decide)), wr3_not0 _ _ rfl _ _ _ _ _ _ (.inl (show 3 < 4 by decide)), wr3_not1 _ _ rfl _ _ _ _ _ _ (.inl (show 128 * 3 + s.val < 512 by omega)), wr3_mem _ _ rfl _ _ _ _ _ _ 0 s j2 rfl rfl (Nat.zero_add _).symm]
    unfold_payloads
    try dsimp only
    pointwise []
    rw [rd3r (ho := by decide) (hp := by decide), harg3.read_unread]
    rfl
  | ⟨3, _⟩, ⟨2, _⟩ =>
    rw [wr3_not0 _ _ rfl _ _ _ _ _ _ (.inl (show 3 < 4 by decide)), wr3_not0 _ _ rfl _ _ _ _ _ _ (.inl (show 3 < 4 by decide)), wr3_not0 _ _ rfl _ _ _ _ _ _ (.inl (show 3 < 4 by decide)), wr3_not0 _ _ rfl _ _ _ _ _ _ (.inl (show 3 < 4 by decide)), wr3_not0 _ _ rfl _ _ _ _ _ _ (.inl (show 3 < 4 by decide)), wr3_not1 _ _ rfl _ _ _ _ _ _ (.inl (show 128 * 2 + s.val < 512 by omega)), wr3_not1 _ _ rfl _ _ _ _ _ _ (.inl (show 128 * 2 + s.val < 384 by omega)), wr3_mem _ _ rfl _ _ _ _ _ _ 0 s j2 rfl rfl (Nat.zero_add _).symm]
    unfold_payloads
    try dsimp only
    pointwise []
    rw [rd3r (ho := by decide) (hp := by decide), harg3.read_unread]
    rfl
  | ⟨3, _⟩, ⟨1, _⟩ =>
    rw [wr3_not0 _ _ rfl _ _ _ _ _ _ (.inl (show 3 < 4 by decide)), wr3_not0 _ _ rfl _ _ _ _ _ _ (.inl (show 3 < 4 by decide)), wr3_not0 _ _ rfl _ _ _ _ _ _ (.inl (show 3 < 4 by decide)), wr3_not0 _ _ rfl _ _ _ _ _ _ (.inl (show 3 < 4 by decide)), wr3_not0 _ _ rfl _ _ _ _ _ _ (.inl (show 3 < 4 by decide)), wr3_not1 _ _ rfl _ _ _ _ _ _ (.inl (show 128 * 1 + s.val < 512 by omega)), wr3_not1 _ _ rfl _ _ _ _ _ _ (.inl (show 128 * 1 + s.val < 384 by omega)), wr3_not1 _ _ rfl _ _ _ _ _ _ (.inl (show 128 * 1 + s.val < 256 by omega)), wr3_mem _ _ rfl _ _ _ _ _ _ 0 s j2 rfl rfl (Nat.zero_add _).symm]
    unfold_payloads
    try dsimp only
    pointwise []
    rw [rd3r (ho := by decide) (hp := by decide), harg3.read_unread]
    rfl
  | ⟨3, _⟩, ⟨0, _⟩ =>
    rw [wr3_not0 _ _ rfl _ _ _ _ _ _ (.inl (show 3 < 4 by decide)), wr3_not0 _ _ rfl _ _ _ _ _ _ (.inl (show 3 < 4 by decide)), wr3_not0 _ _ rfl _ _ _ _ _ _ (.inl (show 3 < 4 by decide)), wr3_not0 _ _ rfl _ _ _ _ _ _ (.inl (show 3 < 4 by decide)), wr3_not0 _ _ rfl _ _ _ _ _ _ (.inl (show 3 < 4 by decide)), wr3_not1 _ _ rfl _ _ _ _ _ _ (.inl (show 128 * 0 + s.val < 512 by omega)), wr3_not1 _ _ rfl _ _ _ _ _ _ (.inl (show 128 * 0 + s.val < 384 by omega)), wr3_not1 _ _ rfl _ _ _ _ _ _ (.inl (show 128 * 0 + s.val < 256 by omega)), wr3_not1 _ _ rfl _ _ _ _ _ _ (.inl (show 128 * 0 + s.val < 128 by omega)), wr3_mem _ _ rfl _ _ _ _ _ _ 0 s j2 rfl rfl (Nat.zero_add _).symm]
    unfold_payloads
    try dsimp only
    pointwise []
    rw [rd3r (ho := by decide) (hp := by decide), harg3.read_unread]
    rfl
  | ⟨2, _⟩, ⟨4, _⟩ =>
    rw [wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 3 by decide)), wr3_not0 _ _ rfl _ _ _ _ _ _ (.inl (show 2 < 3 by decide)), wr3_not0 _ _ rfl _ _ _ _ _ _ (.inl (show 2 < 3 by decide)), wr3_not0 _ _ rfl _ _ _ _ _ _ (.inl (show 2 < 3 by decide)), wr3_not0 _ _ rfl _ _ _ _ _ _ (.inl (show 2 < 3 by decide)), wr3_mem _ _ rfl _ _ _ _ _ _ 0 s j2 rfl rfl (Nat.zero_add _).symm]
    unfold_payloads
    try dsimp only
    pointwise []
    rw [rd3r (ho := by decide) (hp := by decide), harg3.read_unread]
    rfl
  | ⟨2, _⟩, ⟨3, _⟩ =>
    rw [wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 3 by decide)), wr3_not0 _ _ rfl _ _ _ _ _ _ (.inl (show 2 < 3 by decide)), wr3_not0 _ _ rfl _ _ _ _ _ _ (.inl (show 2 < 3 by decide)), wr3_not0 _ _ rfl _ _ _ _ _ _ (.inl (show 2 < 3 by decide)), wr3_not0 _ _ rfl _ _ _ _ _ _ (.inl (show 2 < 3 by decide)), wr3_not1 _ _ rfl _ _ _ _ _ _ (.inl (show 128 * 3 + s.val < 512 by omega)), wr3_mem _ _ rfl _ _ _ _ _ _ 0 s j2 rfl rfl (Nat.zero_add _).symm]
    unfold_payloads
    try dsimp only
    pointwise []
    rw [rd3r (ho := by decide) (hp := by decide), harg3.read_unread]
    rfl
  | ⟨2, _⟩, ⟨2, _⟩ =>
    rw [wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 3 by decide)), wr3_not0 _ _ rfl _ _ _ _ _ _ (.inl (show 2 < 3 by decide)), wr3_not0 _ _ rfl _ _ _ _ _ _ (.inl (show 2 < 3 by decide)), wr3_not0 _ _ rfl _ _ _ _ _ _ (.inl (show 2 < 3 by decide)), wr3_not0 _ _ rfl _ _ _ _ _ _ (.inl (show 2 < 3 by decide)), wr3_not1 _ _ rfl _ _ _ _ _ _ (.inl (show 128 * 2 + s.val < 512 by omega)), wr3_not1 _ _ rfl _ _ _ _ _ _ (.inl (show 128 * 2 + s.val < 384 by omega)), wr3_mem _ _ rfl _ _ _ _ _ _ 0 s j2 rfl rfl (Nat.zero_add _).symm]
    unfold_payloads
    try dsimp only
    pointwise []
    rw [rd3r (ho := by decide) (hp := by decide), harg3.read_unread]
    rfl
  | ⟨2, _⟩, ⟨1, _⟩ =>
    rw [wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 3 by decide)), wr3_not0 _ _ rfl _ _ _ _ _ _ (.inl (show 2 < 3 by decide)), wr3_not0 _ _ rfl _ _ _ _ _ _ (.inl (show 2 < 3 by decide)), wr3_not0 _ _ rfl _ _ _ _ _ _ (.inl (show 2 < 3 by decide)), wr3_not0 _ _ rfl _ _ _ _ _ _ (.inl (show 2 < 3 by decide)), wr3_not1 _ _ rfl _ _ _ _ _ _ (.inl (show 128 * 1 + s.val < 512 by omega)), wr3_not1 _ _ rfl _ _ _ _ _ _ (.inl (show 128 * 1 + s.val < 384 by omega)), wr3_not1 _ _ rfl _ _ _ _ _ _ (.inl (show 128 * 1 + s.val < 256 by omega)), wr3_mem _ _ rfl _ _ _ _ _ _ 0 s j2 rfl rfl (Nat.zero_add _).symm]
    unfold_payloads
    try dsimp only
    pointwise []
    rw [rd3r (ho := by decide) (hp := by decide), harg3.read_unread]
    rfl
  | ⟨2, _⟩, ⟨0, _⟩ =>
    rw [wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 4 by decide)), wr3_not0 _ _ rfl _ _ _ _ _ _ (.inl (show 2 < 3 by decide)), wr3_not0 _ _ rfl _ _ _ _ _ _ (.inl (show 2 < 3 by decide)), wr3_not0 _ _ rfl _ _ _ _ _ _ (.inl (show 2 < 3 by decide)), wr3_not0 _ _ rfl _ _ _ _ _ _ (.inl (show 2 < 3 by decide)), wr3_not0 _ _ rfl _ _ _ _ _ _ (.inl (show 2 < 3 by decide)), wr3_not1 _ _ rfl _ _ _ _ _ _ (.inl (show 128 * 0 + s.val < 512 by omega)), wr3_not1 _ _ rfl _ _ _ _ _ _ (.inl (show 128 * 0 + s.val < 384 by omega)), wr3_not1 _ _ rfl _ _ _ _ _ _ (.inl (show 128 * 0 + s.val < 256 by omega)), wr3_not1 _ _ rfl _ _ _ _ _ _ (.inl (show 128 * 0 + s.val < 128 by omega)), wr3_mem _ _ rfl _ _ _ _ _ _ 0 s j2 rfl rfl (Nat.zero_add _).symm]
    unfold_payloads
    try dsimp only
    pointwise []
    rw [rd3r (ho := by decide) (hp := by decide), harg3.read_unread]
    rfl
  | ⟨1, _⟩, ⟨4, _⟩ =>
    rw [wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 2 by decide)), wr3_not0 _ _ rfl _ _ _ _ _ _ (.inl (show 1 < 2 by decide)), wr3_not0 _ _ rfl _ _ _ _ _ _ (.inl (show 1 < 2 by decide)), wr3_not0 _ _ rfl _ _ _ _ _ _ (.inl (show 1 < 2 by decide)), wr3_not0 _ _ rfl _ _ _ _ _ _ (.inl (show 1 < 2 by decide)), wr3_mem _ _ rfl _ _ _ _ _ _ 0 s j2 rfl rfl (Nat.zero_add _).symm]
    unfold_payloads
    try dsimp only
    pointwise []
    rw [rd1 (ho := by decide), rd3r (ho := by decide) (hp := by decide), harg3.read_unread]
    rfl
  | ⟨1, _⟩, ⟨3, _⟩ =>
    rw [wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 2 by decide)), wr3_not0 _ _ rfl _ _ _ _ _ _ (.inl (show 1 < 2 by decide)), wr3_not0 _ _ rfl _ _ _ _ _ _ (.inl (show 1 < 2 by decide)), wr3_not0 _ _ rfl _ _ _ _ _ _ (.inl (show 1 < 2 by decide)), wr3_not0 _ _ rfl _ _ _ _ _ _ (.inl (show 1 < 2 by decide)), wr3_not1 _ _ rfl _ _ _ _ _ _ (.inl (show 128 * 3 + s.val < 512 by omega)), wr3_mem _ _ rfl _ _ _ _ _ _ 0 s j2 rfl rfl (Nat.zero_add _).symm]
    unfold_payloads
    try dsimp only
    pointwise []
    rw [rd1 (ho := by decide), rd3r (ho := by decide) (hp := by decide), harg3.read_unread]
    rfl
  | ⟨1, _⟩, ⟨2, _⟩ =>
    rw [wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 2 by decide)), wr3_not0 _ _ rfl _ _ _ _ _ _ (.inl (show 1 < 2 by decide)), wr3_not0 _ _ rfl _ _ _ _ _ _ (.inl (show 1 < 2 by decide)), wr3_not0 _ _ rfl _ _ _ _ _ _ (.inl (show 1 < 2 by decide)), wr3_not0 _ _ rfl _ _ _ _ _ _ (.inl (show 1 < 2 by decide)), wr3_not1 _ _ rfl _ _ _ _ _ _ (.inl (show 128 * 2 + s.val < 512 by omega)), wr3_not1 _ _ rfl _ _ _ _ _ _ (.inl (show 128 * 2 + s.val < 384 by omega)), wr3_mem _ _ rfl _ _ _ _ _ _ 0 s j2 rfl rfl (Nat.zero_add _).symm]
    unfold_payloads
    try dsimp only
    pointwise []
    rw [rd1 (ho := by decide), rd3r (ho := by decide) (hp := by decide), harg3.read_unread]
    rfl
  | ⟨1, _⟩, ⟨1, _⟩ =>
    rw [wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 2 by decide)), wr3_not0 _ _ rfl _ _ _ _ _ _ (.inl (show 1 < 2 by decide)), wr3_not0 _ _ rfl _ _ _ _ _ _ (.inl (show 1 < 2 by decide)), wr3_not0 _ _ rfl _ _ _ _ _ _ (.inl (show 1 < 2 by decide)), wr3_not0 _ _ rfl _ _ _ _ _ _ (.inl (show 1 < 2 by decide)), wr3_not1 _ _ rfl _ _ _ _ _ _ (.inl (show 128 * 1 + s.val < 512 by omega)), wr3_not1 _ _ rfl _ _ _ _ _ _ (.inl (show 128 * 1 + s.val < 384 by omega)), wr3_not1 _ _ rfl _ _ _ _ _ _ (.inl (show 128 * 1 + s.val < 256 by omega)), wr3_mem _ _ rfl _ _ _ _ _ _ 0 s j2 rfl rfl (Nat.zero_add _).symm]
    unfold_payloads
    try dsimp only
    pointwise []
    rw [rd1 (ho := by decide), rd3r (ho := by decide) (hp := by decide), harg3.read_unread]
    rfl
  | ⟨1, _⟩, ⟨0, _⟩ =>
    rw [wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 4 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 3 by decide)), wr3_not0 _ _ rfl _ _ _ _ _ _ (.inl (show 1 < 2 by decide)), wr3_not0 _ _ rfl _ _ _ _ _ _ (.inl (show 1 < 2 by decide)), wr3_not0 _ _ rfl _ _ _ _ _ _ (.inl (show 1 < 2 by decide)), wr3_not0 _ _ rfl _ _ _ _ _ _ (.inl (show 1 < 2 by decide)), wr3_not0 _ _ rfl _ _ _ _ _ _ (.inl (show 1 < 2 by decide)), wr3_not1 _ _ rfl _ _ _ _ _ _ (.inl (show 128 * 0 + s.val < 512 by omega)), wr3_not1 _ _ rfl _ _ _ _ _ _ (.inl (show 128 * 0 + s.val < 384 by omega)), wr3_not1 _ _ rfl _ _ _ _ _ _ (.inl (show 128 * 0 + s.val < 256 by omega)), wr3_not1 _ _ rfl _ _ _ _ _ _ (.inl (show 128 * 0 + s.val < 128 by omega)), wr3_mem _ _ rfl _ _ _ _ _ _ 0 s j2 rfl rfl (Nat.zero_add _).symm]
    unfold_payloads
    try dsimp only
    pointwise []
    rw [rd1 (ho := by decide), rd3r (ho := by decide) (hp := by decide), harg3.read_unread]
    rfl
  | ⟨0, _⟩, ⟨4, _⟩ =>
    rw [wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 1 by decide)), wr3_not0 _ _ rfl _ _ _ _ _ _ (.inl (show 0 < 1 by decide)), wr3_not0 _ _ rfl _ _ _ _ _ _ (.inl (show 0 < 1 by decide)), wr3_not0 _ _ rfl _ _ _ _ _ _ (.inl (show 0 < 1 by decide)), wr3_not0 _ _ rfl _ _ _ _ _ _ (.inl (show 0 < 1 by decide)), wr3_mem _ _ rfl _ _ _ _ _ _ 0 s j2 rfl rfl (Nat.zero_add _).symm]
    unfold_payloads
    try dsimp only
    pointwise []
    rw [rd1 (ho := by decide), rd3r (ho := by decide) (hp := by decide), harg3.read_unread]
    rfl
  | ⟨0, _⟩, ⟨3, _⟩ =>
    rw [wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 1 by decide)), wr3_not0 _ _ rfl _ _ _ _ _ _ (.inl (show 0 < 1 by decide)), wr3_not0 _ _ rfl _ _ _ _ _ _ (.inl (show 0 < 1 by decide)), wr3_not0 _ _ rfl _ _ _ _ _ _ (.inl (show 0 < 1 by decide)), wr3_not0 _ _ rfl _ _ _ _ _ _ (.inl (show 0 < 1 by decide)), wr3_not1 _ _ rfl _ _ _ _ _ _ (.inl (show 128 * 3 + s.val < 512 by omega)), wr3_mem _ _ rfl _ _ _ _ _ _ 0 s j2 rfl rfl (Nat.zero_add _).symm]
    unfold_payloads
    try dsimp only
    pointwise []
    rw [rd1 (ho := by decide), rd3r (ho := by decide) (hp := by decide), harg3.read_unread]
    rfl
  | ⟨0, _⟩, ⟨2, _⟩ =>
    rw [wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 1 by decide)), wr3_not0 _ _ rfl _ _ _ _ _ _ (.inl (show 0 < 1 by decide)), wr3_not0 _ _ rfl _ _ _ _ _ _ (.inl (show 0 < 1 by decide)), wr3_not0 _ _ rfl _ _ _ _ _ _ (.inl (show 0 < 1 by decide)), wr3_not0 _ _ rfl _ _ _ _ _ _ (.inl (show 0 < 1 by decide)), wr3_not1 _ _ rfl _ _ _ _ _ _ (.inl (show 128 * 2 + s.val < 512 by omega)), wr3_not1 _ _ rfl _ _ _ _ _ _ (.inl (show 128 * 2 + s.val < 384 by omega)), wr3_mem _ _ rfl _ _ _ _ _ _ 0 s j2 rfl rfl (Nat.zero_add _).symm]
    unfold_payloads
    try dsimp only
    pointwise []
    rw [rd1 (ho := by decide), rd3r (ho := by decide) (hp := by decide), harg3.read_unread]
    rfl
  | ⟨0, _⟩, ⟨1, _⟩ =>
    rw [wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 1 by decide)), wr3_not0 _ _ rfl _ _ _ _ _ _ (.inl (show 0 < 1 by decide)), wr3_not0 _ _ rfl _ _ _ _ _ _ (.inl (show 0 < 1 by decide)), wr3_not0 _ _ rfl _ _ _ _ _ _ (.inl (show 0 < 1 by decide)), wr3_not0 _ _ rfl _ _ _ _ _ _ (.inl (show 0 < 1 by decide)), wr3_not1 _ _ rfl _ _ _ _ _ _ (.inl (show 128 * 1 + s.val < 512 by omega)), wr3_not1 _ _ rfl _ _ _ _ _ _ (.inl (show 128 * 1 + s.val < 384 by omega)), wr3_not1 _ _ rfl _ _ _ _ _ _ (.inl (show 128 * 1 + s.val < 256 by omega)), wr3_mem _ _ rfl _ _ _ _ _ _ 0 s j2 rfl rfl (Nat.zero_add _).symm]
    unfold_payloads
    try dsimp only
    pointwise []
    rw [rd1 (ho := by decide), rd3r (ho := by decide) (hp := by decide), harg3.read_unread]
    rfl
  | ⟨0, _⟩, ⟨0, _⟩ =>
    rw [wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 4 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 3 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 2 by decide)), wr3_not0 _ _ rfl _ _ _ _ _ _ (.inl (show 0 < 1 by decide)), wr3_not0 _ _ rfl _ _ _ _ _ _ (.inl (show 0 < 1 by decide)), wr3_not0 _ _ rfl _ _ _ _ _ _ (.inl (show 0 < 1 by decide)), wr3_not0 _ _ rfl _ _ _ _ _ _ (.inl (show 0 < 1 by decide)), wr3_not0 _ _ rfl _ _ _ _ _ _ (.inl (show 0 < 1 by decide)), wr3_not1 _ _ rfl _ _ _ _ _ _ (.inl (show 128 * 0 + s.val < 512 by omega)), wr3_not1 _ _ rfl _ _ _ _ _ _ (.inl (show 128 * 0 + s.val < 384 by omega)), wr3_not1 _ _ rfl _ _ _ _ _ _ (.inl (show 128 * 0 + s.val < 256 by omega)), wr3_not1 _ _ rfl _ _ _ _ _ _ (.inl (show 128 * 0 + s.val < 128 by omega)), wr3_mem _ _ rfl _ _ _ _ _ _ 0 s j2 rfl rfl (Nat.zero_add _).symm]
    unfold_payloads
    try dsimp only
    pointwise []
    rw [rd1 (ho := by decide), rd3r (ho := by decide) (hp := by decide), harg3.read_unread]
    rfl

theorem init2 (v : View sig .tc .vmem S5x640x128 .f32) (G) : v.read (Elt Ideal) (v.writes (Elt Ideal) G (kernelRun0_A.sl.HS2_1 (F := Ideal))) = fun _ => Ideal.ofBits .f32 4048155338#32 := by
  funext j
  idx_vars j
  sl_unfold_run_names
  rw [wr3_mem _ _ rfl _ _ _ _ _ _ j0 j1 j2 (Nat.zero_add _).symm (Nat.zero_add _).symm (Nat.zero_add _).symm]
  unfold_payloads
  pointwise []

theorem init3 (v : View sig .tc .vmem S5x640x128 .f32) (G) : v.read (Elt Ideal) (v.writes (Elt Ideal) G (kernelRun0_A.sl.HS3_1 (F := Ideal))) = fun _ => 0 := by
  funext j
  idx_vars j
  sl_unfold_run_names
  rw [wr3_mem _ _ rfl _ _ _ _ _ _ j0 j1 j2 (Nat.zero_add _).symm (Nat.zero_add _).symm (Nat.zero_add _).symm]
  unfold_payloads
  pointwise []

theorem init4 (v : View sig .tc .vmem S4x640x128 .f32) (G) : v.read (Elt Ideal) (v.writes (Elt Ideal) G (kernelRun0_A.sl.HS4_1 (F := Ideal))) = fun _ => 0 := by
  funext j
  idx_vars j
  sl_unfold_run_names
  rw [wr3_mem _ _ rfl _ _ _ _ _ _ j0 j1 j2 (Nat.zero_add _).symm (Nat.zero_add _).symm (Nat.zero_add _).symm]
  unfold_payloads
  pointwise []

end Cert.KernelIdeal.Gen

end
-- ==== Proof.Point.lean ====
/- What one point leaves, as a function of its blocks and of what the point before left, in exact arithmetic. -/
module

public import proofs.«01_k».proof.Proof.Gen.KernelIdeal.Frame
public import proofs.«01_k».proof.Proof.Fill

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

theorem kt2_named : (Named.named κ "kt2" 1116751102#32 : Ideal .f32) = (((Real.log 2)⁻¹ * 50 : ℝ) : EReal) := rfl

/-- The number of valid tokens, a wrapped 32-bit sum. -/
def ntI (nv : Fin 5 → BitVec 32) : BitVec 32 :=
  Scalar.addi (Scalar.addi (Scalar.addi (Scalar.addi (nv 0) (nv 1)) (nv 2)) (nv 3)) (nv 4)

/-- The divisor of the two means: the number of valid tokens where it is positive, else one. -/
def NT (nv : Fin 5 → BitVec 32) : EReal :=
  if (0 : EReal) < (((ntI nv).toInt : ℝ) : EReal) then (((ntI nv).toInt : ℝ) : EReal) else 1

/-- The centre of one prototype of a tile: its scaled teacher scores over all rows, over the divisor. -/
def bcV (x : Vec Ideal S5x640x512 .f32) (s : Vec Ideal S5x640x128 .f32) (w : Vec Ideal S1x512 .f32) (nv : Fin 5 → BitVec 32)
    (q : Fin 4) (l : Fin 128) : EReal :=
  Ideal.div (∑ r : Fin 8, ∑ k ∈ Finset.range 80, bcTerm x s w q k r l) ((((Real.log 2)⁻¹ * 50 : ℝ) : EReal) * NT nv)

theorem init0 (r : Fin 8) (l : Fin 128) : (k0_pay292 (F := Ideal)) (ix2 r l) = 0 ∧ (k0_pay293 (F := Ideal)) (ix2 r l) = 0
    ∧ (k0_pay294 (F := Ideal)) (ix2 r l) = 0 ∧ (k0_pay295 (F := Ideal)) (ix2 r l) = 0 := by
  unfold_payloads
  refine ⟨?_, ?_, ?_, ?_⟩ <;> pointwise []

set_option maxHeartbeats 2000000 in
theorem sA_1 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : cond0_0 i) (hc1 : ¬cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) : sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 = SV x1 (NV xt0) := by
  have hc := scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0
  unfold sout0_A_1
  funext j
  rw [View.read_writes_eq_canon _ _ _ hc, ← View.read_writes_eq_canon arg11.view arg11.view.junk _ hc]
  unfold kernelRun0_A
  exact congrFun (x11_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0) j

set_option maxHeartbeats 2000000 in
theorem sA_2 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : cond0_0 i) (hc1 : ¬cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) : sout0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 = fun j => newM (XV x0 x2) (SV x1 (NV xt0)) (WV x2 x3) x4 (fun _ => Ideal.ofBits .f32 4048155338#32) (j 0) (j 1) (j 2) := by
  have hc := scover0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0
  unfold sout0_A_2
  funext j
  idx_vars j
  rw [View.read_writes_eq_canon _ _ _ hc, ← View.read_writes_eq_canon arg12.view arg12.view.junk _ hc]
  have h := (st_spec Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r_17 c arg2 harg2 arg4 harg4 x0 x2) (harg6.unread x4) (arg10.view.writes (Elt Ideal) arg10.view.junk (kernelRun0_A.sl.HS0_5 c arg2 harg2 arg4 harg4 x0 x2)) (arg11.view.writes (Elt Ideal) arg11.view.junk (kernelRun0_A.sl.HS1_25 c arg3 harg3 x1 xt0)) (arg15.view.writes (Elt Ideal) arg15.view.junk (kernelRun0_A.sl.HS5_4 c arg4 harg4 arg5 harg5 x2 x3)) (arg12.view.writes (Elt Ideal) arg12.view.junk (kernelRun0_A.sl.HS2_1 (F := Ideal))) (arg13.view.writes (Elt Ideal) arg13.view.junk (kernelRun0_A.sl.HS3_1 (F := Ideal))) (arg14.view.writes (Elt Ideal) arg14.view.junk (kernelRun0_A.sl.HS4_1 (F := Ideal))) (k0_pay292, k0_pay293, k0_pay294, k0_pay295) 80 le_rfl).1 j0 j1 j2
  rw [if_pos (by omega), x10_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0, x15_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0, harg6.read_unread, x11_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0, init2] at h
  unfold kernelRun0_A
  dsimp only
  rw [View.writes_append]
  exact h

set_option maxHeartbeats 2000000 in
theorem sA_3 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : cond0_0 i) (hc1 : ¬cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) : sout0_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 = fun j => newL (XV x0 x2) (SV x1 (NV xt0)) (WV x2 x3) x4 (fun _ => Ideal.ofBits .f32 4048155338#32) (fun _ => 0) (j 0) (j 1) (j 2) := by
  have hc := scover0_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0
  unfold sout0_A_3
  funext j
  idx_vars j
  rw [View.read_writes_eq_canon _ _ _ hc, ← View.read_writes_eq_canon arg13.view arg13.view.junk _ hc]
  have h := (st_spec Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r_17 c arg2 harg2 arg4 harg4 x0 x2) (harg6.unread x4) (arg10.view.writes (Elt Ideal) arg10.view.junk (kernelRun0_A.sl.HS0_5 c arg2 harg2 arg4 harg4 x0 x2)) (arg11.view.writes (Elt Ideal) arg11.view.junk (kernelRun0_A.sl.HS1_25 c arg3 harg3 x1 xt0)) (arg15.view.writes (Elt Ideal) arg15.view.junk (kernelRun0_A.sl.HS5_4 c arg4 harg4 arg5 harg5 x2 x3)) (arg12.view.writes (Elt Ideal) arg12.view.junk (kernelRun0_A.sl.HS2_1 (F := Ideal))) (arg13.view.writes (Elt Ideal) arg13.view.junk (kernelRun0_A.sl.HS3_1 (F := Ideal))) (arg14.view.writes (Elt Ideal) arg14.view.junk (kernelRun0_A.sl.HS4_1 (F := Ideal))) (k0_pay292, k0_pay293, k0_pay294, k0_pay295) 80 le_rfl).2.1 j0 j1 j2
  rw [if_pos (by omega), x10_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0, x15_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0, harg6.read_unread, x11_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0, init2, init3] at h
  unfold kernelRun0_A
  dsimp only
  rw [View.writes_append]
  exact h

set_option maxHeartbeats 2000000 in
theorem sA_4 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : cond0_0 i) (hc1 : ¬cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) : sout0_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 = fun j => newA (XV x0 x2) (SV x1 (NV xt0)) (WV x2 x3) x4 (fun _ => Ideal.ofBits .f32 4048155338#32) (fun _ => 0) (j 0) (j 1) (j 2) := by
  have hc := scover0_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0
  unfold sout0_A_4
  funext j
  idx_vars j
  rw [View.read_writes_eq_canon _ _ _ hc, ← View.read_writes_eq_canon arg14.view arg14.view.junk _ hc]
  have h := (st_spec Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r_17 c arg2 harg2 arg4 harg4 x0 x2) (harg6.unread x4) (arg10.view.writes (Elt Ideal) arg10.view.junk (kernelRun0_A.sl.HS0_5 c arg2 harg2 arg4 harg4 x0 x2)) (arg11.view.writes (Elt Ideal) arg11.view.junk (kernelRun0_A.sl.HS1_25 c arg3 harg3 x1 xt0)) (arg15.view.writes (Elt Ideal) arg15.view.junk (kernelRun0_A.sl.HS5_4 c arg4 harg4 arg5 harg5 x2 x3)) (arg12.view.writes (Elt Ideal) arg12.view.junk (kernelRun0_A.sl.HS2_1 (F := Ideal))) (arg13.view.writes (Elt Ideal) arg13.view.junk (kernelRun0_A.sl.HS3_1 (F := Ideal))) (arg14.view.writes (Elt Ideal) arg14.view.junk (kernelRun0_A.sl.HS4_1 (F := Ideal))) (k0_pay292, k0_pay293, k0_pay294, k0_pay295) 80 le_rfl).2.2.1 j0 j1 j2
  rw [if_pos (by omega), x10_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0, x15_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0, harg6.read_unread, x11_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0, init2, init4] at h
  unfold kernelRun0_A
  dsimp only
  rw [View.writes_append]
  exact h

set_option maxHeartbeats 2000000 in
theorem bA (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : cond0_0 i) (hc1 : ¬cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (q : Fin 4) (l : Fin 128) : out0_A_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 (ix2 0 (col q l)) = bcV (XV x0 x2) (SV x1 (NV xt0)) (WV x2 x3) (NV xt0) q l := by
  have hc := cover0_A_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0
  unfold out0_A_7
  rw [View.read_writes_eq_canon _ _ _ hc, ← View.read_writes_eq_canon arg9.view arg9.view.junk _ hc]
  clear hc
  have hT := (st_spec Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r_17 c arg2 harg2 arg4 harg4 x0 x2) (harg6.unread x4) (arg10.view.writes (Elt Ideal) arg10.view.junk (kernelRun0_A.sl.HS0_5 c arg2 harg2 arg4 harg4 x0 x2)) (arg11.view.writes (Elt Ideal) arg11.view.junk (kernelRun0_A.sl.HS1_25 c arg3 harg3 x1 xt0)) (arg15.view.writes (Elt Ideal) arg15.view.junk (kernelRun0_A.sl.HS5_4 c arg4 harg4 arg5 harg5 x2 x3)) (arg12.view.writes (Elt Ideal) arg12.view.junk (kernelRun0_A.sl.HS2_1 (F := Ideal))) (arg13.view.writes (Elt Ideal) arg13.view.junk (kernelRun0_A.sl.HS3_1 (F := Ideal))) (arg14.view.writes (Elt Ideal) arg14.view.junk (kernelRun0_A.sl.HS4_1 (F := Ideal))) (k0_pay292, k0_pay293, k0_pay294, k0_pay295) 80 le_rfl).2.2.2
  rw [x10_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0, x15_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0, x11_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0] at hT
  simp only [init0, zero_add] at hT
  revert hT
  suffices ∀ T, (st_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 (kernelRun0_A.sl.r_17 c arg2 harg2 arg4 harg4 x0 x2) (harg6.unread x4) (arg10.view.writes (Elt Ideal) arg10.view.junk (kernelRun0_A.sl.HS0_5 c arg2 harg2 arg4 harg4 x0 x2)) (arg11.view.writes (Elt Ideal) arg11.view.junk (kernelRun0_A.sl.HS1_25 c arg3 harg3 x1 xt0)) (arg15.view.writes (Elt Ideal) arg15.view.junk (kernelRun0_A.sl.HS5_4 c arg4 harg4 arg5 harg5 x2 x3)) (arg12.view.writes (Elt Ideal) arg12.view.junk (kernelRun0_A.sl.HS2_1 (F := Ideal))) (arg13.view.writes (Elt Ideal) arg13.view.junk (kernelRun0_A.sl.HS3_1 (F := Ideal))) (arg14.view.writes (Elt Ideal) arg14.view.junk (kernelRun0_A.sl.HS4_1 (F := Ideal))) (k0_pay292, k0_pay293, k0_pay294, k0_pay295) (Scf.trips (0#32) (Scalar.addi 0#32 80#32) 1#32)) = T → ((∀ r l, T.1.1 (ix2 r l) = ∑ k ∈ Finset.range 80, bcTerm (XV x0 x2) (SV x1 (NV xt0)) (WV x2 x3) 0 k r l)
      ∧ (∀ r l, T.1.2.1 (ix2 r l) = ∑ k ∈ Finset.range 80, bcTerm (XV x0 x2) (SV x1 (NV xt0)) (WV x2 x3) 1 k r l)
      ∧ (∀ r l, T.1.2.2.1 (ix2 r l) = ∑ k ∈ Finset.range 80, bcTerm (XV x0 x2) (SV x1 (NV xt0)) (WV x2 x3) 2 k r l)
      ∧ (∀ r l, T.1.2.2.2 (ix2 r l) = ∑ k ∈ Finset.range 80, bcTerm (XV x0 x2) (SV x1 (NV xt0)) (WV x2 x3) 3 k r l)) →
      arg9.view.read (Elt Ideal) (arg9.view.writes (Elt Ideal) arg9.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0).2.2.1) (ix2 0 (col q l)) = bcV (XV x0 x2) (SV x1 (NV xt0)) (WV x2 x3) (NV xt0) q l from
    fun hT => this _ rfl hT
  unfold kernelRun0_A
  dsimp only
  match q with
  | ⟨0, _⟩ =>
    rw [wr2_not1 _ _ rfl _ _ _ _ _ (.inl (show 128 * 0 + l.val < 384 by omega)), wr2_not1 _ _ rfl _ _ _ _ _ (.inl (show 128 * 0 + l.val < 256 by omega)), wr2_not1 _ _ rfl _ _ _ _ _ (.inl (show 128 * 0 + l.val < 128 by omega)), wr2_mem _ _ rfl _ _ _ _ _ 0 l rfl (show 128 * 0 + l.val = 0 + l.val by omega)]
    sl_unfold_run_names
    intro T hT
    rw [hT]
    clear hT
    rintro ⟨h0, h1, h2, h3⟩
    unfold_payloads
    try dsimp only
    pointwise []
    simp only [h0, kt2_named]
    iterate 5 rw [rd1 (ho := by decide)]
    rfl
  | ⟨1, _⟩ =>
    rw [wr2_not1 _ _ rfl _ _ _ _ _ (.inl (show 128 * 1 + l.val < 384 by omega)), wr2_not1 _ _ rfl _ _ _ _ _ (.inl (show 128 * 1 + l.val < 256 by omega)), wr2_mem _ _ rfl _ _ _ _ _ 0 l rfl rfl]
    sl_unfold_run_names
    intro T hT
    rw [hT]
    clear hT
    rintro ⟨h0, h1, h2, h3⟩
    unfold_payloads
    try dsimp only
    pointwise []
    simp only [h1, kt2_named]
    iterate 5 rw [rd1 (ho := by decide)]
    rfl
  | ⟨2, _⟩ =>
    rw [wr2_not1 _ _ rfl _ _ _ _ _ (.inl (show 128 * 2 + l.val < 384 by omega)), wr2_mem _ _ rfl _ _ _ _ _ 0 l rfl rfl]
    sl_unfold_run_names
    intro T hT
    rw [hT]
    clear hT
    rintro ⟨h0, h1, h2, h3⟩
    unfold_payloads
    try dsimp only
    pointwise []
    simp only [h2, kt2_named]
    iterate 5 rw [rd1 (ho := by decide)]
    rfl
  | ⟨3, _⟩ =>
    rw [wr2_mem _ _ rfl _ _ _ _ _ 0 l rfl rfl]
    sl_unfold_run_names
    intro T hT
    rw [hT]
    clear hT
    rintro ⟨h0, h1, h2, h3⟩
    unfold_payloads
    try dsimp only
    pointwise []
    simp only [h3, kt2_named]
    iterate 5 rw [rd1 (ho := by decide)]
    rfl

set_option maxHeartbeats 2000000 in
theorem sB_2 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : ¬cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) : sout0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 = fun j => newM (XV x0 x2) xs1 (WV x2 x3) x4 xs2 (j 0) (j 1) (j 2) := by
  have hc := scover0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4
  unfold sout0_B_2
  funext j
  idx_vars j
  rw [View.read_writes_eq_canon _ _ _ hc, ← View.read_writes_eq_canon arg12.view (harg12.unread xs2) _ hc]
  have h := (st_spec Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 (kernelRun0_B.sl.r_3 c arg2 harg2 arg4 harg4 x0 x2) (harg6.unread x4) (arg10.view.writes (Elt Ideal) arg10.view.junk (kernelRun0_B.sl.HS0_5 c arg2 harg2 arg4 harg4 x0 x2)) (harg11.unread xs1) (arg15.view.writes (Elt Ideal) arg15.view.junk (kernelRun0_B.sl.HS5_4 c arg4 harg4 arg5 harg5 x2 x3)) (harg12.unread xs2) (harg13.unread xs3) (harg14.unread xs4) (k0_pay292, k0_pay293, k0_pay294, k0_pay295) 80 le_rfl).1 j0 j1 j2
  rw [if_pos (by omega), x10_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, x15_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, harg6.read_unread, harg11.read_unread, harg12.read_unread] at h
  unfold kernelRun0_B
  dsimp only
  exact h

set_option maxHeartbeats 2000000 in
theorem sB_3 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : ¬cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) : sout0_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 = fun j => newL (XV x0 x2) xs1 (WV x2 x3) x4 xs2 xs3 (j 0) (j 1) (j 2) := by
  have hc := scover0_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4
  unfold sout0_B_3
  funext j
  idx_vars j
  rw [View.read_writes_eq_canon _ _ _ hc, ← View.read_writes_eq_canon arg13.view (harg13.unread xs3) _ hc]
  have h := (st_spec Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 (kernelRun0_B.sl.r_3 c arg2 harg2 arg4 harg4 x0 x2) (harg6.unread x4) (arg10.view.writes (Elt Ideal) arg10.view.junk (kernelRun0_B.sl.HS0_5 c arg2 harg2 arg4 harg4 x0 x2)) (harg11.unread xs1) (arg15.view.writes (Elt Ideal) arg15.view.junk (kernelRun0_B.sl.HS5_4 c arg4 harg4 arg5 harg5 x2 x3)) (harg12.unread xs2) (harg13.unread xs3) (harg14.unread xs4) (k0_pay292, k0_pay293, k0_pay294, k0_pay295) 80 le_rfl).2.1 j0 j1 j2
  rw [if_pos (by omega), x10_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, x15_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, harg6.read_unread, harg11.read_unread, harg12.read_unread, harg13.read_unread] at h
  unfold kernelRun0_B
  dsimp only
  exact h

set_option maxHeartbeats 2000000 in
theorem sB_4 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : ¬cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) : sout0_B_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 = fun j => newA (XV x0 x2) xs1 (WV x2 x3) x4 xs2 xs4 (j 0) (j 1) (j 2) := by
  have hc := scover0_B_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4
  unfold sout0_B_4
  funext j
  idx_vars j
  rw [View.read_writes_eq_canon _ _ _ hc, ← View.read_writes_eq_canon arg14.view (harg14.unread xs4) _ hc]
  have h := (st_spec Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 (kernelRun0_B.sl.r_3 c arg2 harg2 arg4 harg4 x0 x2) (harg6.unread x4) (arg10.view.writes (Elt Ideal) arg10.view.junk (kernelRun0_B.sl.HS0_5 c arg2 harg2 arg4 harg4 x0 x2)) (harg11.unread xs1) (arg15.view.writes (Elt Ideal) arg15.view.junk (kernelRun0_B.sl.HS5_4 c arg4 harg4 arg5 harg5 x2 x3)) (harg12.unread xs2) (harg13.unread xs3) (harg14.unread xs4) (k0_pay292, k0_pay293, k0_pay294, k0_pay295) 80 le_rfl).2.2.1 j0 j1 j2
  rw [if_pos (by omega), x10_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, x15_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, harg6.read_unread, harg11.read_unread, harg12.read_unread, harg14.read_unread] at h
  unfold kernelRun0_B
  dsimp only
  exact h

set_option maxHeartbeats 2000000 in
theorem bB (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : ¬cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) (q : Fin 4) (l : Fin 128) : out0_B_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 (ix2 0 (col q l)) = bcV (XV x0 x2) xs1 (WV x2 x3) (NV xt0) q l := by
  have hc := cover0_B_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4
  unfold out0_B_7
  rw [View.read_writes_eq_canon _ _ _ hc, ← View.read_writes_eq_canon arg9.view arg9.view.junk _ hc]
  clear hc
  have hT := (st_spec Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 (kernelRun0_B.sl.r_3 c arg2 harg2 arg4 harg4 x0 x2) (harg6.unread x4) (arg10.view.writes (Elt Ideal) arg10.view.junk (kernelRun0_B.sl.HS0_5 c arg2 harg2 arg4 harg4 x0 x2)) (harg11.unread xs1) (arg15.view.writes (Elt Ideal) arg15.view.junk (kernelRun0_B.sl.HS5_4 c arg4 harg4 arg5 harg5 x2 x3)) (harg12.unread xs2) (harg13.unread xs3) (harg14.unread xs4) (k0_pay292, k0_pay293, k0_pay294, k0_pay295) 80 le_rfl).2.2.2
  rw [x10_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, x15_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, harg11.read_unread] at hT
  simp only [init0, zero_add] at hT
  revert hT
  suffices ∀ T, (st_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 (kernelRun0_B.sl.r_3 c arg2 harg2 arg4 harg4 x0 x2) (harg6.unread x4) (arg10.view.writes (Elt Ideal) arg10.view.junk (kernelRun0_B.sl.HS0_5 c arg2 harg2 arg4 harg4 x0 x2)) (harg11.unread xs1) (arg15.view.writes (Elt Ideal) arg15.view.junk (kernelRun0_B.sl.HS5_4 c arg4 harg4 arg5 harg5 x2 x3)) (harg12.unread xs2) (harg13.unread xs3) (harg14.unread xs4) (k0_pay292, k0_pay293, k0_pay294, k0_pay295) (Scf.trips (0#32) (Scalar.addi 0#32 80#32) 1#32)) = T → ((∀ r l, T.1.1 (ix2 r l) = ∑ k ∈ Finset.range 80, bcTerm (XV x0 x2) xs1 (WV x2 x3) 0 k r l)
      ∧ (∀ r l, T.1.2.1 (ix2 r l) = ∑ k ∈ Finset.range 80, bcTerm (XV x0 x2) xs1 (WV x2 x3) 1 k r l)
      ∧ (∀ r l, T.1.2.2.1 (ix2 r l) = ∑ k ∈ Finset.range 80, bcTerm (XV x0 x2) xs1 (WV x2 x3) 2 k r l)
      ∧ (∀ r l, T.1.2.2.2 (ix2 r l) = ∑ k ∈ Finset.range 80, bcTerm (XV x0 x2) xs1 (WV x2 x3) 3 k r l)) →
      arg9.view.read (Elt Ideal) (arg9.view.writes (Elt Ideal) arg9.view.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.1) (ix2 0 (col q l)) = bcV (XV x0 x2) xs1 (WV x2 x3) (NV xt0) q l from
    fun hT => this _ rfl hT
  unfold kernelRun0_B
  dsimp only
  match q with
  | ⟨0, _⟩ =>
    rw [wr2_not1 _ _ rfl _ _ _ _ _ (.inl (show 128 * 0 + l.val < 384 by omega)), wr2_not1 _ _ rfl _ _ _ _ _ (.inl (show 128 * 0 + l.val < 256 by omega)), wr2_not1 _ _ rfl _ _ _ _ _ (.inl (show 128 * 0 + l.val < 128 by omega)), wr2_mem _ _ rfl _ _ _ _ _ 0 l rfl (show 128 * 0 + l.val = 0 + l.val by omega)]
    sl_unfold_run_names
    intro T hT
    rw [hT]
    clear hT
    rintro ⟨h0, h1, h2, h3⟩
    unfold_payloads
    try dsimp only
    pointwise []
    simp only [h0, kt2_named]
    iterate 5 rw [rd1 (ho := by decide)]
    rfl
  | ⟨1, _⟩ =>
    rw [wr2_not1 _ _ rfl _ _ _ _ _ (.inl (show 128 * 1 + l.val < 384 by omega)), wr2_not1 _ _ rfl _ _ _ _ _ (.inl (show 128 * 1 + l.val < 256 by omega)), wr2_mem _ _ rfl _ _ _ _ _ 0 l rfl rfl]
    sl_unfold_run_names
    intro T hT
    rw [hT]
    clear hT
    rintro ⟨h0, h1, h2, h3⟩
    unfold_payloads
    try dsimp only
    pointwise []
    simp only [h1, kt2_named]
    iterate 5 rw [rd1 (ho := by decide)]
    rfl
  | ⟨2, _⟩ =>
    rw [wr2_not1 _ _ rfl _ _ _ _ _ (.inl (show 128 * 2 + l.val < 384 by omega)), wr2_mem _ _ rfl _ _ _ _ _ 0 l rfl rfl]
    sl_unfold_run_names
    intro T hT
    rw [hT]
    clear hT
    rintro ⟨h0, h1, h2, h3⟩
    unfold_payloads
    try dsimp only
    pointwise []
    simp only [h2, kt2_named]
    iterate 5 rw [rd1 (ho := by decide)]
    rfl
  | ⟨3, _⟩ =>
    rw [wr2_mem _ _ rfl _ _ _ _ _ 0 l rfl rfl]
    sl_unfold_run_names
    intro T hT
    rw [hT]
    clear hT
    rintro ⟨h0, h1, h2, h3⟩
    unfold_payloads
    try dsimp only
    pointwise []
    simp only [h3, kt2_named]
    iterate 5 rw [rd1 (ho := by decide)]
    rfl

set_option maxHeartbeats 2000000 in
theorem sC_2 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) : sout0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 = fun j => newM (XV x0 x2) xs1 (WV x2 x3) x4 xs2 (j 0) (j 1) (j 2) := by
  have hc := scover0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4
  unfold sout0_C_2
  funext j
  idx_vars j
  rw [View.read_writes_eq_canon _ _ _ hc, ← View.read_writes_eq_canon arg12.view (harg12.unread xs2) _ hc]
  have h := (st_spec Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 (kernelRun0_C.sl.r_3 c arg2 harg2 arg4 harg4 x0 x2) (harg6.unread x4) (arg10.view.writes (Elt Ideal) arg10.view.junk (kernelRun0_C.sl.HS0_5 c arg2 harg2 arg4 harg4 x0 x2)) (harg11.unread xs1) (arg15.view.writes (Elt Ideal) arg15.view.junk (kernelRun0_C.sl.HS5_4 c arg4 harg4 arg5 harg5 x2 x3)) (harg12.unread xs2) (harg13.unread xs3) (harg14.unread xs4) (k0_pay292, k0_pay293, k0_pay294, k0_pay295) 80 le_rfl).1 j0 j1 j2
  rw [if_pos (by omega), x10_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, x15_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, harg6.read_unread, harg11.read_unread, harg12.read_unread] at h
  unfold kernelRun0_C
  dsimp only
  exact h

set_option maxHeartbeats 2000000 in
theorem sC_3 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) : sout0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 = fun j => newL (XV x0 x2) xs1 (WV x2 x3) x4 xs2 xs3 (j 0) (j 1) (j 2) := by
  have hc := scover0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4
  unfold sout0_C_3
  funext j
  idx_vars j
  rw [View.read_writes_eq_canon _ _ _ hc, ← View.read_writes_eq_canon arg13.view (harg13.unread xs3) _ hc]
  have h := (st_spec Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 (kernelRun0_C.sl.r_3 c arg2 harg2 arg4 harg4 x0 x2) (harg6.unread x4) (arg10.view.writes (Elt Ideal) arg10.view.junk (kernelRun0_C.sl.HS0_5 c arg2 harg2 arg4 harg4 x0 x2)) (harg11.unread xs1) (arg15.view.writes (Elt Ideal) arg15.view.junk (kernelRun0_C.sl.HS5_4 c arg4 harg4 arg5 harg5 x2 x3)) (harg12.unread xs2) (harg13.unread xs3) (harg14.unread xs4) (k0_pay292, k0_pay293, k0_pay294, k0_pay295) 80 le_rfl).2.1 j0 j1 j2
  rw [if_pos (by omega), x10_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, x15_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, harg6.read_unread, harg11.read_unread, harg12.read_unread, harg13.read_unread] at h
  unfold kernelRun0_C
  dsimp only
  exact h

set_option maxHeartbeats 2000000 in
theorem sC_4 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) : sout0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 = fun j => newA (XV x0 x2) xs1 (WV x2 x3) x4 xs2 xs4 (j 0) (j 1) (j 2) := by
  have hc := scover0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4
  unfold sout0_C_4
  funext j
  idx_vars j
  rw [View.read_writes_eq_canon _ _ _ hc, ← View.read_writes_eq_canon arg14.view (harg14.unread xs4) _ hc]
  have h := (st_spec Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 (kernelRun0_C.sl.r_3 c arg2 harg2 arg4 harg4 x0 x2) (harg6.unread x4) (arg10.view.writes (Elt Ideal) arg10.view.junk (kernelRun0_C.sl.HS0_5 c arg2 harg2 arg4 harg4 x0 x2)) (harg11.unread xs1) (arg15.view.writes (Elt Ideal) arg15.view.junk (kernelRun0_C.sl.HS5_4 c arg4 harg4 arg5 harg5 x2 x3)) (harg12.unread xs2) (harg13.unread xs3) (harg14.unread xs4) (k0_pay292, k0_pay293, k0_pay294, k0_pay295) 80 le_rfl).2.2.1 j0 j1 j2
  rw [if_pos (by omega), x10_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, x15_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, harg6.read_unread, harg11.read_unread, harg12.read_unread, harg14.read_unread] at h
  unfold kernelRun0_C
  dsimp only
  exact h

set_option maxHeartbeats 2000000 in
theorem bC (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) (q : Fin 4) (l : Fin 128) : out0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 (ix2 0 (col q l)) = bcV (XV x0 x2) xs1 (WV x2 x3) (NV xt0) q l := by
  have hc := cover0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4
  unfold out0_C_7
  rw [View.read_writes_eq_canon _ _ _ hc, ← View.read_writes_eq_canon arg9.view arg9.view.junk _ hc]
  clear hc
  have hT := (st_spec Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 (kernelRun0_C.sl.r_3 c arg2 harg2 arg4 harg4 x0 x2) (harg6.unread x4) (arg10.view.writes (Elt Ideal) arg10.view.junk (kernelRun0_C.sl.HS0_5 c arg2 harg2 arg4 harg4 x0 x2)) (harg11.unread xs1) (arg15.view.writes (Elt Ideal) arg15.view.junk (kernelRun0_C.sl.HS5_4 c arg4 harg4 arg5 harg5 x2 x3)) (harg12.unread xs2) (harg13.unread xs3) (harg14.unread xs4) (k0_pay292, k0_pay293, k0_pay294, k0_pay295) 80 le_rfl).2.2.2
  rw [x10_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, x15_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, harg11.read_unread] at hT
  simp only [init0, zero_add] at hT
  revert hT
  suffices ∀ T, (st_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 (kernelRun0_C.sl.r_3 c arg2 harg2 arg4 harg4 x0 x2) (harg6.unread x4) (arg10.view.writes (Elt Ideal) arg10.view.junk (kernelRun0_C.sl.HS0_5 c arg2 harg2 arg4 harg4 x0 x2)) (harg11.unread xs1) (arg15.view.writes (Elt Ideal) arg15.view.junk (kernelRun0_C.sl.HS5_4 c arg4 harg4 arg5 harg5 x2 x3)) (harg12.unread xs2) (harg13.unread xs3) (harg14.unread xs4) (k0_pay292, k0_pay293, k0_pay294, k0_pay295) (Scf.trips (0#32) (Scalar.addi 0#32 80#32) 1#32)) = T → ((∀ r l, T.1.1 (ix2 r l) = ∑ k ∈ Finset.range 80, bcTerm (XV x0 x2) xs1 (WV x2 x3) 0 k r l)
      ∧ (∀ r l, T.1.2.1 (ix2 r l) = ∑ k ∈ Finset.range 80, bcTerm (XV x0 x2) xs1 (WV x2 x3) 1 k r l)
      ∧ (∀ r l, T.1.2.2.1 (ix2 r l) = ∑ k ∈ Finset.range 80, bcTerm (XV x0 x2) xs1 (WV x2 x3) 2 k r l)
      ∧ (∀ r l, T.1.2.2.2 (ix2 r l) = ∑ k ∈ Finset.range 80, bcTerm (XV x0 x2) xs1 (WV x2 x3) 3 k r l)) →
      arg9.view.read (Elt Ideal) (arg9.view.writes (Elt Ideal) arg9.view.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.1) (ix2 0 (col q l)) = bcV (XV x0 x2) xs1 (WV x2 x3) (NV xt0) q l from
    fun hT => this _ rfl hT
  unfold kernelRun0_C
  dsimp only
  match q with
  | ⟨0, _⟩ =>
    rw [wr2_not1 _ _ rfl _ _ _ _ _ (.inl (show 128 * 0 + l.val < 384 by omega)), wr2_not1 _ _ rfl _ _ _ _ _ (.inl (show 128 * 0 + l.val < 256 by omega)), wr2_not1 _ _ rfl _ _ _ _ _ (.inl (show 128 * 0 + l.val < 128 by omega)), wr2_mem _ _ rfl _ _ _ _ _ 0 l rfl (show 128 * 0 + l.val = 0 + l.val by omega)]
    sl_unfold_run_names
    intro T hT
    rw [hT]
    clear hT
    rintro ⟨h0, h1, h2, h3⟩
    unfold_payloads
    try dsimp only
    pointwise []
    simp only [h0, kt2_named]
    iterate 5 rw [rd1 (ho := by decide)]
    rfl
  | ⟨1, _⟩ =>
    rw [wr2_not1 _ _ rfl _ _ _ _ _ (.inl (show 128 * 1 + l.val < 384 by omega)), wr2_not1 _ _ rfl _ _ _ _ _ (.inl (show 128 * 1 + l.val < 256 by omega)), wr2_mem _ _ rfl _ _ _ _ _ 0 l rfl rfl]
    sl_unfold_run_names
    intro T hT
    rw [hT]
    clear hT
    rintro ⟨h0, h1, h2, h3⟩
    unfold_payloads
    try dsimp only
    pointwise []
    simp only [h1, kt2_named]
    iterate 5 rw [rd1 (ho := by decide)]
    rfl
  | ⟨2, _⟩ =>
    rw [wr2_not1 _ _ rfl _ _ _ _ _ (.inl (show 128 * 2 + l.val < 384 by omega)), wr2_mem _ _ rfl _ _ _ _ _ 0 l rfl rfl]
    sl_unfold_run_names
    intro T hT
    rw [hT]
    clear hT
    rintro ⟨h0, h1, h2, h3⟩
    unfold_payloads
    try dsimp only
    pointwise []
    simp only [h2, kt2_named]
    iterate 5 rw [rd1 (ho := by decide)]
    rfl
  | ⟨3, _⟩ =>
    rw [wr2_mem _ _ rfl _ _ _ _ _ 0 l rfl rfl]
    sl_unfold_run_names
    intro T hT
    rw [hT]
    clear hT
    rintro ⟨h0, h1, h2, h3⟩
    unfold_payloads
    try dsimp only
    pointwise []
    simp only [h3, kt2_named]
    iterate 5 rw [rd1 (ho := by decide)]
    rfl

end Cert.KernelIdeal.Gen

end
-- ==== Proof.Fin.lean ====
/- The quantities of the kernel's last point, in exact arithmetic. -/
module

public import proofs.«01_k».proof.Proof.Gen.KernelIdeal.Frame
public import proofs.«01_k».proof.Proof.Point

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

theorem ln2_named : (Named.named κ "ln2" 1060205080#32 : Ideal .f32) = ((Real.log 2 : ℝ) : EReal) := rfl
theorem log2e_named : (Named.named κ "log2e" 1069066811#32 : Ideal .f32) = (((Real.log 2)⁻¹ : ℝ) : EReal) := rfl

/-- The largest of a row's 128 running maxima. -/
def topL (M : Vec Ideal S5x640x128 .f32) (C : Fin 5) (R : Fin 640) : EReal :=
  Finset.univ.fold max (Ideal.ofBits .f32 4286578688#32) (fun x : Fin 128 => M (ix3 C R x))

/-- The lanes' running sums, brought to the largest maximum and added. -/
def sumL (M L : Vec Ideal S5x640x128 .f32) (C : Fin 5) (R : Fin 640) : EReal :=
  ∑ x : Fin 128, L (ix3 C R x) * Ideal.exp2 (M (ix3 C R x) - topL M C R)

/-- The same of a pair's weighted sums, at its teacher's maximum. -/
def sumA (M : Vec Ideal S5x640x128 .f32) (A : Vec Ideal S4x640x128 .f32) (p : Fin 4) (R : Fin 640) : EReal :=
  ∑ x : Fin 128, A (ix3 p R x) * Ideal.exp2 (M (ix3 (pT p) R x) - topL M (pT p) R)

/-- The cross entropy of a pair at a row, from the running quantities. -/
def ceV (M L : Vec Ideal S5x640x128 .f32) (A : Vec Ideal S4x640x128 .f32) (p : Fin 4) (R : Fin 640) : EReal :=
  ((Real.log 2 : ℝ) : EReal) * ((topL M (pS p) R + Ideal.log (sumL M L (pS p) R) * (((Real.log 2)⁻¹ : ℝ) : EReal))
    - Ideal.div (sumA M A p R) (sumL M L (pT p) R))

/-- The same, zero past the valid tokens. -/
def rowV (M L : Vec Ideal S5x640x128 .f32) (A : Vec Ideal S4x640x128 .f32) (nv : Fin 5 → BitVec 32) (p : Fin 4) (b : Fin 5) (s : Fin 128) : EReal :=
  Scalar.select (IntOp.cmpi .slt (BitVec.ofNat 32 s.val) (nv b)) (ceV M L A p (row b s)) 0

/-- The teacher view and the student view of a pair. -/
def pI : Fin 4 → Fin 2 := ![0, 0, 1, 1]
def pV : Fin 4 → Fin 3 := ![1, 2, 0, 2]

end Cert.KernelIdeal.Gen

end
-- ==== Proof.FinRow.lean ====
/- What the kernel's last point stores into the per-row losses, in exact arithmetic. -/
module

public import proofs.«01_k».proof.Proof.Gen.KernelIdeal.Frame
public import proofs.«01_k».proof.Proof.Fin

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

set_option maxHeartbeats 2000000 in
theorem row0 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) (G) (b : Fin 5) (s : Fin 128) : ∀ G12 G13 G14, arg12.view.writes (Elt Ideal) (harg12.unread xs2) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.1 = G12 →
     arg13.view.writes (Elt Ideal) (harg13.unread xs3) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.2.1 = G13 →
     arg14.view.writes (Elt Ideal) (harg14.unread xs4) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.2.2.1 = G14 →
    arg8.view.read (Elt Ideal) (arg8.view.writes (Elt Ideal) G (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.1) (ix4 0 1 b s)
      = rowV (arg12.view.read (Elt Ideal) G12) (arg13.view.read (Elt Ideal) G13) (arg14.view.read (Elt Ideal) G14) (NV xt0) 0 b s := by
  unfold kernelRun0_C
  dsimp only
  match b with
  | ⟨0, _⟩ =>
    rw [wr4_not _ _ rfl _ _ _ _ _ _ _ (.inr (.inr (.inl (show 0 < 4 by decide)))), wr4_not _ _ rfl _ _ _ _ _ _ _ (.inr (.inr (.inl (show 0 < 4 by decide)))), wr4_not _ _ rfl _ _ _ _ _ _ _ (.inr (.inr (.inl (show 0 < 4 by decide)))), wr4_not _ _ rfl _ _ _ _ _ _ _ (.inr (.inr (.inl (show 0 < 4 by decide)))), wr4_not _ _ rfl _ _ _ _ _ _ _ (.inr (.inr (.inl (show 0 < 3 by decide)))), wr4_not _ _ rfl _ _ _ _ _ _ _ (.inr (.inr (.inl (show 0 < 3 by decide)))), wr4_not _ _ rfl _ _ _ _ _ _ _ (.inr (.inr (.inl (show 0 < 3 by decide)))), wr4_not _ _ rfl _ _ _ _ _ _ _ (.inr (.inr (.inl (show 0 < 3 by decide)))), wr4_not _ _ rfl _ _ _ _ _ _ _ (.inr (.inr (.inl (show 0 < 2 by decide)))), wr4_not _ _ rfl _ _ _ _ _ _ _ (.inr (.inr (.inl (show 0 < 2 by decide)))), wr4_not _ _ rfl _ _ _ _ _ _ _ (.inr (.inr (.inl (show 0 < 2 by decide)))), wr4_not _ _ rfl _ _ _ _ _ _ _ (.inr (.inr (.inl (show 0 < 2 by decide)))), wr4_not _ _ rfl _ _ _ _ _ _ _ (.inr (.inr (.inl (show 0 < 1 by decide)))), wr4_not _ _ rfl _ _ _ _ _ _ _ (.inr (.inr (.inl (show 0 < 1 by decide)))), wr4_not _ _ rfl _ _ _ _ _ _ _ (.inr (.inr (.inl (show 0 < 1 by decide)))), wr4_not _ _ rfl _ _ _ _ _ _ _ (.inr (.inr (.inl (show 0 < 1 by decide)))), wr4_not _ _ rfl _ _ _ _ _ _ _ (.inl (by decide)), wr4_not _ _ rfl _ _ _ _ _ _ _ (.inl (by decide)), wr4_not _ _ rfl _ _ _ _ _ _ _ (.inr (.inl (by decide))), wr4_mem _ _ rfl _ _ _ _ _ _ _ 0 0 0 s rfl rfl rfl (Nat.zero_add _).symm]
    sl_unfold_run_names
    intro G12 G13 G14 e12 e13 e14
    rw [e12, e13, e14]
    clear e12 e13 e14
    have L12_0 : ∀ inb s x, arg12.view.readAt (Elt Ideal) (Rect.unit (s := S5x640x128) ![0, 0, 0] ![1, 128, 128] inb).toLoadRect G12 (ix3 0 s x) = arg12.view.read (Elt Ideal) G12 (ix3 0 (row 0 s) x) :=
      fun inb s x => rd3 arg12.view G12 rfl inb (0 : Fin 1) s x 0 (row 0 s) x rfl rfl (Nat.zero_add _).symm
    have L13_0 : ∀ inb s x, arg13.view.readAt (Elt Ideal) (Rect.unit (s := S5x640x128) ![0, 0, 0] ![1, 128, 128] inb).toLoadRect G13 (ix3 0 s x) = arg13.view.read (Elt Ideal) G13 (ix3 0 (row 0 s) x) :=
      fun inb s x => rd3 arg13.view G13 rfl inb (0 : Fin 1) s x 0 (row 0 s) x rfl rfl (Nat.zero_add _).symm
    have L12_3 : ∀ inb s x, arg12.view.readAt (Elt Ideal) (Rect.unit (s := S5x640x128) ![3, 0, 0] ![1, 128, 128] inb).toLoadRect G12 (ix3 0 s x) = arg12.view.read (Elt Ideal) G12 (ix3 3 (row 0 s) x) :=
      fun inb s x => rd3 arg12.view G12 rfl inb (0 : Fin 1) s x 3 (row 0 s) x rfl rfl (Nat.zero_add _).symm
    have L13_3 : ∀ inb s x, arg13.view.readAt (Elt Ideal) (Rect.unit (s := S5x640x128) ![3, 0, 0] ![1, 128, 128] inb).toLoadRect G13 (ix3 0 s x) = arg13.view.read (Elt Ideal) G13 (ix3 3 (row 0 s) x) :=
      fun inb s x => rd3 arg13.view G13 rfl inb (0 : Fin 1) s x 3 (row 0 s) x rfl rfl (Nat.zero_add _).symm
    have L14 : ∀ inb s x, arg14.view.readAt (Elt Ideal) (Rect.unit (s := S4x640x128) ![0, 0, 0] ![1, 128, 128] inb).toLoadRect G14 (ix3 0 s x) = arg14.view.read (Elt Ideal) G14 (ix3 0 (row 0 s) x) :=
      fun inb s x => rd3 arg14.view G14 rfl inb (0 : Fin 1) s x 0 (row 0 s) x rfl rfl (Nat.zero_add _).symm
    unfold_payloads
    try dsimp only
    pointwise []
    simp only [L12_0, L13_0, L12_3, L13_3, L14, ln2_named, log2e_named]
    rw [rd1 (ho := by decide)]
    rfl
  | ⟨1, _⟩ =>
    rw [wr4_not _ _ rfl _ _ _ _ _ _ _ (.inr (.inr (.inl (show 1 < 4 by decide)))), wr4_not _ _ rfl _ _ _ _ _ _ _ (.inr (.inr (.inl (show 1 < 4 by decide)))), wr4_not _ _ rfl _ _ _ _ _ _ _ (.inr (.inr (.inl (show 1 < 4 by decide)))), wr4_not _ _ rfl _ _ _ _ _ _ _ (.inr (.inr (.inl (show 1 < 4 by decide)))), wr4_not _ _ rfl _ _ _ _ _ _ _ (.inr (.inr (.inl (show 1 < 3 by decide)))), wr4_not _ _ rfl _ _ _ _ _ _ _ (.inr (.inr (.inl (show 1 < 3 by decide)))), wr4_not _ _ rfl _ _ _ _ _ _ _ (.inr (.inr (.inl (show 1 < 3 by decide)))), wr4_not _ _ rfl _ _ _ _ _ _ _ (.inr (.inr (.inl (show 1 < 3 by decide)))), wr4_not _ _ rfl _ _ _ _ _ _ _ (.inr (.inr (.inl (show 1 < 2 by decide)))), wr4_not _ _ rfl _ _ _ _ _ _ _ (.inr (.inr (.inl (show 1 < 2 by decide)))), wr4_not _ _ rfl _ _ _ _ _ _ _ (.inr (.inr (.inl (show 1 < 2 by decide)))), wr4_not _ _ rfl _ _ _ _ _ _ _ (.inr (.inr (.inl (show 1 < 2 by decide)))), wr4_not _ _ rfl _ _ _ _ _ _ _ (.inl (by decide)), wr4_not _ _ rfl _ _ _ _ _ _ _ (.inl (by decide)), wr4_not _ _ rfl _ _ _ _ _ _ _ (.inr (.inl (by decide))), wr4_mem _ _ rfl _ _ _ _ _ _ _ 0 0 0 s rfl rfl rfl (Nat.zero_add _).symm]
    sl_unfold_run_names
    intro G12 G13 G14 e12 e13 e14
    rw [e12, e13, e14]
    clear e12 e13 e14
    have L12_0 : ∀ inb s x, arg12.view.readAt (Elt Ideal) (Rect.unit (s := S5x640x128) ![0, 128, 0] ![1, 128, 128] inb).toLoadRect G12 (ix3 0 s x) = arg12.view.read (Elt Ideal) G12 (ix3 0 (row 1 s) x) :=
      fun inb s x => rd3 arg12.view G12 rfl inb (0 : Fin 1) s x 0 (row 1 s) x rfl rfl (Nat.zero_add _).symm
    have L13_0 : ∀ inb s x, arg13.view.readAt (Elt Ideal) (Rect.unit (s := S5x640x128) ![0, 128, 0] ![1, 128, 128] inb).toLoadRect G13 (ix3 0 s x) = arg13.view.read (Elt Ideal) G13 (ix3 0 (row 1 s) x) :=
      fun inb s x => rd3 arg13.view G13 rfl inb (0 : Fin 1) s x 0 (row 1 s) x rfl rfl (Nat.zero_add _).symm
    have L12_3 : ∀ inb s x, arg12.view.readAt (Elt Ideal) (Rect.unit (s := S5x640x128) ![3, 128, 0] ![1, 128, 128] inb).toLoadRect G12 (ix3 0 s x) = arg12.view.read (Elt Ideal) G12 (ix3 3 (row 1 s) x) :=
      fun inb s x => rd3 arg12.view G12 rfl inb (0 : Fin 1) s x 3 (row 1 s) x rfl rfl (Nat.zero_add _).symm
    have L13_3 : ∀ inb s x, arg13.view.readAt (Elt Ideal) (Rect.unit (s := S5x640x128) ![3, 128, 0] ![1, 128, 128] inb).toLoadRect G13 (ix3 0 s x) = arg13.view.read (Elt Ideal) G13 (ix3 3 (row 1 s) x) :=
      fun inb s x => rd3 arg13.view G13 rfl inb (0 : Fin 1) s x 3 (row 1 s) x rfl rfl (Nat.zero_add _).symm
    have L14 : ∀ inb s x, arg14.view.readAt (Elt Ideal) (Rect.unit (s := S4x640x128) ![0, 128, 0] ![1, 128, 128] inb).toLoadRect G14 (ix3 0 s x) = arg14.view.read (Elt Ideal) G14 (ix3 0 (row 1 s) x) :=
      fun inb s x => rd3 arg14.view G14 rfl inb (0 : Fin 1) s x 0 (row 1 s) x rfl rfl (Nat.zero_add _).symm
    unfold_payloads
    try dsimp only
    pointwise []
    simp only [L12_0, L13_0, L12_3, L13_3, L14, ln2_named, log2e_named]
    rw [rd1 (ho := by decide)]
    rfl
  | ⟨2, _⟩ =>
    rw [wr4_not _ _ rfl _ _ _ _ _ _ _ (.inr (.inr (.inl (show 2 < 4 by decide)))), wr4_not _ _ rfl _ _ _ _ _ _ _ (.inr (.inr (.inl (show 2 < 4 by decide)))), wr4_not _ _ rfl _ _ _ _ _ _ _ (.inr (.inr (.inl (show 2 < 4 by decide)))), wr4_not _ _ rfl _ _ _ _ _ _ _ (.inr (.inr (.inl (show 2 < 4 by decide)))), wr4_not _ _ rfl _ _ _ _ _ _ _ (.inr (.inr (.inl (show 2 < 3 by decide)))), wr4_not _ _ rfl _ _ _ _ _ _ _ (.inr (.inr (.inl (show 2 < 3 by decide)))), wr4_not _ _ rfl _ _ _ _ _ _ _ (.inr (.inr (.inl (show 2 < 3 by decide)))), wr4_not _ _ rfl _ _ _ _ _ _ _ (.inr (.inr (.inl (show 2 < 3 by decide)))), wr4_not _ _ rfl _ _ _ _ _ _ _ (.inl (by decide)), wr4_not _ _ rfl _ _ _ _ _ _ _ (.inl (by decide)), wr4_not _ _ rfl _ _ _ _ _ _ _ (.inr (.inl (by decide))), wr4_mem _ _ rfl _ _ _ _ _ _ _ 0 0 0 s rfl rfl rfl (Nat.zero_add _).symm]
    sl_unfold_run_names
    intro G12 G13 G14 e12 e13 e14
    rw [e12, e13, e14]
    clear e12 e13 e14
    have L12_0 : ∀ inb s x, arg12.view.readAt (Elt Ideal) (Rect.unit (s := S5x640x128) ![0, 256, 0] ![1, 128, 128] inb).toLoadRect G12 (ix3 0 s x) = arg12.view.read (Elt Ideal) G12 (ix3 0 (row 2 s) x) :=
      fun inb s x => rd3 arg12.view G12 rfl inb (0 : Fin 1) s x 0 (row 2 s) x rfl rfl (Nat.zero_add _).symm
    have L13_0 : ∀ inb s x, arg13.view.readAt (Elt Ideal) (Rect.unit (s := S5x640x128) ![0, 256, 0] ![1, 128, 128] inb).toLoadRect G13 (ix3 0 s x) = arg13.view.read (Elt Ideal) G13 (ix3 0 (row 2 s) x) :=
      fun inb s x => rd3 arg13.view G13 rfl inb (0 : Fin 1) s x 0 (row 2 s) x rfl rfl (Nat.zero_add _).symm
    have L12_3 : ∀ inb s x, arg12.view.readAt (Elt Ideal) (Rect.unit (s := S5x640x128) ![3, 256, 0] ![1, 128, 128] inb).toLoadRect G12 (ix3 0 s x) = arg12.view.read (Elt Ideal) G12 (ix3 3 (row 2 s) x) :=
      fun inb s x => rd3 arg12.view G12 rfl inb (0 : Fin 1) s x 3 (row 2 s) x rfl rfl (Nat.zero_add _).symm
    have L13_3 : ∀ inb s x, arg13.view.readAt (Elt Ideal) (Rect.unit (s := S5x640x128) ![3, 256, 0] ![1, 128, 128] inb).toLoadRect G13 (ix3 0 s x) = arg13.view.read (Elt Ideal) G13 (ix3 3 (row 2 s) x) :=
      fun inb s x => rd3 arg13.view G13 rfl inb (0 : Fin 1) s x 3 (row 2 s) x rfl rfl (Nat.zero_add _).symm
    have L14 : ∀ inb s x, arg14.view.readAt (Elt Ideal) (Rect.unit (s := S4x640x128) ![0, 256, 0] ![1, 128, 128] inb).toLoadRect G14 (ix3 0 s x) = arg14.view.read (Elt Ideal) G14 (ix3 0 (row 2 s) x) :=
      fun inb s x => rd3 arg14.view G14 rfl inb (0 : Fin 1) s x 0 (row 2 s) x rfl rfl (Nat.zero_add _).symm
    unfold_payloads
    try dsimp only
    pointwise []
    simp only [L12_0, L13_0, L12_3, L13_3, L14, ln2_named, log2e_named]
    rw [rd1 (ho := by decide)]
    rfl
  | ⟨3, _⟩ =>
    rw [wr4_not _ _ rfl _ _ _ _ _ _ _ (.inr (.inr (.inl (show 3 < 4 by decide)))), wr4_not _ _ rfl _ _ _ _ _ _ _ (.inr (.inr (.inl (show 3 < 4 by decide)))), wr4_not _ _ rfl _ _ _ _ _ _ _ (.inr (.inr (.inl (show 3 < 4 by decide)))), wr4_not _ _ rfl _ _ _ _ _ _ _ (.inr (.inr (.inl (show 3 < 4 by decide)))), wr4_not _ _ rfl _ _ _ _ _ _ _ (.inl (by decide)), wr4_not _ _ rfl _ _ _ _ _ _ _ (.inl (by decide)), wr4_not _ _ rfl _ _ _ _ _ _ _ (.inr (.inl (by decide))), wr4_mem _ _ rfl _ _ _ _ _ _ _ 0 0 0 s rfl rfl rfl (Nat.zero_add _).symm]
    sl_unfold_run_names
    intro G12 G13 G14 e12 e13 e14
    rw [e12, e13, e14]
    clear e12 e13 e14
    have L12_0 : ∀ inb s x, arg12.view.readAt (Elt Ideal) (Rect.unit (s := S5x640x128) ![0, 384, 0] ![1, 128, 128] inb).toLoadRect G12 (ix3 0 s x) = arg12.view.read (Elt Ideal) G12 (ix3 0 (row 3 s) x) :=
      fun inb s x => rd3 arg12.view G12 rfl inb (0 : Fin 1) s x 0 (row 3 s) x rfl rfl (Nat.zero_add _).symm
    have L13_0 : ∀ inb s x, arg13.view.readAt (Elt Ideal) (Rect.unit (s := S5x640x128) ![0, 384, 0] ![1, 128, 128] inb).toLoadRect G13 (ix3 0 s x) = arg13.view.read (Elt Ideal) G13 (ix3 0 (row 3 s) x) :=
      fun inb s x => rd3 arg13.view G13 rfl inb (0 : Fin 1) s x 0 (row 3 s) x rfl rfl (Nat.zero_add _).symm
    have L12_3 : ∀ inb s x, arg12.view.readAt (Elt Ideal) (Rect.unit (s := S5x640x128) ![3, 384, 0] ![1, 128, 128] inb).toLoadRect G12 (ix3 0 s x) = arg12.view.read (Elt Ideal) G12 (ix3 3 (row 3 s) x) :=
      fun inb s x => rd3 arg12.view G12 rfl inb (0 : Fin 1) s x 3 (row 3 s) x rfl rfl (Nat.zero_add _).symm
    have L13_3 : ∀ inb s x, arg13.view.readAt (Elt Ideal) (Rect.unit (s := S5x640x128) ![3, 384, 0] ![1, 128, 128] inb).toLoadRect G13 (ix3 0 s x) = arg13.view.read (Elt Ideal) G13 (ix3 3 (row 3 s) x) :=
      fun inb s x => rd3 arg13.view G13 rfl inb (0 : Fin 1) s x 3 (row 3 s) x rfl rfl (Nat.zero_add _).symm
    have L14 : ∀ inb s x, arg14.view.readAt (Elt Ideal) (Rect.unit (s := S4x640x128) ![0, 384, 0] ![1, 128, 128] inb).toLoadRect G14 (ix3 0 s x) = arg14.view.read (Elt Ideal) G14 (ix3 0 (row 3 s) x) :=
      fun inb s x => rd3 arg14.view G14 rfl inb (0 : Fin 1) s x 0 (row 3 s) x rfl rfl (Nat.zero_add _).symm
    unfold_payloads
    try dsimp only
    pointwise []
    simp only [L12_0, L13_0, L12_3, L13_3, L14, ln2_named, log2e_named]
    rw [rd1 (ho := by decide)]
    rfl
  | ⟨4, _⟩ =>
    rw [wr4_not _ _ rfl _ _ _ _ _ _ _ (.inl (by decide)), wr4_not _ _ rfl _ _ _ _ _ _ _ (.inl (by decide)), wr4_not _ _ rfl _ _ _ _ _ _ _ (.inr (.inl (by decide))), wr4_mem _ _ rfl _ _ _ _ _ _ _ 0 0 0 s rfl rfl rfl (Nat.zero_add _).symm]
    sl_unfold_run_names
    intro G12 G13 G14 e12 e13 e14
    rw [e12, e13, e14]
    clear e12 e13 e14
    have L12_0 : ∀ inb s x, arg12.view.readAt (Elt Ideal) (Rect.unit (s := S5x640x128) ![0, 512, 0] ![1, 128, 128] inb).toLoadRect G12 (ix3 0 s x) = arg12.view.read (Elt Ideal) G12 (ix3 0 (row 4 s) x) :=
      fun inb s x => rd3 arg12.view G12 rfl inb (0 : Fin 1) s x 0 (row 4 s) x rfl rfl (Nat.zero_add _).symm
    have L13_0 : ∀ inb s x, arg13.view.readAt (Elt Ideal) (Rect.unit (s := S5x640x128) ![0, 512, 0] ![1, 128, 128] inb).toLoadRect G13 (ix3 0 s x) = arg13.view.read (Elt Ideal) G13 (ix3 0 (row 4 s) x) :=
      fun inb s x => rd3 arg13.view G13 rfl inb (0 : Fin 1) s x 0 (row 4 s) x rfl rfl (Nat.zero_add _).symm
    have L12_3 : ∀ inb s x, arg12.view.readAt (Elt Ideal) (Rect.unit (s := S5x640x128) ![3, 512, 0] ![1, 128, 128] inb).toLoadRect G12 (ix3 0 s x) = arg12.view.read (Elt Ideal) G12 (ix3 3 (row 4 s) x) :=
      fun inb s x => rd3 arg12.view G12 rfl inb (0 : Fin 1) s x 3 (row 4 s) x rfl rfl (Nat.zero_add _).symm
    have L13_3 : ∀ inb s x, arg13.view.readAt (Elt Ideal) (Rect.unit (s := S5x640x128) ![3, 512, 0] ![1, 128, 128] inb).toLoadRect G13 (ix3 0 s x) = arg13.view.read (Elt Ideal) G13 (ix3 3 (row 4 s) x) :=
      fun inb s x => rd3 arg13.view G13 rfl inb (0 : Fin 1) s x 3 (row 4 s) x rfl rfl (Nat.zero_add _).symm
    have L14 : ∀ inb s x, arg14.view.readAt (Elt Ideal) (Rect.unit (s := S4x640x128) ![0, 512, 0] ![1, 128, 128] inb).toLoadRect G14 (ix3 0 s x) = arg14.view.read (Elt Ideal) G14 (ix3 0 (row 4 s) x) :=
      fun inb s x => rd3 arg14.view G14 rfl inb (0 : Fin 1) s x 0 (row 4 s) x rfl rfl (Nat.zero_add _).symm
    unfold_payloads
    try dsimp only
    pointwise []
    simp only [L12_0, L13_0, L12_3, L13_3, L14, ln2_named, log2e_named]
    rw [rd1 (ho := by decide)]
    rfl

set_option maxHeartbeats 2000000 in
theorem row1 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) (G) (b : Fin 5) (s : Fin 128) : ∀ G12 G13 G14, arg12.view.writes (Elt Ideal) (harg12.unread xs2) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.1 = G12 →
     arg13.view.writes (Elt Ideal) (harg13.unread xs3) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.2.1 = G13 →
     arg14.view.writes (Elt Ideal) (harg14.unread xs4) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.2.2.1 = G14 →
    arg8.view.read (Elt Ideal) (arg8.view.writes (Elt Ideal) G (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.1) (ix4 0 2 b s)
      = rowV (arg12.view.read (Elt Ideal) G12) (arg13.view.read (Elt Ideal) G13) (arg14.view.read (Elt Ideal) G14) (NV xt0) 1 b s := by
  unfold kernelRun0_C
  dsimp only
  match b with
  | ⟨0, _⟩ =>
    rw [wr4_not _ _ rfl _ _ _ _ _ _ _ (.inr (.inr (.inl (show 0 < 4 by decide)))), wr4_not _ _ rfl _ _ _ _ _ _ _ (.inr (.inr (.inl (show 0 < 4 by decide)))), wr4_not _ _ rfl _ _ _ _ _ _ _ (.inr (.inr (.inl (show 0 < 4 by decide)))), wr4_not _ _ rfl _ _ _ _ _ _ _ (.inr (.inr (.inl (show 0 < 4 by decide)))), wr4_not _ _ rfl _ _ _ _ _ _ _ (.inr (.inr (.inl (show 0 < 3 by decide)))), wr4_not _ _ rfl _ _ _ _ _ _ _ (.inr (.inr (.inl (show 0 < 3 by decide)))), wr4_not _ _ rfl _ _ _ _ _ _ _ (.inr (.inr (.inl (show 0 < 3 by decide)))), wr4_not _ _ rfl _ _ _ _ _ _ _ (.inr (.inr (.inl (show 0 < 3 by decide)))), wr4_not _ _ rfl _ _ _ _ _ _ _ (.inr (.inr (.inl (show 0 < 2 by decide)))), wr4_not _ _ rfl _ _ _ _ _ _ _ (.inr (.inr (.inl (show 0 < 2 by decide)))), wr4_not _ _ rfl _ _ _ _ _ _ _ (.inr (.inr (.inl (show 0 < 2 by decide)))), wr4_not _ _ rfl _ _ _ _ _ _ _ (.inr (.inr (.inl (show 0 < 2 by decide)))), wr4_not _ _ rfl _ _ _ _ _ _ _ (.inr (.inr (.inl (show 0 < 1 by decide)))), wr4_not _ _ rfl _ _ _ _ _ _ _ (.inr (.inr (.inl (show 0 < 1 by decide)))), wr4_not _ _ rfl _ _ _ _ _ _ _ (.inr (.inr (.inl (show 0 < 1 by decide)))), wr4_not _ _ rfl _ _ _ _ _ _ _ (.inr (.inr (.inl (show 0 < 1 by decide)))), wr4_not _ _ rfl _ _ _ _ _ _ _ (.inl (by decide)), wr4_not _ _ rfl _ _ _ _ _ _ _ (.inl (by decide)), wr4_mem _ _ rfl _ _ _ _ _ _ _ 0 0 0 s rfl rfl rfl (Nat.zero_add _).symm]
    sl_unfold_run_names
    intro G12 G13 G14 e12 e13 e14
    rw [e12, e13, e14]
    clear e12 e13 e14
    have L12_0 : ∀ inb s x, arg12.view.readAt (Elt Ideal) (Rect.unit (s := S5x640x128) ![0, 0, 0] ![1, 128, 128] inb).toLoadRect G12 (ix3 0 s x) = arg12.view.read (Elt Ideal) G12 (ix3 0 (row 0 s) x) :=
      fun inb s x => rd3 arg12.view G12 rfl inb (0 : Fin 1) s x 0 (row 0 s) x rfl rfl (Nat.zero_add _).symm
    have L13_0 : ∀ inb s x, arg13.view.readAt (Elt Ideal) (Rect.unit (s := S5x640x128) ![0, 0, 0] ![1, 128, 128] inb).toLoadRect G13 (ix3 0 s x) = arg13.view.read (Elt Ideal) G13 (ix3 0 (row 0 s) x) :=
      fun inb s x => rd3 arg13.view G13 rfl inb (0 : Fin 1) s x 0 (row 0 s) x rfl rfl (Nat.zero_add _).symm
    have L12_4 : ∀ inb s x, arg12.view.readAt (Elt Ideal) (Rect.unit (s := S5x640x128) ![4, 0, 0] ![1, 128, 128] inb).toLoadRect G12 (ix3 0 s x) = arg12.view.read (Elt Ideal) G12 (ix3 4 (row 0 s) x) :=
      fun inb s x => rd3 arg12.view G12 rfl inb (0 : Fin 1) s x 4 (row 0 s) x rfl rfl (Nat.zero_add _).symm
    have L13_4 : ∀ inb s x, arg13.view.readAt (Elt Ideal) (Rect.unit (s := S5x640x128) ![4, 0, 0] ![1, 128, 128] inb).toLoadRect G13 (ix3 0 s x) = arg13.view.read (Elt Ideal) G13 (ix3 4 (row 0 s) x) :=
      fun inb s x => rd3 arg13.view G13 rfl inb (0 : Fin 1) s x 4 (row 0 s) x rfl rfl (Nat.zero_add _).symm
    have L14 : ∀ inb s x, arg14.view.readAt (Elt Ideal) (Rect.unit (s := S4x640x128) ![1, 0, 0] ![1, 128, 128] inb).toLoadRect G14 (ix3 0 s x) = arg14.view.read (Elt Ideal) G14 (ix3 1 (row 0 s) x) :=
      fun inb s x => rd3 arg14.view G14 rfl inb (0 : Fin 1) s x 1 (row 0 s) x rfl rfl (Nat.zero_add _).symm
    unfold_payloads
    try dsimp only
    pointwise []
    simp only [L12_0, L13_0, L12_4, L13_4, L14, ln2_named, log2e_named]
    rw [rd1 (ho := by decide)]
    rfl
  | ⟨1, _⟩ =>
    rw [wr4_not _ _ rfl _ _ _ _ _ _ _ (.inr (.inr (.inl (show 1 < 4 by decide)))), wr4_not _ _ rfl _ _ _ _ _ _ _ (.inr (.inr (.inl (show 1 < 4 by decide)))), wr4_not _ _ rfl _ _ _ _ _ _ _ (.inr (.inr (.inl (show 1 < 4 by decide)))), wr4_not _ _ rfl _ _ _ _ _ _ _ (.inr (.inr (.inl (show 1 < 4 by decide)))), wr4_not _ _ rfl _ _ _ _ _ _ _ (.inr (.inr (.inl (show 1 < 3 by decide)))), wr4_not _ _ rfl _ _ _ _ _ _ _ (.inr (.inr (.inl (show 1 < 3 by decide)))), wr4_not _ _ rfl _ _ _ _ _ _ _ (.inr (.inr (.inl (show 1 < 3 by decide)))), wr4_not _ _ rfl _ _ _ _ _ _ _ (.inr (.inr (.inl (show 1 < 3 by decide)))), wr4_not _ _ rfl _ _ _ _ _ _ _ (.inr (.inr (.inl (show 1 < 2 by decide)))), wr4_not _ _ rfl _ _ _ _ _ _ _ (.inr (.inr (.inl (show 1 < 2 by decide)))), wr4_not _ _ rfl _ _ _ _ _ _ _ (.inr (.inr (.inl (show 1 < 2 by decide)))), wr4_not _ _ rfl _ _ _ _ _ _ _ (.inr (.inr (.inl (show 1 < 2 by decide)))), wr4_not _ _ rfl _ _ _ _ _ _ _ (.inl (by decide)), wr4_not _ _ rfl _ _ _ _ _ _ _ (.inl (by decide)), wr4_mem _ _ rfl _ _ _ _ _ _ _ 0 0 0 s rfl rfl rfl (Nat.zero_add _).symm]
    sl_unfold_run_names
    intro G12 G13 G14 e12 e13 e14
    rw [e12, e13, e14]
    clear e12 e13 e14
    have L12_0 : ∀ inb s x, arg12.view.readAt (Elt Ideal) (Rect.unit (s := S5x640x128) ![0, 128, 0] ![1, 128, 128] inb).toLoadRect G12 (ix3 0 s x) = arg12.view.read (Elt Ideal) G12 (ix3 0 (row 1 s) x) :=
      fun inb s x => rd3 arg12.view G12 rfl inb (0 : Fin 1) s x 0 (row 1 s) x rfl rfl (Nat.zero_add _).symm
    have L13_0 : ∀ inb s x, arg13.view.readAt (Elt Ideal) (Rect.unit (s := S5x640x128) ![0, 128, 0] ![1, 128, 128] inb).toLoadRect G13 (ix3 0 s x) = arg13.view.read (Elt Ideal) G13 (ix3 0 (row 1 s) x) :=
      fun inb s x => rd3 arg13.view G13 rfl inb (0 : Fin 1) s x 0 (row 1 s) x rfl rfl (Nat.zero_add _).symm
    have L12_4 : ∀ inb s x, arg12.view.readAt (Elt Ideal) (Rect.unit (s := S5x640x128) ![4, 128, 0] ![1, 128, 128] inb).toLoadRect G12 (ix3 0 s x) = arg12.view.read (Elt Ideal) G12 (ix3 4 (row 1 s) x) :=
      fun inb s x => rd3 arg12.view G12 rfl inb (0 : Fin 1) s x 4 (row 1 s) x rfl rfl (Nat.zero_add _).symm
    have L13_4 : ∀ inb s x, arg13.view.readAt (Elt Ideal) (Rect.unit (s := S5x640x128) ![4, 128, 0] ![1, 128, 128] inb).toLoadRect G13 (ix3 0 s x) = arg13.view.read (Elt Ideal) G13 (ix3 4 (row 1 s) x) :=
      fun inb s x => rd3 arg13.view G13 rfl inb (0 : Fin 1) s x 4 (row 1 s) x rfl rfl (Nat.zero_add _).symm
    have L14 : ∀ inb s x, arg14.view.readAt (Elt Ideal) (Rect.unit (s := S4x640x128) ![1, 128, 0] ![1, 128, 128] inb).toLoadRect G14 (ix3 0 s x) = arg14.view.read (Elt Ideal) G14 (ix3 1 (row 1 s) x) :=
      fun inb s x => rd3 arg14.view G14 rfl inb (0 : Fin 1) s x 1 (row 1 s) x rfl rfl (Nat.zero_add _).symm
    unfold_payloads
    try dsimp only
    pointwise []
    simp only [L12_0, L13_0, L12_4, L13_4, L14, ln2_named, log2e_named]
    rw [rd1 (ho := by decide)]
    rfl
  | ⟨2, _⟩ =>
    rw [wr4_not _ _ rfl _ _ _ _ _ _ _ (.inr (.inr (.inl (show 2 < 4 by decide)))), wr4_not _ _ rfl _ _ _ _ _ _ _ (.inr (.inr (.inl (show 2 < 4 by decide)))), wr4_not _ _ rfl _ _ _ _ _ _ _ (.inr (.inr (.inl (show 2 < 4 by decide)))), wr4_not _ _ rfl _ _ _ _ _ _ _ (.inr (.inr (.inl (show 2 < 4 by decide)))), wr4_not _ _ rfl _ _ _ _ _ _ _ (.inr (.inr (.inl (show 2 < 3 by decide)))), wr4_not _ _ rfl _ _ _ _ _ _ _ (.inr (.inr (.inl (show 2 < 3 by decide)))), wr4_not _ _ rfl _ _ _ _ _ _ _ (.inr (.inr (.inl (show 2 < 3 by decide)))), wr4_not _ _ rfl _ _ _ _ _ _ _ (.inr (.inr (.inl (show 2 < 3 by decide)))), wr4_not _ _ rfl _ _ _ _ _ _ _ (.inl (by decide)), wr4_not _ _ rfl _ _ _ _ _ _ _ (.inl (by decide)), wr4_mem _ _ rfl _ _ _ _ _ _ _ 0 0 0 s rfl rfl rfl (Nat.zero_add _).symm]
    sl_unfold_run_names
    intro G12 G13 G14 e12 e13 e14
    rw [e12, e13, e14]
    clear e12 e13 e14
    have L12_0 : ∀ inb s x, arg12.view.readAt (Elt Ideal) (Rect.unit (s := S5x640x128) ![0, 256, 0] ![1, 128, 128] inb).toLoadRect G12 (ix3 0 s x) = arg12.view.read (Elt Ideal) G12 (ix3 0 (row 2 s) x) :=
      fun inb s x => rd3 arg12.view G12 rfl inb (0 : Fin 1) s x 0 (row 2 s) x rfl rfl (Nat.zero_add _).symm
    have L13_0 : ∀ inb s x, arg13.view.readAt (Elt Ideal) (Rect.unit (s := S5x640x128) ![0, 256, 0] ![1, 128, 128] inb).toLoadRect G13 (ix3 0 s x) = arg13.view.read (Elt Ideal) G13 (ix3 0 (row 2 s) x) :=
      fun inb s x => rd3 arg13.view G13 rfl inb (0 : Fin 1) s x 0 (row 2 s) x rfl rfl (Nat.zero_add _).symm
    have L12_4 : ∀ inb s x, arg12.view.readAt (Elt Ideal) (Rect.unit (s := S5x640x128) ![4, 256, 0] ![1, 128, 128] inb).toLoadRect G12 (ix3 0 s x) = arg12.view.read (Elt Ideal) G12 (ix3 4 (row 2 s) x) :=
      fun inb s x => rd3 arg12.view G12 rfl inb (0 : Fin 1) s x 4 (row 2 s) x rfl rfl (Nat.zero_add _).symm
    have L13_4 : ∀ inb s x, arg13.view.readAt (Elt Ideal) (Rect.unit (s := S5x640x128) ![4, 256, 0] ![1, 128, 128] inb).toLoadRect G13 (ix3 0 s x) = arg13.view.read (Elt Ideal) G13 (ix3 4 (row 2 s) x) :=
      fun inb s x => rd3 arg13.view G13 rfl inb (0 : Fin 1) s x 4 (row 2 s) x rfl rfl (Nat.zero_add _).symm
    have L14 : ∀ inb s x, arg14.view.readAt (Elt Ideal) (Rect.unit (s := S4x640x128) ![1, 256, 0] ![1, 128, 128] inb).toLoadRect G14 (ix3 0 s x) = arg14.view.read (Elt Ideal) G14 (ix3 1 (row 2 s) x) :=
      fun inb s x => rd3 arg14.view G14 rfl inb (0 : Fin 1) s x 1 (row 2 s) x rfl rfl (Nat.zero_add _).symm
    unfold_payloads
    try dsimp only
    pointwise []
    simp only [L12_0, L13_0, L12_4, L13_4, L14, ln2_named, log2e_named]
    rw [rd1 (ho := by decide)]
    rfl
  | ⟨3, _⟩ =>
    rw [wr4_not _ _ rfl _ _ _ _ _ _ _ (.inr (.inr (.inl (show 3 < 4 by decide)))), wr4_not _ _ rfl _ _ _ _ _ _ _ (.inr (.inr (.inl (show 3 < 4 by decide)))), wr4_not _ _ rfl _ _ _ _ _ _ _ (.inr (.inr (.inl (show 3 < 4 by decide)))), wr4_not _ _ rfl _ _ _ _ _ _ _ (.inr (.inr (.inl (show 3 < 4 by decide)))), wr4_not _ _ rfl _ _ _ _ _ _ _ (.inl (by decide)), wr4_not _ _ rfl _ _ _ _ _ _ _ (.inl (by decide)), wr4_mem _ _ rfl _ _ _ _ _ _ _ 0 0 0 s rfl rfl rfl (Nat.zero_add _).symm]
    sl_unfold_run_names
    intro G12 G13 G14 e12 e13 e14
    rw [e12, e13, e14]
    clear e12 e13 e14
    have L12_0 : ∀ inb s x, arg12.view.readAt (Elt Ideal) (Rect.unit (s := S5x640x128) ![0, 384, 0] ![1, 128, 128] inb).toLoadRect G12 (ix3 0 s x) = arg12.view.read (Elt Ideal) G12 (ix3 0 (row 3 s) x) :=
      fun inb s x => rd3 arg12.view G12 rfl inb (0 : Fin 1) s x 0 (row 3 s) x rfl rfl (Nat.zero_add _).symm
    have L13_0 : ∀ inb s x, arg13.view.readAt (Elt Ideal) (Rect.unit (s := S5x640x128) ![0, 384, 0] ![1, 128, 128] inb).toLoadRect G13 (ix3 0 s x) = arg13.view.read (Elt Ideal) G13 (ix3 0 (row 3 s) x) :=
      fun inb s x => rd3 arg13.view G13 rfl inb (0 : Fin 1) s x 0 (row 3 s) x rfl rfl (Nat.zero_add _).symm
    have L12_4 : ∀ inb s x, arg12.view.readAt (Elt Ideal) (Rect.unit (s := S5x640x128) ![4, 384, 0] ![1, 128, 128] inb).toLoadRect G12 (ix3 0 s x) = arg12.view.read (Elt Ideal) G12 (ix3 4 (row 3 s) x) :=
      fun inb s x => rd3 arg12.view G12 rfl inb (0 : Fin 1) s x 4 (row 3 s) x rfl rfl (Nat.zero_add _).symm
    have L13_4 : ∀ inb s x, arg13.view.readAt (Elt Ideal) (Rect.unit (s := S5x640x128) ![4, 384, 0] ![1, 128, 128] inb).toLoadRect G13 (ix3 0 s x) = arg13.view.read (Elt Ideal) G13 (ix3 4 (row 3 s) x) :=
      fun inb s x => rd3 arg13.view G13 rfl inb (0 : Fin 1) s x 4 (row 3 s) x rfl rfl (Nat.zero_add _).symm
    have L14 : ∀ inb s x, arg14.view.readAt (Elt Ideal) (Rect.unit (s := S4x640x128) ![1, 384, 0] ![1, 128, 128] inb).toLoadRect G14 (ix3 0 s x) = arg14.view.read (Elt Ideal) G14 (ix3 1 (row 3 s) x) :=
      fun inb s x => rd3 arg14.view G14 rfl inb (0 : Fin 1) s x 1 (row 3 s) x rfl rfl (Nat.zero_add _).symm
    unfold_payloads
    try dsimp only
    pointwise []
    simp only [L12_0, L13_0, L12_4, L13_4, L14, ln2_named, log2e_named]
    rw [rd1 (ho := by decide)]
    rfl
  | ⟨4, _⟩ =>
    rw [wr4_not _ _ rfl _ _ _ _ _ _ _ (.inl (by decide)), wr4_not _ _ rfl _ _ _ _ _ _ _ (.inl (by decide)), wr4_mem _ _ rfl _ _ _ _ _ _ _ 0 0 0 s rfl rfl rfl (Nat.zero_add _).symm]
    sl_unfold_run_names
    intro G12 G13 G14 e12 e13 e14
    rw [e12, e13, e14]
    clear e12 e13 e14
    have L12_0 : ∀ inb s x, arg12.view.readAt (Elt Ideal) (Rect.unit (s := S5x640x128) ![0, 512, 0] ![1, 128, 128] inb).toLoadRect G12 (ix3 0 s x) = arg12.view.read (Elt Ideal) G12 (ix3 0 (row 4 s) x) :=
      fun inb s x => rd3 arg12.view G12 rfl inb (0 : Fin 1) s x 0 (row 4 s) x rfl rfl (Nat.zero_add _).symm
    have L13_0 : ∀ inb s x, arg13.view.readAt (Elt Ideal) (Rect.unit (s := S5x640x128) ![0, 512, 0] ![1, 128, 128] inb).toLoadRect G13 (ix3 0 s x) = arg13.view.read (Elt Ideal) G13 (ix3 0 (row 4 s) x) :=
      fun inb s x => rd3 arg13.view G13 rfl inb (0 : Fin 1) s x 0 (row 4 s) x rfl rfl (Nat.zero_add _).symm
    have L12_4 : ∀ inb s x, arg12.view.readAt (Elt Ideal) (Rect.unit (s := S5x640x128) ![4, 512, 0] ![1, 128, 128] inb).toLoadRect G12 (ix3 0 s x) = arg12.view.read (Elt Ideal) G12 (ix3 4 (row 4 s) x) :=
      fun inb s x => rd3 arg12.view G12 rfl inb (0 : Fin 1) s x 4 (row 4 s) x rfl rfl (Nat.zero_add _).symm
    have L13_4 : ∀ inb s x, arg13.view.readAt (Elt Ideal) (Rect.unit (s := S5x640x128) ![4, 512, 0] ![1, 128, 128] inb).toLoadRect G13 (ix3 0 s x) = arg13.view.read (Elt Ideal) G13 (ix3 4 (row 4 s) x) :=
      fun inb s x => rd3 arg13.view G13 rfl inb (0 : Fin 1) s x 4 (row 4 s) x rfl rfl (Nat.zero_add _).symm
    have L14 : ∀ inb s x, arg14.view.readAt (Elt Ideal) (Rect.unit (s := S4x640x128) ![1, 512, 0] ![1, 128, 128] inb).toLoadRect G14 (ix3 0 s x) = arg14.view.read (Elt Ideal) G14 (ix3 1 (row 4 s) x) :=
      fun inb s x => rd3 arg14.view G14 rfl inb (0 : Fin 1) s x 1 (row 4 s) x rfl rfl (Nat.zero_add _).symm
    unfold_payloads
    try dsimp only
    pointwise []
    simp only [L12_0, L13_0, L12_4, L13_4, L14, ln2_named, log2e_named]
    rw [rd1 (ho := by decide)]
    rfl

set_option maxHeartbeats 2000000 in
theorem row2 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) (G) (b : Fin 5) (s : Fin 128) : ∀ G12 G13 G14, arg12.view.writes (Elt Ideal) (harg12.unread xs2) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.1 = G12 →
     arg13.view.writes (Elt Ideal) (harg13.unread xs3) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.2.1 = G13 →
     arg14.view.writes (Elt Ideal) (harg14.unread xs4) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.2.2.1 = G14 →
    arg8.view.read (Elt Ideal) (arg8.view.writes (Elt Ideal) G (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.1) (ix4 1 0 b s)
      = rowV (arg12.view.read (Elt Ideal) G12) (arg13.view.read (Elt Ideal) G13) (arg14.view.read (Elt Ideal) G14) (NV xt0) 2 b s := by
  unfold kernelRun0_C
  dsimp only
  match b with
  | ⟨0, _⟩ =>
    rw [wr4_not _ _ rfl _ _ _ _ _ _ _ (.inr (.inr (.inl (show 0 < 4 by decide)))), wr4_not _ _ rfl _ _ _ _ _ _ _ (.inr (.inr (.inl (show 0 < 4 by decide)))), wr4_not _ _ rfl _ _ _ _ _ _ _ (.inr (.inr (.inl (show 0 < 4 by decide)))), wr4_not _ _ rfl _ _ _ _ _ _ _ (.inr (.inr (.inl (show 0 < 4 by decide)))), wr4_not _ _ rfl _ _ _ _ _ _ _ (.inr (.inr (.inl (show 0 < 3 by decide)))), wr4_not _ _ rfl _ _ _ _ _ _ _ (.inr (.inr (.inl (show 0 < 3 by decide)))), wr4_not _ _ rfl _ _ _ _ _ _ _ (.inr (.inr (.inl (show 0 < 3 by decide)))), wr4_not _ _ rfl _ _ _ _ _ _ _ (.inr (.inr (.inl (show 0 < 3 by decide)))), wr4_not _ _ rfl _ _ _ _ _ _ _ (.inr (.inr (.inl (show 0 < 2 by decide)))), wr4_not _ _ rfl _ _ _ _ _ _ _ (.inr (.inr (.inl (show 0 < 2 by decide)))), wr4_not _ _ rfl _ _ _ _ _ _ _ (.inr (.inr (.inl (show 0 < 2 by decide)))), wr4_not _ _ rfl _ _ _ _ _ _ _ (.inr (.inr (.inl (show 0 < 2 by decide)))), wr4_not _ _ rfl _ _ _ _ _ _ _ (.inr (.inr (.inl (show 0 < 1 by decide)))), wr4_not _ _ rfl _ _ _ _ _ _ _ (.inr (.inr (.inl (show 0 < 1 by decide)))), wr4_not _ _ rfl _ _ _ _ _ _ _ (.inr (.inr (.inl (show 0 < 1 by decide)))), wr4_not _ _ rfl _ _ _ _ _ _ _ (.inr (.inr (.inl (show 0 < 1 by decide)))), wr4_not _ _ rfl _ _ _ _ _ _ _ (.inr (.inl (by decide))), wr4_mem _ _ rfl _ _ _ _ _ _ _ 0 0 0 s rfl rfl rfl (Nat.zero_add _).symm]
    sl_unfold_run_names
    intro G12 G13 G14 e12 e13 e14
    rw [e12, e13, e14]
    clear e12 e13 e14
    have L12_1 : ∀ inb s x, arg12.view.readAt (Elt Ideal) (Rect.unit (s := S5x640x128) ![1, 0, 0] ![1, 128, 128] inb).toLoadRect G12 (ix3 0 s x) = arg12.view.read (Elt Ideal) G12 (ix3 1 (row 0 s) x) :=
      fun inb s x => rd3 arg12.view G12 rfl inb (0 : Fin 1) s x 1 (row 0 s) x rfl rfl (Nat.zero_add _).symm
    have L13_1 : ∀ inb s x, arg13.view.readAt (Elt Ideal) (Rect.unit (s := S5x640x128) ![1, 0, 0] ![1, 128, 128] inb).toLoadRect G13 (ix3 0 s x) = arg13.view.read (Elt Ideal) G13 (ix3 1 (row 0 s) x) :=
      fun inb s x => rd3 arg13.view G13 rfl inb (0 : Fin 1) s x 1 (row 0 s) x rfl rfl (Nat.zero_add _).symm
    have L12_2 : ∀ inb s x, arg12.view.readAt (Elt Ideal) (Rect.unit (s := S5x640x128) ![2, 0, 0] ![1, 128, 128] inb).toLoadRect G12 (ix3 0 s x) = arg12.view.read (Elt Ideal) G12 (ix3 2 (row 0 s) x) :=
      fun inb s x => rd3 arg12.view G12 rfl inb (0 : Fin 1) s x 2 (row 0 s) x rfl rfl (Nat.zero_add _).symm
    have L13_2 : ∀ inb s x, arg13.view.readAt (Elt Ideal) (Rect.unit (s := S5x640x128) ![2, 0, 0] ![1, 128, 128] inb).toLoadRect G13 (ix3 0 s x) = arg13.view.read (Elt Ideal) G13 (ix3 2 (row 0 s) x) :=
      fun inb s x => rd3 arg13.view G13 rfl inb (0 : Fin 1) s x 2 (row 0 s) x rfl rfl (Nat.zero_add _).symm
    have L14 : ∀ inb s x, arg14.view.readAt (Elt Ideal) (Rect.unit (s := S4x640x128) ![2, 0, 0] ![1, 128, 128] inb).toLoadRect G14 (ix3 0 s x) = arg14.view.read (Elt Ideal) G14 (ix3 2 (row 0 s) x) :=
      fun inb s x => rd3 arg14.view G14 rfl inb (0 : Fin 1) s x 2 (row 0 s) x rfl rfl (Nat.zero_add _).symm
    unfold_payloads
    try dsimp only
    pointwise []
    simp only [L12_1, L13_1, L12_2, L13_2, L14, ln2_named, log2e_named]
    rw [rd1 (ho := by decide)]
    rfl
  | ⟨1, _⟩ =>
    rw [wr4_not _ _ rfl _ _ _ _ _ _ _ (.inr (.inr (.inl (show 1 < 4 by decide)))), wr4_not _ _ rfl _ _ _ _ _ _ _ (.inr (.inr (.inl (show 1 < 4 by decide)))), wr4_not _ _ rfl _ _ _ _ _ _ _ (.inr (.inr (.inl (show 1 < 4 by decide)))), wr4_not _ _ rfl _ _ _ _ _ _ _ (.inr (.inr (.inl (show 1 < 4 by decide)))), wr4_not _ _ rfl _ _ _ _ _ _ _ (.inr (.inr (.inl (show 1 < 3 by decide)))), wr4_not _ _ rfl _ _ _ _ _ _ _ (.inr (.inr (.inl (show 1 < 3 by decide)))), wr4_not _ _ rfl _ _ _ _ _ _ _ (.inr (.inr (.inl (show 1 < 3 by decide)))), wr4_not _ _ rfl _ _ _ _ _ _ _ (.inr (.inr (.inl (show 1 < 3 by decide)))), wr4_not _ _ rfl _ _ _ _ _ _ _ (.inr (.inr (.inl (show 1 < 2 by decide)))), wr4_not _ _ rfl _ _ _ _ _ _ _ (.inr (.inr (.inl (show 1 < 2 by decide)))), wr4_not _ _ rfl _ _ _ _ _ _ _ (.inr (.inr (.inl (show 1 < 2 by decide)))), wr4_not _ _ rfl _ _ _ _ _ _ _ (.inr (.inr (.inl (show 1 < 2 by decide)))), wr4_not _ _ rfl _ _ _ _ _ _ _ (.inr (.inl (by decide))), wr4_mem _ _ rfl _ _ _ _ _ _ _ 0 0 0 s rfl rfl rfl (Nat.zero_add _).symm]
    sl_unfold_run_names
    intro G12 G13 G14 e12 e13 e14
    rw [e12, e13, e14]
    clear e12 e13 e14
    have L12_1 : ∀ inb s x, arg12.view.readAt (Elt Ideal) (Rect.unit (s := S5x640x128) ![1, 128, 0] ![1, 128, 128] inb).toLoadRect G12 (ix3 0 s x) = arg12.view.read (Elt Ideal) G12 (ix3 1 (row 1 s) x) :=
      fun inb s x => rd3 arg12.view G12 rfl inb (0 : Fin 1) s x 1 (row 1 s) x rfl rfl (Nat.zero_add _).symm
    have L13_1 : ∀ inb s x, arg13.view.readAt (Elt Ideal) (Rect.unit (s := S5x640x128) ![1, 128, 0] ![1, 128, 128] inb).toLoadRect G13 (ix3 0 s x) = arg13.view.read (Elt Ideal) G13 (ix3 1 (row 1 s) x) :=
      fun inb s x => rd3 arg13.view G13 rfl inb (0 : Fin 1) s x 1 (row 1 s) x rfl rfl (Nat.zero_add _).symm
    have L12_2 : ∀ inb s x, arg12.view.readAt (Elt Ideal) (Rect.unit (s := S5x640x128) ![2, 128, 0] ![1, 128, 128] inb).toLoadRect G12 (ix3 0 s x) = arg12.view.read (Elt Ideal) G12 (ix3 2 (row 1 s) x) :=
      fun inb s x => rd3 arg12.view G12 rfl inb (0 : Fin 1) s x 2 (row 1 s) x rfl rfl (Nat.zero_add _).symm
    have L13_2 : ∀ inb s x, arg13.view.readAt (Elt Ideal) (Rect.unit (s := S5x640x128) ![2, 128, 0] ![1, 128, 128] inb).toLoadRect G13 (ix3 0 s x) = arg13.view.read (Elt Ideal) G13 (ix3 2 (row 1 s) x) :=
      fun inb s x => rd3 arg13.view G13 rfl inb (0 : Fin 1) s x 2 (row 1 s) x rfl rfl (Nat.zero_add _).symm
    have L14 : ∀ inb s x, arg14.view.readAt (Elt Ideal) (Rect.unit (s := S4x640x128) ![2, 128, 0] ![1, 128, 128] inb).toLoadRect G14 (ix3 0 s x) = arg14.view.read (Elt Ideal) G14 (ix3 2 (row 1 s) x) :=
      fun inb s x => rd3 arg14.view G14 rfl inb (0 : Fin 1) s x 2 (row 1 s) x rfl rfl (Nat.zero_add _).symm
    unfold_payloads
    try dsimp only
    pointwise []
    simp only [L12_1, L13_1, L12_2, L13_2, L14, ln2_named, log2e_named]
    rw [rd1 (ho := by decide)]
    rfl
  | ⟨2, _⟩ =>
    rw [wr4_not _ _ rfl _ _ _ _ _ _ _ (.inr (.inr (.inl (show 2 < 4 by decide)))), wr4_not _ _ rfl _ _ _ _ _ _ _ (.inr (.inr (.inl (show 2 < 4 by decide)))), wr4_not _ _ rfl _ _ _ _ _ _ _ (.inr (.inr (.inl (show 2 < 4 by decide)))), wr4_not _ _ rfl _ _ _ _ _ _ _ (.inr (.inr (.inl (show 2 < 4 by decide)))), wr4_not _ _ rfl _ _ _ _ _ _ _ (.inr (.inr (.inl (show 2 < 3 by decide)))), wr4_not _ _ rfl _ _ _ _ _ _ _ (.inr (.inr (.inl (show 2 < 3 by decide)))), wr4_not _ _ rfl _ _ _ _ _ _ _ (.inr (.inr (.inl (show 2 < 3 by decide)))), wr4_not _ _ rfl _ _ _ _ _ _ _ (.inr (.inr (.inl (show 2 < 3 by decide)))), wr4_not _ _ rfl _ _ _ _ _ _ _ (.inr (.inl (by decide))), wr4_mem _ _ rfl _ _ _ _ _ _ _ 0 0 0 s rfl rfl rfl (Nat.zero_add _).symm]
    sl_unfold_run_names
    intro G12 G13 G14 e12 e13 e14
    rw [e12, e13, e14]
    clear e12 e13 e14
    have L12_1 : ∀ inb s x, arg12.view.readAt (Elt Ideal) (Rect.unit (s := S5x640x128) ![1, 256, 0] ![1, 128, 128] inb).toLoadRect G12 (ix3 0 s x) = arg12.view.read (Elt Ideal) G12 (ix3 1 (row 2 s) x) :=
      fun inb s x => rd3 arg12.view G12 rfl inb (0 : Fin 1) s x 1 (row 2 s) x rfl rfl (Nat.zero_add _).symm
    have L13_1 : ∀ inb s x, arg13.view.readAt (Elt Ideal) (Rect.unit (s := S5x640x128) ![1, 256, 0] ![1, 128, 128] inb).toLoadRect G13 (ix3 0 s x) = arg13.view.read (Elt Ideal) G13 (ix3 1 (row 2 s) x) :=
      fun inb s x => rd3 arg13.view G13 rfl inb (0 : Fin 1) s x 1 (row 2 s) x rfl rfl (Nat.zero_add _).symm
    have L12_2 : ∀ inb s x, arg12.view.readAt (Elt Ideal) (Rect.unit (s := S5x640x128) ![2, 256, 0] ![1, 128, 128] inb).toLoadRect G12 (ix3 0 s x) = arg12.view.read (Elt Ideal) G12 (ix3 2 (row 2 s) x) :=
      fun inb s x => rd3 arg12.view G12 rfl inb (0 : Fin 1) s x 2 (row 2 s) x rfl rfl (Nat.zero_add _).symm
    have L13_2 : ∀ inb s x, arg13.view.readAt (Elt Ideal) (Rect.unit (s := S5x640x128) ![2, 256, 0] ![1, 128, 128] inb).toLoadRect G13 (ix3 0 s x) = arg13.view.read (Elt Ideal) G13 (ix3 2 (row 2 s) x) :=
      fun inb s x => rd3 arg13.view G13 rfl inb (0 : Fin 1) s x 2 (row 2 s) x rfl rfl (Nat.zero_add _).symm
    have L14 : ∀ inb s x, arg14.view.readAt (Elt Ideal) (Rect.unit (s := S4x640x128) ![2, 256, 0] ![1, 128, 128] inb).toLoadRect G14 (ix3 0 s x) = arg14.view.read (Elt Ideal) G14 (ix3 2 (row 2 s) x) :=
      fun inb s x => rd3 arg14.view G14 rfl inb (0 : Fin 1) s x 2 (row 2 s) x rfl rfl (Nat.zero_add _).symm
    unfold_payloads
    try dsimp only
    pointwise []
    simp only [L12_1, L13_1, L12_2, L13_2, L14, ln2_named, log2e_named]
    rw [rd1 (ho := by decide)]
    rfl
  | ⟨3, _⟩ =>
    rw [wr4_not _ _ rfl _ _ _ _ _ _ _ (.inr (.inr (.inl (show 3 < 4 by decide)))), wr4_not _ _ rfl _ _ _ _ _ _ _ (.inr (.inr (.inl (show 3 < 4 by decide)))), wr4_not _ _ rfl _ _ _ _ _ _ _ (.inr (.inr (.inl (show 3 < 4 by decide)))), wr4_not _ _ rfl _ _ _ _ _ _ _ (.inr (.inr (.inl (show 3 < 4 by decide)))), wr4_not _ _ rfl _ _ _ _ _ _ _ (.inr (.inl (by decide))), wr4_mem _ _ rfl _ _ _ _ _ _ _ 0 0 0 s rfl rfl rfl (Nat.zero_add _).symm]
    sl_unfold_run_names
    intro G12 G13 G14 e12 e13 e14
    rw [e12, e13, e14]
    clear e12 e13 e14
    have L12_1 : ∀ inb s x, arg12.view.readAt (Elt Ideal) (Rect.unit (s := S5x640x128) ![1, 384, 0] ![1, 128, 128] inb).toLoadRect G12 (ix3 0 s x) = arg12.view.read (Elt Ideal) G12 (ix3 1 (row 3 s) x) :=
      fun inb s x => rd3 arg12.view G12 rfl inb (0 : Fin 1) s x 1 (row 3 s) x rfl rfl (Nat.zero_add _).symm
    have L13_1 : ∀ inb s x, arg13.view.readAt (Elt Ideal) (Rect.unit (s := S5x640x128) ![1, 384, 0] ![1, 128, 128] inb).toLoadRect G13 (ix3 0 s x) = arg13.view.read (Elt Ideal) G13 (ix3 1 (row 3 s) x) :=
      fun inb s x => rd3 arg13.view G13 rfl inb (0 : Fin 1) s x 1 (row 3 s) x rfl rfl (Nat.zero_add _).symm
    have L12_2 : ∀ inb s x, arg12.view.readAt (Elt Ideal) (Rect.unit (s := S5x640x128) ![2, 384, 0] ![1, 128, 128] inb).toLoadRect G12 (ix3 0 s x) = arg12.view.read (Elt Ideal) G12 (ix3 2 (row 3 s) x) :=
      fun inb s x => rd3 arg12.view G12 rfl inb (0 : Fin 1) s x 2 (row 3 s) x rfl rfl (Nat.zero_add _).symm
    have L13_2 : ∀ inb s x, arg13.view.readAt (Elt Ideal) (Rect.unit (s := S5x640x128) ![2, 384, 0] ![1, 128, 128] inb).toLoadRect G13 (ix3 0 s x) = arg13.view.read (Elt Ideal) G13 (ix3 2 (row 3 s) x) :=
      fun inb s x => rd3 arg13.view G13 rfl inb (0 : Fin 1) s x 2 (row 3 s) x rfl rfl (Nat.zero_add _).symm
    have L14 : ∀ inb s x, arg14.view.readAt (Elt Ideal) (Rect.unit (s := S4x640x128) ![2, 384, 0] ![1, 128, 128] inb).toLoadRect G14 (ix3 0 s x) = arg14.view.read (Elt Ideal) G14 (ix3 2 (row 3 s) x) :=
      fun inb s x => rd3 arg14.view G14 rfl inb (0 : Fin 1) s x 2 (row 3 s) x rfl rfl (Nat.zero_add _).symm
    unfold_payloads
    try dsimp only
    pointwise []
    simp only [L12_1, L13_1, L12_2, L13_2, L14, ln2_named, log2e_named]
    rw [rd1 (ho := by decide)]
    rfl
  | ⟨4, _⟩ =>
    rw [wr4_not _ _ rfl _ _ _ _ _ _ _ (.inr (.inl (by decide))), wr4_mem _ _ rfl _ _ _ _ _ _ _ 0 0 0 s rfl rfl rfl (Nat.zero_add _).symm]
    sl_unfold_run_names
    intro G12 G13 G14 e12 e13 e14
    rw [e12, e13, e14]
    clear e12 e13 e14
    have L12_1 : ∀ inb s x, arg12.view.readAt (Elt Ideal) (Rect.unit (s := S5x640x128) ![1, 512, 0] ![1, 128, 128] inb).toLoadRect G12 (ix3 0 s x) = arg12.view.read (Elt Ideal) G12 (ix3 1 (row 4 s) x) :=
      fun inb s x => rd3 arg12.view G12 rfl inb (0 : Fin 1) s x 1 (row 4 s) x rfl rfl (Nat.zero_add _).symm
    have L13_1 : ∀ inb s x, arg13.view.readAt (Elt Ideal) (Rect.unit (s := S5x640x128) ![1, 512, 0] ![1, 128, 128] inb).toLoadRect G13 (ix3 0 s x) = arg13.view.read (Elt Ideal) G13 (ix3 1 (row 4 s) x) :=
      fun inb s x => rd3 arg13.view G13 rfl inb (0 : Fin 1) s x 1 (row 4 s) x rfl rfl (Nat.zero_add _).symm
    have L12_2 : ∀ inb s x, arg12.view.readAt (Elt Ideal) (Rect.unit (s := S5x640x128) ![2, 512, 0] ![1, 128, 128] inb).toLoadRect G12 (ix3 0 s x) = arg12.view.read (Elt Ideal) G12 (ix3 2 (row 4 s) x) :=
      fun inb s x => rd3 arg12.view G12 rfl inb (0 : Fin 1) s x 2 (row 4 s) x rfl rfl (Nat.zero_add _).symm
    have L13_2 : ∀ inb s x, arg13.view.readAt (Elt Ideal) (Rect.unit (s := S5x640x128) ![2, 512, 0] ![1, 128, 128] inb).toLoadRect G13 (ix3 0 s x) = arg13.view.read (Elt Ideal) G13 (ix3 2 (row 4 s) x) :=
      fun inb s x => rd3 arg13.view G13 rfl inb (0 : Fin 1) s x 2 (row 4 s) x rfl rfl (Nat.zero_add _).symm
    have L14 : ∀ inb s x, arg14.view.readAt (Elt Ideal) (Rect.unit (s := S4x640x128) ![2, 512, 0] ![1, 128, 128] inb).toLoadRect G14 (ix3 0 s x) = arg14.view.read (Elt Ideal) G14 (ix3 2 (row 4 s) x) :=
      fun inb s x => rd3 arg14.view G14 rfl inb (0 : Fin 1) s x 2 (row 4 s) x rfl rfl (Nat.zero_add _).symm
    unfold_payloads
    try dsimp only
    pointwise []
    simp only [L12_1, L13_1, L12_2, L13_2, L14, ln2_named, log2e_named]
    rw [rd1 (ho := by decide)]
    rfl

set_option maxHeartbeats 2000000 in
theorem row3 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) (G) (b : Fin 5) (s : Fin 128) : ∀ G12 G13 G14, arg12.view.writes (Elt Ideal) (harg12.unread xs2) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.1 = G12 →
     arg13.view.writes (Elt Ideal) (harg13.unread xs3) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.2.1 = G13 →
     arg14.view.writes (Elt Ideal) (harg14.unread xs4) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.2.2.1 = G14 →
    arg8.view.read (Elt Ideal) (arg8.view.writes (Elt Ideal) G (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.1) (ix4 1 2 b s)
      = rowV (arg12.view.read (Elt Ideal) G12) (arg13.view.read (Elt Ideal) G13) (arg14.view.read (Elt Ideal) G14) (NV xt0) 3 b s := by
  unfold kernelRun0_C
  dsimp only
  match b with
  | ⟨0, _⟩ =>
    rw [wr4_not _ _ rfl _ _ _ _ _ _ _ (.inr (.inr (.inl (show 0 < 4 by decide)))), wr4_not _ _ rfl _ _ _ _ _ _ _ (.inr (.inr (.inl (show 0 < 4 by decide)))), wr4_not _ _ rfl _ _ _ _ _ _ _ (.inr (.inr (.inl (show 0 < 4 by decide)))), wr4_not _ _ rfl _ _ _ _ _ _ _ (.inr (.inr (.inl (show 0 < 4 by decide)))), wr4_not _ _ rfl _ _ _ _ _ _ _ (.inr (.inr (.inl (show 0 < 3 by decide)))), wr4_not _ _ rfl _ _ _ _ _ _ _ (.inr (.inr (.inl (show 0 < 3 by decide)))), wr4_not _ _ rfl _ _ _ _ _ _ _ (.inr (.inr (.inl (show 0 < 3 by decide)))), wr4_not _ _ rfl _ _ _ _ _ _ _ (.inr (.inr (.inl (show 0 < 3 by decide)))), wr4_not _ _ rfl _ _ _ _ _ _ _ (.inr (.inr (.inl (show 0 < 2 by decide)))), wr4_not _ _ rfl _ _ _ _ _ _ _ (.inr (.inr (.inl (show 0 < 2 by decide)))), wr4_not _ _ rfl _ _ _ _ _ _ _ (.inr (.inr (.inl (show 0 < 2 by decide)))), wr4_not _ _ rfl _ _ _ _ _ _ _ (.inr (.inr (.inl (show 0 < 2 by decide)))), wr4_not _ _ rfl _ _ _ _ _ _ _ (.inr (.inr (.inl (show 0 < 1 by decide)))), wr4_not _ _ rfl _ _ _ _ _ _ _ (.inr (.inr (.inl (show 0 < 1 by decide)))), wr4_not _ _ rfl _ _ _ _ _ _ _ (.inr (.inr (.inl (show 0 < 1 by decide)))), wr4_not _ _ rfl _ _ _ _ _ _ _ (.inr (.inr (.inl (show 0 < 1 by decide)))), wr4_mem _ _ rfl _ _ _ _ _ _ _ 0 0 0 s rfl rfl rfl (Nat.zero_add _).symm]
    sl_unfold_run_names
    intro G12 G13 G14 e12 e13 e14
    rw [e12, e13, e14]
    clear e12 e13 e14
    have L12_1 : ∀ inb s x, arg12.view.readAt (Elt Ideal) (Rect.unit (s := S5x640x128) ![1, 0, 0] ![1, 128, 128] inb).toLoadRect G12 (ix3 0 s x) = arg12.view.read (Elt Ideal) G12 (ix3 1 (row 0 s) x) :=
      fun inb s x => rd3 arg12.view G12 rfl inb (0 : Fin 1) s x 1 (row 0 s) x rfl rfl (Nat.zero_add _).symm
    have L13_1 : ∀ inb s x, arg13.view.readAt (Elt Ideal) (Rect.unit (s := S5x640x128) ![1, 0, 0] ![1, 128, 128] inb).toLoadRect G13 (ix3 0 s x) = arg13.view.read (Elt Ideal) G13 (ix3 1 (row 0 s) x) :=
      fun inb s x => rd3 arg13.view G13 rfl inb (0 : Fin 1) s x 1 (row 0 s) x rfl rfl (Nat.zero_add _).symm
    have L12_4 : ∀ inb s x, arg12.view.readAt (Elt Ideal) (Rect.unit (s := S5x640x128) ![4, 0, 0] ![1, 128, 128] inb).toLoadRect G12 (ix3 0 s x) = arg12.view.read (Elt Ideal) G12 (ix3 4 (row 0 s) x) :=
      fun inb s x => rd3 arg12.view G12 rfl inb (0 : Fin 1) s x 4 (row 0 s) x rfl rfl (Nat.zero_add _).symm
    have L13_4 : ∀ inb s x, arg13.view.readAt (Elt Ideal) (Rect.unit (s := S5x640x128) ![4, 0, 0] ![1, 128, 128] inb).toLoadRect G13 (ix3 0 s x) = arg13.view.read (Elt Ideal) G13 (ix3 4 (row 0 s) x) :=
      fun inb s x => rd3 arg13.view G13 rfl inb (0 : Fin 1) s x 4 (row 0 s) x rfl rfl (Nat.zero_add _).symm
    have L14 : ∀ inb s x, arg14.view.readAt (Elt Ideal) (Rect.unit (s := S4x640x128) ![3, 0, 0] ![1, 128, 128] inb).toLoadRect G14 (ix3 0 s x) = arg14.view.read (Elt Ideal) G14 (ix3 3 (row 0 s) x) :=
      fun inb s x => rd3 arg14.view G14 rfl inb (0 : Fin 1) s x 3 (row 0 s) x rfl rfl (Nat.zero_add _).symm
    unfold_payloads
    try dsimp only
    pointwise []
    simp only [L12_1, L13_1, L12_4, L13_4, L14, ln2_named, log2e_named]
    rw [rd1 (ho := by decide)]
    rfl
  | ⟨1, _⟩ =>
    rw [wr4_not _ _ rfl _ _ _ _ _ _ _ (.inr (.inr (.inl (show 1 < 4 by decide)))), wr4_not _ _ rfl _ _ _ _ _ _ _ (.inr (.inr (.inl (show 1 < 4 by decide)))), wr4_not _ _ rfl _ _ _ _ _ _ _ (.inr (.inr (.inl (show 1 < 4 by decide)))), wr4_not _ _ rfl _ _ _ _ _ _ _ (.inr (.inr (.inl (show 1 < 4 by decide)))), wr4_not _ _ rfl _ _ _ _ _ _ _ (.inr (.inr (.inl (show 1 < 3 by decide)))), wr4_not _ _ rfl _ _ _ _ _ _ _ (.inr (.inr (.inl (show 1 < 3 by decide)))), wr4_not _ _ rfl _ _ _ _ _ _ _ (.inr (.inr (.inl (show 1 < 3 by decide)))), wr4_not _ _ rfl _ _ _ _ _ _ _ (.inr (.inr (.inl (show 1 < 3 by decide)))), wr4_not _ _ rfl _ _ _ _ _ _ _ (.inr (.inr (.inl (show 1 < 2 by decide)))), wr4_not _ _ rfl _ _ _ _ _ _ _ (.inr (.inr (.inl (show 1 < 2 by decide)))), wr4_not _ _ rfl _ _ _ _ _ _ _ (.inr (.inr (.inl (show 1 < 2 by decide)))), wr4_not _ _ rfl _ _ _ _ _ _ _ (.inr (.inr (.inl (show 1 < 2 by decide)))), wr4_mem _ _ rfl _ _ _ _ _ _ _ 0 0 0 s rfl rfl rfl (Nat.zero_add _).symm]
    sl_unfold_run_names
    intro G12 G13 G14 e12 e13 e14
    rw [e12, e13, e14]
    clear e12 e13 e14
    have L12_1 : ∀ inb s x, arg12.view.readAt (Elt Ideal) (Rect.unit (s := S5x640x128) ![1, 128, 0] ![1, 128, 128] inb).toLoadRect G12 (ix3 0 s x) = arg12.view.read (Elt Ideal) G12 (ix3 1 (row 1 s) x) :=
      fun inb s x => rd3 arg12.view G12 rfl inb (0 : Fin 1) s x 1 (row 1 s) x rfl rfl (Nat.zero_add _).symm
    have L13_1 : ∀ inb s x, arg13.view.readAt (Elt Ideal) (Rect.unit (s := S5x640x128) ![1, 128, 0] ![1, 128, 128] inb).toLoadRect G13 (ix3 0 s x) = arg13.view.read (Elt Ideal) G13 (ix3 1 (row 1 s) x) :=
      fun inb s x => rd3 arg13.view G13 rfl inb (0 : Fin 1) s x 1 (row 1 s) x rfl rfl (Nat.zero_add _).symm
    have L12_4 : ∀ inb s x, arg12.view.readAt (Elt Ideal) (Rect.unit (s := S5x640x128) ![4, 128, 0] ![1, 128, 128] inb).toLoadRect G12 (ix3 0 s x) = arg12.view.read (Elt Ideal) G12 (ix3 4 (row 1 s) x) :=
      fun inb s x => rd3 arg12.view G12 rfl inb (0 : Fin 1) s x 4 (row 1 s) x rfl rfl (Nat.zero_add _).symm
    have L13_4 : ∀ inb s x, arg13.view.readAt (Elt Ideal) (Rect.unit (s := S5x640x128) ![4, 128, 0] ![1, 128, 128] inb).toLoadRect G13 (ix3 0 s x) = arg13.view.read (Elt Ideal) G13 (ix3 4 (row 1 s) x) :=
      fun inb s x => rd3 arg13.view G13 rfl inb (0 : Fin 1) s x 4 (row 1 s) x rfl rfl (Nat.zero_add _).symm
    have L14 : ∀ inb s x, arg14.view.readAt (Elt Ideal) (Rect.unit (s := S4x640x128) ![3, 128, 0] ![1, 128, 128] inb).toLoadRect G14 (ix3 0 s x) = arg14.view.read (Elt Ideal) G14 (ix3 3 (row 1 s) x) :=
      fun inb s x => rd3 arg14.view G14 rfl inb (0 : Fin 1) s x 3 (row 1 s) x rfl rfl (Nat.zero_add _).symm
    unfold_payloads
    try dsimp only
    pointwise []
    simp only [L12_1, L13_1, L12_4, L13_4, L14, ln2_named, log2e_named]
    rw [rd1 (ho := by decide)]
    rfl
  | ⟨2, _⟩ =>
    rw [wr4_not _ _ rfl _ _ _ _ _ _ _ (.inr (.inr (.inl (show 2 < 4 by decide)))), wr4_not _ _ rfl _ _ _ _ _ _ _ (.inr (.inr (.inl (show 2 < 4 by decide)))), wr4_not _ _ rfl _ _ _ _ _ _ _ (.inr (.inr (.inl (show 2 < 4 by decide)))), wr4_not _ _ rfl _ _ _ _ _ _ _ (.inr (.inr (.inl (show 2 < 4 by decide)))), wr4_not _ _ rfl _ _ _ _ _ _ _ (.inr (.inr (.inl (show 2 < 3 by decide)))), wr4_not _ _ rfl _ _ _ _ _ _ _ (.inr (.inr (.inl (show 2 < 3 by decide)))), wr4_not _ _ rfl _ _ _ _ _ _ _ (.inr (.inr (.inl (show 2 < 3 by decide)))), wr4_not _ _ rfl _ _ _ _ _ _ _ (.inr (.inr (.inl (show 2 < 3 by decide)))), wr4_mem _ _ rfl _ _ _ _ _ _ _ 0 0 0 s rfl rfl rfl (Nat.zero_add _).symm]
    sl_unfold_run_names
    intro G12 G13 G14 e12 e13 e14
    rw [e12, e13, e14]
    clear e12 e13 e14
    have L12_1 : ∀ inb s x, arg12.view.readAt (Elt Ideal) (Rect.unit (s := S5x640x128) ![1, 256, 0] ![1, 128, 128] inb).toLoadRect G12 (ix3 0 s x) = arg12.view.read (Elt Ideal) G12 (ix3 1 (row 2 s) x) :=
      fun inb s x => rd3 arg12.view G12 rfl inb (0 : Fin 1) s x 1 (row 2 s) x rfl rfl (Nat.zero_add _).symm
    have L13_1 : ∀ inb s x, arg13.view.readAt (Elt Ideal) (Rect.unit (s := S5x640x128) ![1, 256, 0] ![1, 128, 128] inb).toLoadRect G13 (ix3 0 s x) = arg13.view.read (Elt Ideal) G13 (ix3 1 (row 2 s) x) :=
      fun inb s x => rd3 arg13.view G13 rfl inb (0 : Fin 1) s x 1 (row 2 s) x rfl rfl (Nat.zero_add _).symm
    have L12_4 : ∀ inb s x, arg12.view.readAt (Elt Ideal) (Rect.unit (s := S5x640x128) ![4, 256, 0] ![1, 128, 128] inb).toLoadRect G12 (ix3 0 s x) = arg12.view.read (Elt Ideal) G12 (ix3 4 (row 2 s) x) :=
      fun inb s x => rd3 arg12.view G12 rfl inb (0 : Fin 1) s x 4 (row 2 s) x rfl rfl (Nat.zero_add _).symm
    have L13_4 : ∀ inb s x, arg13.view.readAt (Elt Ideal) (Rect.unit (s := S5x640x128) ![4, 256, 0] ![1, 128, 128] inb).toLoadRect G13 (ix3 0 s x) = arg13.view.read (Elt Ideal) G13 (ix3 4 (row 2 s) x) :=
      fun inb s x => rd3 arg13.view G13 rfl inb (0 : Fin 1) s x 4 (row 2 s) x rfl rfl (Nat.zero_add _).symm
    have L14 : ∀ inb s x, arg14.view.readAt (Elt Ideal) (Rect.unit (s := S4x640x128) ![3, 256, 0] ![1, 128, 128] inb).toLoadRect G14 (ix3 0 s x) = arg14.view.read (Elt Ideal) G14 (ix3 3 (row 2 s) x) :=
      fun inb s x => rd3 arg14.view G14 rfl inb (0 : Fin 1) s x 3 (row 2 s) x rfl rfl (Nat.zero_add _).symm
    unfold_payloads
    try dsimp only
    pointwise []
    simp only [L12_1, L13_1, L12_4, L13_4, L14, ln2_named, log2e_named]
    rw [rd1 (ho := by decide)]
    rfl
  | ⟨3, _⟩ =>
    rw [wr4_not _ _ rfl _ _ _ _ _ _ _ (.inr (.inr (.inl (show 3 < 4 by decide)))), wr4_not _ _ rfl _ _ _ _ _ _ _ (.inr (.inr (.inl (show 3 < 4 by decide)))), wr4_not _ _ rfl _ _ _ _ _ _ _ (.inr (.inr (.inl (show 3 < 4 by decide)))), wr4_not _ _ rfl _ _ _ _ _ _ _ (.inr (.inr (.inl (show 3 < 4 by decide)))), wr4_mem _ _ rfl _ _ _ _ _ _ _ 0 0 0 s rfl rfl rfl (Nat.zero_add _).symm]
    sl_unfold_run_names
    intro G12 G13 G14 e12 e13 e14
    rw [e12, e13, e14]
    clear e12 e13 e14
    have L12_1 : ∀ inb s x, arg12.view.readAt (Elt Ideal) (Rect.unit (s := S5x640x128) ![1, 384, 0] ![1, 128, 128] inb).toLoadRect G12 (ix3 0 s x) = arg12.view.read (Elt Ideal) G12 (ix3 1 (row 3 s) x) :=
      fun inb s x => rd3 arg12.view G12 rfl inb (0 : Fin 1) s x 1 (row 3 s) x rfl rfl (Nat.zero_add _).symm
    have L13_1 : ∀ inb s x, arg13.view.readAt (Elt Ideal) (Rect.unit (s := S5x640x128) ![1, 384, 0] ![1, 128, 128] inb).toLoadRect G13 (ix3 0 s x) = arg13.view.read (Elt Ideal) G13 (ix3 1 (row 3 s) x) :=
      fun inb s x => rd3 arg13.view G13 rfl inb (0 : Fin 1) s x 1 (row 3 s) x rfl rfl (Nat.zero_add _).symm
    have L12_4 : ∀ inb s x, arg12.view.readAt (Elt Ideal) (Rect.unit (s := S5x640x128) ![4, 384, 0] ![1, 128, 128] inb).toLoadRect G12 (ix3 0 s x) = arg12.view.read (Elt Ideal) G12 (ix3 4 (row 3 s) x) :=
      fun inb s x => rd3 arg12.view G12 rfl inb (0 : Fin 1) s x 4 (row 3 s) x rfl rfl (Nat.zero_add _).symm
    have L13_4 : ∀ inb s x, arg13.view.readAt (Elt Ideal) (Rect.unit (s := S5x640x128) ![4, 384, 0] ![1, 128, 128] inb).toLoadRect G13 (ix3 0 s x) = arg13.view.read (Elt Ideal) G13 (ix3 4 (row 3 s) x) :=
      fun inb s x => rd3 arg13.view G13 rfl inb (0 : Fin 1) s x 4 (row 3 s) x rfl rfl (Nat.zero_add _).symm
    have L14 : ∀ inb s x, arg14.view.readAt (Elt Ideal) (Rect.unit (s := S4x640x128) ![3, 384, 0] ![1, 128, 128] inb).toLoadRect G14 (ix3 0 s x) = arg14.view.read (Elt Ideal) G14 (ix3 3 (row 3 s) x) :=
      fun inb s x => rd3 arg14.view G14 rfl inb (0 : Fin 1) s x 3 (row 3 s) x rfl rfl (Nat.zero_add _).symm
    unfold_payloads
    try dsimp only
    pointwise []
    simp only [L12_1, L13_1, L12_4, L13_4, L14, ln2_named, log2e_named]
    rw [rd1 (ho := by decide)]
    rfl
  | ⟨4, _⟩ =>
    rw [wr4_mem _ _ rfl _ _ _ _ _ _ _ 0 0 0 s rfl rfl rfl (Nat.zero_add _).symm]
    sl_unfold_run_names
    intro G12 G13 G14 e12 e13 e14
    rw [e12, e13, e14]
    clear e12 e13 e14
    have L12_1 : ∀ inb s x, arg12.view.readAt (Elt Ideal) (Rect.unit (s := S5x640x128) ![1, 512, 0] ![1, 128, 128] inb).toLoadRect G12 (ix3 0 s x) = arg12.view.read (Elt Ideal) G12 (ix3 1 (row 4 s) x) :=
      fun inb s x => rd3 arg12.view G12 rfl inb (0 : Fin 1) s x 1 (row 4 s) x rfl rfl (Nat.zero_add _).symm
    have L13_1 : ∀ inb s x, arg13.view.readAt (Elt Ideal) (Rect.unit (s := S5x640x128) ![1, 512, 0] ![1, 128, 128] inb).toLoadRect G13 (ix3 0 s x) = arg13.view.read (Elt Ideal) G13 (ix3 1 (row 4 s) x) :=
      fun inb s x => rd3 arg13.view G13 rfl inb (0 : Fin 1) s x 1 (row 4 s) x rfl rfl (Nat.zero_add _).symm
    have L12_4 : ∀ inb s x, arg12.view.readAt (Elt Ideal) (Rect.unit (s := S5x640x128) ![4, 512, 0] ![1, 128, 128] inb).toLoadRect G12 (ix3 0 s x) = arg12.view.read (Elt Ideal) G12 (ix3 4 (row 4 s) x) :=
      fun inb s x => rd3 arg12.view G12 rfl inb (0 : Fin 1) s x 4 (row 4 s) x rfl rfl (Nat.zero_add _).symm
    have L13_4 : ∀ inb s x, arg13.view.readAt (Elt Ideal) (Rect.unit (s := S5x640x128) ![4, 512, 0] ![1, 128, 128] inb).toLoadRect G13 (ix3 0 s x) = arg13.view.read (Elt Ideal) G13 (ix3 4 (row 4 s) x) :=
      fun inb s x => rd3 arg13.view G13 rfl inb (0 : Fin 1) s x 4 (row 4 s) x rfl rfl (Nat.zero_add _).symm
    have L14 : ∀ inb s x, arg14.view.readAt (Elt Ideal) (Rect.unit (s := S4x640x128) ![3, 512, 0] ![1, 128, 128] inb).toLoadRect G14 (ix3 0 s x) = arg14.view.read (Elt Ideal) G14 (ix3 3 (row 4 s) x) :=
      fun inb s x => rd3 arg14.view G14 rfl inb (0 : Fin 1) s x 3 (row 4 s) x rfl rfl (Nat.zero_add _).symm
    unfold_payloads
    try dsimp only
    pointwise []
    simp only [L12_1, L13_1, L12_4, L13_4, L14, ln2_named, log2e_named]
    rw [rd1 (ho := by decide)]
    rfl

set_option maxHeartbeats 2000000 in
theorem rowD0 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) (G) (b : Fin 5) (s : Fin 128) :
    arg8.view.read (Elt Ideal) (arg8.view.writes (Elt Ideal) G (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.1) (ix4 0 0 b s) = 0 := by
  unfold kernelRun0_C
  dsimp only
  rw [wr4_not _ _ rfl _ _ _ _ _ _ _ (.inl (by decide)), wr4_not _ _ rfl _ _ _ _ _ _ _ (.inl (by decide)), wr4_not _ _ rfl _ _ _ _ _ _ _ (.inr (.inl (by decide))), wr4_not _ _ rfl _ _ _ _ _ _ _ (.inr (.inl (by decide))), wr4_not _ _ rfl _ _ _ _ _ _ _ (.inl (by decide)), wr4_not _ _ rfl _ _ _ _ _ _ _ (.inl (by decide)), wr4_not _ _ rfl _ _ _ _ _ _ _ (.inr (.inl (by decide))), wr4_not _ _ rfl _ _ _ _ _ _ _ (.inr (.inl (by decide))), wr4_not _ _ rfl _ _ _ _ _ _ _ (.inl (by decide)), wr4_not _ _ rfl _ _ _ _ _ _ _ (.inl (by decide)), wr4_not _ _ rfl _ _ _ _ _ _ _ (.inr (.inl (by decide))), wr4_not _ _ rfl _ _ _ _ _ _ _ (.inr (.inl (by decide))), wr4_not _ _ rfl _ _ _ _ _ _ _ (.inl (by decide)), wr4_not _ _ rfl _ _ _ _ _ _ _ (.inl (by decide)), wr4_not _ _ rfl _ _ _ _ _ _ _ (.inr (.inl (by decide))), wr4_not _ _ rfl _ _ _ _ _ _ _ (.inr (.inl (by decide))), wr4_not _ _ rfl _ _ _ _ _ _ _ (.inl (by decide)), wr4_not _ _ rfl _ _ _ _ _ _ _ (.inl (by decide)), wr4_not _ _ rfl _ _ _ _ _ _ _ (.inr (.inl (by decide))), wr4_not _ _ rfl _ _ _ _ _ _ _ (.inr (.inl (by decide))), wr4_mem _ _ rfl _ _ _ _ _ _ _ 0 0 b s rfl rfl (Nat.zero_add _).symm (Nat.zero_add _).symm]
  sl_unfold_run_names
  unfold_payloads
  pointwise []

set_option maxHeartbeats 2000000 in
theorem rowD1 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) (G) (b : Fin 5) (s : Fin 128) :
    arg8.view.read (Elt Ideal) (arg8.view.writes (Elt Ideal) G (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.1) (ix4 1 1 b s) = 0 := by
  unfold kernelRun0_C
  dsimp only
  rw [wr4_not _ _ rfl _ _ _ _ _ _ _ (.inr (.inl (by decide))), wr4_not _ _ rfl _ _ _ _ _ _ _ (.inr (.inl (by decide))), wr4_not _ _ rfl _ _ _ _ _ _ _ (.inl (by decide)), wr4_not _ _ rfl _ _ _ _ _ _ _ (.inl (by decide)), wr4_not _ _ rfl _ _ _ _ _ _ _ (.inr (.inl (by decide))), wr4_not _ _ rfl _ _ _ _ _ _ _ (.inr (.inl (by decide))), wr4_not _ _ rfl _ _ _ _ _ _ _ (.inl (by decide)), wr4_not _ _ rfl _ _ _ _ _ _ _ (.inl (by decide)), wr4_not _ _ rfl _ _ _ _ _ _ _ (.inr (.inl (by decide))), wr4_not _ _ rfl _ _ _ _ _ _ _ (.inr (.inl (by decide))), wr4_not _ _ rfl _ _ _ _ _ _ _ (.inl (by decide)), wr4_not _ _ rfl _ _ _ _ _ _ _ (.inl (by decide)), wr4_not _ _ rfl _ _ _ _ _ _ _ (.inr (.inl (by decide))), wr4_not _ _ rfl _ _ _ _ _ _ _ (.inr (.inl (by decide))), wr4_not _ _ rfl _ _ _ _ _ _ _ (.inl (by decide)), wr4_not _ _ rfl _ _ _ _ _ _ _ (.inl (by decide)), wr4_not _ _ rfl _ _ _ _ _ _ _ (.inr (.inl (by decide))), wr4_not _ _ rfl _ _ _ _ _ _ _ (.inr (.inl (by decide))), wr4_not _ _ rfl _ _ _ _ _ _ _ (.inl (by decide)), wr4_not _ _ rfl _ _ _ _ _ _ _ (.inl (by decide)), wr4_mem _ _ rfl _ _ _ _ _ _ _ 1 1 b s rfl rfl (Nat.zero_add _).symm (Nat.zero_add _).symm]
  sl_unfold_run_names
  unfold_payloads
  pointwise []

end Cert.KernelIdeal.Gen

end
-- ==== Proof.FinPair.lean ====
/- What the kernel's last point stores into the pair losses, in exact arithmetic. -/
module

public import proofs.«01_k».proof.Proof.Gen.KernelIdeal.Frame
public import proofs.«01_k».proof.Proof.Fin

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

set_option maxHeartbeats 2000000 in
theorem pair0 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) (G) : ∀ G12 G13 G14, arg12.view.writes (Elt Ideal) (harg12.unread xs2) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.1 = G12 →
     arg13.view.writes (Elt Ideal) (harg13.unread xs3) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.2.1 = G13 →
     arg14.view.writes (Elt Ideal) (harg14.unread xs4) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.2.2.1 = G14 →
    arg7.view.read (Elt Ideal) (arg7.view.writes (Elt Ideal) G (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).1) (ix2 0 1)
      = Ideal.div (((((∑ s, rowV (arg12.view.read (Elt Ideal) G12) (arg13.view.read (Elt Ideal) G13) (arg14.view.read (Elt Ideal) G14) (NV xt0) 0 0 s) + ∑ s, rowV (arg12.view.read (Elt Ideal) G12) (arg13.view.read (Elt Ideal) G13) (arg14.view.read (Elt Ideal) G14) (NV xt0) 0 1 s) + ∑ s, rowV (arg12.view.read (Elt Ideal) G12) (arg13.view.read (Elt Ideal) G13) (arg14.view.read (Elt Ideal) G14) (NV xt0) 0 2 s) + ∑ s, rowV (arg12.view.read (Elt Ideal) G12) (arg13.view.read (Elt Ideal) G13) (arg14.view.read (Elt Ideal) G14) (NV xt0) 0 3 s) + ∑ s, rowV (arg12.view.read (Elt Ideal) G12) (arg13.view.read (Elt Ideal) G13) (arg14.view.read (Elt Ideal) G14) (NV xt0) 0 4 s) (NT (NV xt0)) := by
  unfold kernelRun0_C
  dsimp only
  rw [wr2_not0 _ _ rfl _ _ _ _ _ (by decide), wr2_not0 _ _ rfl _ _ _ _ _ (by decide), wr2_not1 _ _ rfl _ _ _ _ _ (by decide), wr2_mem _ _ rfl _ _ _ _ _ 0 0 rfl rfl]
  sl_unfold_run_names
  intro G12 G13 G14 e12 e13 e14
  rw [e12, e13, e14]
  clear e12 e13 e14
  have L12_0_0 : ∀ inb s x, arg12.view.readAt (Elt Ideal) (Rect.unit (s := S5x640x128) ![0, 0, 0] ![1, 128, 128] inb).toLoadRect G12 (ix3 0 s x) = arg12.view.read (Elt Ideal) G12 (ix3 0 (row 0 s) x) :=
      fun inb s x => rd3 arg12.view G12 rfl inb (0 : Fin 1) s x 0 (row 0 s) x rfl rfl (Nat.zero_add _).symm
  have L13_0_0 : ∀ inb s x, arg13.view.readAt (Elt Ideal) (Rect.unit (s := S5x640x128) ![0, 0, 0] ![1, 128, 128] inb).toLoadRect G13 (ix3 0 s x) = arg13.view.read (Elt Ideal) G13 (ix3 0 (row 0 s) x) :=
      fun inb s x => rd3 arg13.view G13 rfl inb (0 : Fin 1) s x 0 (row 0 s) x rfl rfl (Nat.zero_add _).symm
  have L12_3_0 : ∀ inb s x, arg12.view.readAt (Elt Ideal) (Rect.unit (s := S5x640x128) ![3, 0, 0] ![1, 128, 128] inb).toLoadRect G12 (ix3 0 s x) = arg12.view.read (Elt Ideal) G12 (ix3 3 (row 0 s) x) :=
      fun inb s x => rd3 arg12.view G12 rfl inb (0 : Fin 1) s x 3 (row 0 s) x rfl rfl (Nat.zero_add _).symm
  have L13_3_0 : ∀ inb s x, arg13.view.readAt (Elt Ideal) (Rect.unit (s := S5x640x128) ![3, 0, 0] ![1, 128, 128] inb).toLoadRect G13 (ix3 0 s x) = arg13.view.read (Elt Ideal) G13 (ix3 3 (row 0 s) x) :=
      fun inb s x => rd3 arg13.view G13 rfl inb (0 : Fin 1) s x 3 (row 0 s) x rfl rfl (Nat.zero_add _).symm
  have L14_0 : ∀ inb s x, arg14.view.readAt (Elt Ideal) (Rect.unit (s := S4x640x128) ![0, 0, 0] ![1, 128, 128] inb).toLoadRect G14 (ix3 0 s x) = arg14.view.read (Elt Ideal) G14 (ix3 0 (row 0 s) x) :=
      fun inb s x => rd3 arg14.view G14 rfl inb (0 : Fin 1) s x 0 (row 0 s) x rfl rfl (Nat.zero_add _).symm
  have L12_0_1 : ∀ inb s x, arg12.view.readAt (Elt Ideal) (Rect.unit (s := S5x640x128) ![0, 128, 0] ![1, 128, 128] inb).toLoadRect G12 (ix3 0 s x) = arg12.view.read (Elt Ideal) G12 (ix3 0 (row 1 s) x) :=
      fun inb s x => rd3 arg12.view G12 rfl inb (0 : Fin 1) s x 0 (row 1 s) x rfl rfl (Nat.zero_add _).symm
  have L13_0_1 : ∀ inb s x, arg13.view.readAt (Elt Ideal) (Rect.unit (s := S5x640x128) ![0, 128, 0] ![1, 128, 128] inb).toLoadRect G13 (ix3 0 s x) = arg13.view.read (Elt Ideal) G13 (ix3 0 (row 1 s) x) :=
      fun inb s x => rd3 arg13.view G13 rfl inb (0 : Fin 1) s x 0 (row 1 s) x rfl rfl (Nat.zero_add _).symm
  have L12_3_1 : ∀ inb s x, arg12.view.readAt (Elt Ideal) (Rect.unit (s := S5x640x128) ![3, 128, 0] ![1, 128, 128] inb).toLoadRect G12 (ix3 0 s x) = arg12.view.read (Elt Ideal) G12 (ix3 3 (row 1 s) x) :=
      fun inb s x => rd3 arg12.view G12 rfl inb (0 : Fin 1) s x 3 (row 1 s) x rfl rfl (Nat.zero_add _).symm
  have L13_3_1 : ∀ inb s x, arg13.view.readAt (Elt Ideal) (Rect.unit (s := S5x640x128) ![3, 128, 0] ![1, 128, 128] inb).toLoadRect G13 (ix3 0 s x) = arg13.view.read (Elt Ideal) G13 (ix3 3 (row 1 s) x) :=
      fun inb s x => rd3 arg13.view G13 rfl inb (0 : Fin 1) s x 3 (row 1 s) x rfl rfl (Nat.zero_add _).symm
  have L14_1 : ∀ inb s x, arg14.view.readAt (Elt Ideal) (Rect.unit (s := S4x640x128) ![0, 128, 0] ![1, 128, 128] inb).toLoadRect G14 (ix3 0 s x) = arg14.view.read (Elt Ideal) G14 (ix3 0 (row 1 s) x) :=
      fun inb s x => rd3 arg14.view G14 rfl inb (0 : Fin 1) s x 0 (row 1 s) x rfl rfl (Nat.zero_add _).symm
  have L12_0_2 : ∀ inb s x, arg12.view.readAt (Elt Ideal) (Rect.unit (s := S5x640x128) ![0, 256, 0] ![1, 128, 128] inb).toLoadRect G12 (ix3 0 s x) = arg12.view.read (Elt Ideal) G12 (ix3 0 (row 2 s) x) :=
      fun inb s x => rd3 arg12.view G12 rfl inb (0 : Fin 1) s x 0 (row 2 s) x rfl rfl (Nat.zero_add _).symm
  have L13_0_2 : ∀ inb s x, arg13.view.readAt (Elt Ideal) (Rect.unit (s := S5x640x128) ![0, 256, 0] ![1, 128, 128] inb).toLoadRect G13 (ix3 0 s x) = arg13.view.read (Elt Ideal) G13 (ix3 0 (row 2 s) x) :=
      fun inb s x => rd3 arg13.view G13 rfl inb (0 : Fin 1) s x 0 (row 2 s) x rfl rfl (Nat.zero_add _).symm
  have L12_3_2 : ∀ inb s x, arg12.view.readAt (Elt Ideal) (Rect.unit (s := S5x640x128) ![3, 256, 0] ![1, 128, 128] inb).toLoadRect G12 (ix3 0 s x) = arg12.view.read (Elt Ideal) G12 (ix3 3 (row 2 s) x) :=
      fun inb s x => rd3 arg12.view G12 rfl inb (0 : Fin 1) s x 3 (row 2 s) x rfl rfl (Nat.zero_add _).symm
  have L13_3_2 : ∀ inb s x, arg13.view.readAt (Elt Ideal) (Rect.unit (s := S5x640x128) ![3, 256, 0] ![1, 128, 128] inb).toLoadRect G13 (ix3 0 s x) = arg13.view.read (Elt Ideal) G13 (ix3 3 (row 2 s) x) :=
      fun inb s x => rd3 arg13.view G13 rfl inb (0 : Fin 1) s x 3 (row 2 s) x rfl rfl (Nat.zero_add _).symm
  have L14_2 : ∀ inb s x, arg14.view.readAt (Elt Ideal) (Rect.unit (s := S4x640x128) ![0, 256, 0] ![1, 128, 128] inb).toLoadRect G14 (ix3 0 s x) = arg14.view.read (Elt Ideal) G14 (ix3 0 (row 2 s) x) :=
      fun inb s x => rd3 arg14.view G14 rfl inb (0 : Fin 1) s x 0 (row 2 s) x rfl rfl (Nat.zero_add _).symm
  have L12_0_3 : ∀ inb s x, arg12.view.readAt (Elt Ideal) (Rect.unit (s := S5x640x128) ![0, 384, 0] ![1, 128, 128] inb).toLoadRect G12 (ix3 0 s x) = arg12.view.read (Elt Ideal) G12 (ix3 0 (row 3 s) x) :=
      fun inb s x => rd3 arg12.view G12 rfl inb (0 : Fin 1) s x 0 (row 3 s) x rfl rfl (Nat.zero_add _).symm
  have L13_0_3 : ∀ inb s x, arg13.view.readAt (Elt Ideal) (Rect.unit (s := S5x640x128) ![0, 384, 0] ![1, 128, 128] inb).toLoadRect G13 (ix3 0 s x) = arg13.view.read (Elt Ideal) G13 (ix3 0 (row 3 s) x) :=
      fun inb s x => rd3 arg13.view G13 rfl inb (0 : Fin 1) s x 0 (row 3 s) x rfl rfl (Nat.zero_add _).symm
  have L12_3_3 : ∀ inb s x, arg12.view.readAt (Elt Ideal) (Rect.unit (s := S5x640x128) ![3, 384, 0] ![1, 128, 128] inb).toLoadRect G12 (ix3 0 s x) = arg12.view.read (Elt Ideal) G12 (ix3 3 (row 3 s) x) :=
      fun inb s x => rd3 arg12.view G12 rfl inb (0 : Fin 1) s x 3 (row 3 s) x rfl rfl (Nat.zero_add _).symm
  have L13_3_3 : ∀ inb s x, arg13.view.readAt (Elt Ideal) (Rect.unit (s := S5x640x128) ![3, 384, 0] ![1, 128, 128] inb).toLoadRect G13 (ix3 0 s x) = arg13.view.read (Elt Ideal) G13 (ix3 3 (row 3 s) x) :=
      fun inb s x => rd3 arg13.view G13 rfl inb (0 : Fin 1) s x 3 (row 3 s) x rfl rfl (Nat.zero_add _).symm
  have L14_3 : ∀ inb s x, arg14.view.readAt (Elt Ideal) (Rect.unit (s := S4x640x128) ![0, 384, 0] ![1, 128, 128] inb).toLoadRect G14 (ix3 0 s x) = arg14.view.read (Elt Ideal) G14 (ix3 0 (row 3 s) x) :=
      fun inb s x => rd3 arg14.view G14 rfl inb (0 : Fin 1) s x 0 (row 3 s) x rfl rfl (Nat.zero_add _).symm
  have L12_0_4 : ∀ inb s x, arg12.view.readAt (Elt Ideal) (Rect.unit (s := S5x640x128) ![0, 512, 0] ![1, 128, 128] inb).toLoadRect G12 (ix3 0 s x) = arg12.view.read (Elt Ideal) G12 (ix3 0 (row 4 s) x) :=
      fun inb s x => rd3 arg12.view G12 rfl inb (0 : Fin 1) s x 0 (row 4 s) x rfl rfl (Nat.zero_add _).symm
  have L13_0_4 : ∀ inb s x, arg13.view.readAt (Elt Ideal) (Rect.unit (s := S5x640x128) ![0, 512, 0] ![1, 128, 128] inb).toLoadRect G13 (ix3 0 s x) = arg13.view.read (Elt Ideal) G13 (ix3 0 (row 4 s) x) :=
      fun inb s x => rd3 arg13.view G13 rfl inb (0 : Fin 1) s x 0 (row 4 s) x rfl rfl (Nat.zero_add _).symm
  have L12_3_4 : ∀ inb s x, arg12.view.readAt (Elt Ideal) (Rect.unit (s := S5x640x128) ![3, 512, 0] ![1, 128, 128] inb).toLoadRect G12 (ix3 0 s x) = arg12.view.read (Elt Ideal) G12 (ix3 3 (row 4 s) x) :=
      fun inb s x => rd3 arg12.view G12 rfl inb (0 : Fin 1) s x 3 (row 4 s) x rfl rfl (Nat.zero_add _).symm
  have L13_3_4 : ∀ inb s x, arg13.view.readAt (Elt Ideal) (Rect.unit (s := S5x640x128) ![3, 512, 0] ![1, 128, 128] inb).toLoadRect G13 (ix3 0 s x) = arg13.view.read (Elt Ideal) G13 (ix3 3 (row 4 s) x) :=
      fun inb s x => rd3 arg13.view G13 rfl inb (0 : Fin 1) s x 3 (row 4 s) x rfl rfl (Nat.zero_add _).symm
  have L14_4 : ∀ inb s x, arg14.view.readAt (Elt Ideal) (Rect.unit (s := S4x640x128) ![0, 512, 0] ![1, 128, 128] inb).toLoadRect G14 (ix3 0 s x) = arg14.view.read (Elt Ideal) G14 (ix3 0 (row 4 s) x) :=
      fun inb s x => rd3 arg14.view G14 rfl inb (0 : Fin 1) s x 0 (row 4 s) x rfl rfl (Nat.zero_add _).symm
  unfold_payloads
  try dsimp only
  pointwise []
  simp only [L12_0_0, L13_0_0, L12_3_0, L13_3_0, L14_0, L12_0_1, L13_0_1, L12_3_1, L13_3_1, L14_1, L12_0_2, L13_0_2, L12_3_2, L13_3_2, L14_2, L12_0_3, L13_0_3, L12_3_3, L13_3_3, L14_3, L12_0_4, L13_0_4, L12_3_4, L13_3_4, L14_4, ln2_named, log2e_named]
  iterate 5 rw [rd1 (ho := by decide)]
  rfl

set_option maxHeartbeats 2000000 in
theorem pair1 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) (G) : ∀ G12 G13 G14, arg12.view.writes (Elt Ideal) (harg12.unread xs2) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.1 = G12 →
     arg13.view.writes (Elt Ideal) (harg13.unread xs3) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.2.1 = G13 →
     arg14.view.writes (Elt Ideal) (harg14.unread xs4) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.2.2.1 = G14 →
    arg7.view.read (Elt Ideal) (arg7.view.writes (Elt Ideal) G (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).1) (ix2 0 2)
      = Ideal.div (((((∑ s, rowV (arg12.view.read (Elt Ideal) G12) (arg13.view.read (Elt Ideal) G13) (arg14.view.read (Elt Ideal) G14) (NV xt0) 1 0 s) + ∑ s, rowV (arg12.view.read (Elt Ideal) G12) (arg13.view.read (Elt Ideal) G13) (arg14.view.read (Elt Ideal) G14) (NV xt0) 1 1 s) + ∑ s, rowV (arg12.view.read (Elt Ideal) G12) (arg13.view.read (Elt Ideal) G13) (arg14.view.read (Elt Ideal) G14) (NV xt0) 1 2 s) + ∑ s, rowV (arg12.view.read (Elt Ideal) G12) (arg13.view.read (Elt Ideal) G13) (arg14.view.read (Elt Ideal) G14) (NV xt0) 1 3 s) + ∑ s, rowV (arg12.view.read (Elt Ideal) G12) (arg13.view.read (Elt Ideal) G13) (arg14.view.read (Elt Ideal) G14) (NV xt0) 1 4 s) (NT (NV xt0)) := by
  unfold kernelRun0_C
  dsimp only
  rw [wr2_not0 _ _ rfl _ _ _ _ _ (by decide), wr2_not0 _ _ rfl _ _ _ _ _ (by decide), wr2_mem _ _ rfl _ _ _ _ _ 0 0 rfl rfl]
  sl_unfold_run_names
  intro G12 G13 G14 e12 e13 e14
  rw [e12, e13, e14]
  clear e12 e13 e14
  have L12_0_0 : ∀ inb s x, arg12.view.readAt (Elt Ideal) (Rect.unit (s := S5x640x128) ![0, 0, 0] ![1, 128, 128] inb).toLoadRect G12 (ix3 0 s x) = arg12.view.read (Elt Ideal) G12 (ix3 0 (row 0 s) x) :=
      fun inb s x => rd3 arg12.view G12 rfl inb (0 : Fin 1) s x 0 (row 0 s) x rfl rfl (Nat.zero_add _).symm
  have L13_0_0 : ∀ inb s x, arg13.view.readAt (Elt Ideal) (Rect.unit (s := S5x640x128) ![0, 0, 0] ![1, 128, 128] inb).toLoadRect G13 (ix3 0 s x) = arg13.view.read (Elt Ideal) G13 (ix3 0 (row 0 s) x) :=
      fun inb s x => rd3 arg13.view G13 rfl inb (0 : Fin 1) s x 0 (row 0 s) x rfl rfl (Nat.zero_add _).symm
  have L12_4_0 : ∀ inb s x, arg12.view.readAt (Elt Ideal) (Rect.unit (s := S5x640x128) ![4, 0, 0] ![1, 128, 128] inb).toLoadRect G12 (ix3 0 s x) = arg12.view.read (Elt Ideal) G12 (ix3 4 (row 0 s) x) :=
      fun inb s x => rd3 arg12.view G12 rfl inb (0 : Fin 1) s x 4 (row 0 s) x rfl rfl (Nat.zero_add _).symm
  have L13_4_0 : ∀ inb s x, arg13.view.readAt (Elt Ideal) (Rect.unit (s := S5x640x128) ![4, 0, 0] ![1, 128, 128] inb).toLoadRect G13 (ix3 0 s x) = arg13.view.read (Elt Ideal) G13 (ix3 4 (row 0 s) x) :=
      fun inb s x => rd3 arg13.view G13 rfl inb (0 : Fin 1) s x 4 (row 0 s) x rfl rfl (Nat.zero_add _).symm
  have L14_0 : ∀ inb s x, arg14.view.readAt (Elt Ideal) (Rect.unit (s := S4x640x128) ![1, 0, 0] ![1, 128, 128] inb).toLoadRect G14 (ix3 0 s x) = arg14.view.read (Elt Ideal) G14 (ix3 1 (row 0 s) x) :=
      fun inb s x => rd3 arg14.view G14 rfl inb (0 : Fin 1) s x 1 (row 0 s) x rfl rfl (Nat.zero_add _).symm
  have L12_0_1 : ∀ inb s x, arg12.view.readAt (Elt Ideal) (Rect.unit (s := S5x640x128) ![0, 128, 0] ![1, 128, 128] inb).toLoadRect G12 (ix3 0 s x) = arg12.view.read (Elt Ideal) G12 (ix3 0 (row 1 s) x) :=
      fun inb s x => rd3 arg12.view G12 rfl inb (0 : Fin 1) s x 0 (row 1 s) x rfl rfl (Nat.zero_add _).symm
  have L13_0_1 : ∀ inb s x, arg13.view.readAt (Elt Ideal) (Rect.unit (s := S5x640x128) ![0, 128, 0] ![1, 128, 128] inb).toLoadRect G13 (ix3 0 s x) = arg13.view.read (Elt Ideal) G13 (ix3 0 (row 1 s) x) :=
      fun inb s x => rd3 arg13.view G13 rfl inb (0 : Fin 1) s x 0 (row 1 s) x rfl rfl (Nat.zero_add _).symm
  have L12_4_1 : ∀ inb s x, arg12.view.readAt (Elt Ideal) (Rect.unit (s := S5x640x128) ![4, 128, 0] ![1, 128, 128] inb).toLoadRect G12 (ix3 0 s x) = arg12.view.read (Elt Ideal) G12 (ix3 4 (row 1 s) x) :=
      fun inb s x => rd3 arg12.view G12 rfl inb (0 : Fin 1) s x 4 (row 1 s) x rfl rfl (Nat.zero_add _).symm
  have L13_4_1 : ∀ inb s x, arg13.view.readAt (Elt Ideal) (Rect.unit (s := S5x640x128) ![4, 128, 0] ![1, 128, 128] inb).toLoadRect G13 (ix3 0 s x) = arg13.view.read (Elt Ideal) G13 (ix3 4 (row 1 s) x) :=
      fun inb s x => rd3 arg13.view G13 rfl inb (0 : Fin 1) s x 4 (row 1 s) x rfl rfl (Nat.zero_add _).symm
  have L14_1 : ∀ inb s x, arg14.view.readAt (Elt Ideal) (Rect.unit (s := S4x640x128) ![1, 128, 0] ![1, 128, 128] inb).toLoadRect G14 (ix3 0 s x) = arg14.view.read (Elt Ideal) G14 (ix3 1 (row 1 s) x) :=
      fun inb s x => rd3 arg14.view G14 rfl inb (0 : Fin 1) s x 1 (row 1 s) x rfl rfl (Nat.zero_add _).symm
  have L12_0_2 : ∀ inb s x, arg12.view.readAt (Elt Ideal) (Rect.unit (s := S5x640x128) ![0, 256, 0] ![1, 128, 128] inb).toLoadRect G12 (ix3 0 s x) = arg12.view.read (Elt Ideal) G12 (ix3 0 (row 2 s) x) :=
      fun inb s x => rd3 arg12.view G12 rfl inb (0 : Fin 1) s x 0 (row 2 s) x rfl rfl (Nat.zero_add _).symm
  have L13_0_2 : ∀ inb s x, arg13.view.readAt (Elt Ideal) (Rect.unit (s := S5x640x128) ![0, 256, 0] ![1, 128, 128] inb).toLoadRect G13 (ix3 0 s x) = arg13.view.read (Elt Ideal) G13 (ix3 0 (row 2 s) x) :=
      fun inb s x => rd3 arg13.view G13 rfl inb (0 : Fin 1) s x 0 (row 2 s) x rfl rfl (Nat.zero_add _).symm
  have L12_4_2 : ∀ inb s x, arg12.view.readAt (Elt Ideal) (Rect.unit (s := S5x640x128) ![4, 256, 0] ![1, 128, 128] inb).toLoadRect G12 (ix3 0 s x) = arg12.view.read (Elt Ideal) G12 (ix3 4 (row 2 s) x) :=
      fun inb s x => rd3 arg12.view G12 rfl inb (0 : Fin 1) s x 4 (row 2 s) x rfl rfl (Nat.zero_add _).symm
  have L13_4_2 : ∀ inb s x, arg13.view.readAt (Elt Ideal) (Rect.unit (s := S5x640x128) ![4, 256, 0] ![1, 128, 128] inb).toLoadRect G13 (ix3 0 s x) = arg13.view.read (Elt Ideal) G13 (ix3 4 (row 2 s) x) :=
      fun inb s x => rd3 arg13.view G13 rfl inb (0 : Fin 1) s x 4 (row 2 s) x rfl rfl (Nat.zero_add _).symm
  have L14_2 : ∀ inb s x, arg14.view.readAt (Elt Ideal) (Rect.unit (s := S4x640x128) ![1, 256, 0] ![1, 128, 128] inb).toLoadRect G14 (ix3 0 s x) = arg14.view.read (Elt Ideal) G14 (ix3 1 (row 2 s) x) :=
      fun inb s x => rd3 arg14.view G14 rfl inb (0 : Fin 1) s x 1 (row 2 s) x rfl rfl (Nat.zero_add _).symm
  have L12_0_3 : ∀ inb s x, arg12.view.readAt (Elt Ideal) (Rect.unit (s := S5x640x128) ![0, 384, 0] ![1, 128, 128] inb).toLoadRect G12 (ix3 0 s x) = arg12.view.read (Elt Ideal) G12 (ix3 0 (row 3 s) x) :=
      fun inb s x => rd3 arg12.view G12 rfl inb (0 : Fin 1) s x 0 (row 3 s) x rfl rfl (Nat.zero_add _).symm
  have L13_0_3 : ∀ inb s x, arg13.view.readAt (Elt Ideal) (Rect.unit (s := S5x640x128) ![0, 384, 0] ![1, 128, 128] inb).toLoadRect G13 (ix3 0 s x) = arg13.view.read (Elt Ideal) G13 (ix3 0 (row 3 s) x) :=
      fun inb s x => rd3 arg13.view G13 rfl inb (0 : Fin 1) s x 0 (row 3 s) x rfl rfl (Nat.zero_add _).symm
  have L12_4_3 : ∀ inb s x, arg12.view.readAt (Elt Ideal) (Rect.unit (s := S5x640x128) ![4, 384, 0] ![1, 128, 128] inb).toLoadRect G12 (ix3 0 s x) = arg12.view.read (Elt Ideal) G12 (ix3 4 (row 3 s) x) :=
      fun inb s x => rd3 arg12.view G12 rfl inb (0 : Fin 1) s x 4 (row 3 s) x rfl rfl (Nat.zero_add _).symm
  have L13_4_3 : ∀ inb s x, arg13.view.readAt (Elt Ideal) (Rect.unit (s := S5x640x128) ![4, 384, 0] ![1, 128, 128] inb).toLoadRect G13 (ix3 0 s x) = arg13.view.read (Elt Ideal) G13 (ix3 4 (row 3 s) x) :=
      fun inb s x => rd3 arg13.view G13 rfl inb (0 : Fin 1) s x 4 (row 3 s) x rfl rfl (Nat.zero_add _).symm
  have L14_3 : ∀ inb s x, arg14.view.readAt (Elt Ideal) (Rect.unit (s := S4x640x128) ![1, 384, 0] ![1, 128, 128] inb).toLoadRect G14 (ix3 0 s x) = arg14.view.read (Elt Ideal) G14 (ix3 1 (row 3 s) x) :=
      fun inb s x => rd3 arg14.view G14 rfl inb (0 : Fin 1) s x 1 (row 3 s) x rfl rfl (Nat.zero_add _).symm
  have L12_0_4 : ∀ inb s x, arg12.view.readAt (Elt Ideal) (Rect.unit (s := S5x640x128) ![0, 512, 0] ![1, 128, 128] inb).toLoadRect G12 (ix3 0 s x) = arg12.view.read (Elt Ideal) G12 (ix3 0 (row 4 s) x) :=
      fun inb s x => rd3 arg12.view G12 rfl inb (0 : Fin 1) s x 0 (row 4 s) x rfl rfl (Nat.zero_add _).symm
  have L13_0_4 : ∀ inb s x, arg13.view.readAt (Elt Ideal) (Rect.unit (s := S5x640x128) ![0, 512, 0] ![1, 128, 128] inb).toLoadRect G13 (ix3 0 s x) = arg13.view.read (Elt Ideal) G13 (ix3 0 (row 4 s) x) :=
      fun inb s x => rd3 arg13.view G13 rfl inb (0 : Fin 1) s x 0 (row 4 s) x rfl rfl (Nat.zero_add _).symm
  have L12_4_4 : ∀ inb s x, arg12.view.readAt (Elt Ideal) (Rect.unit (s := S5x640x128) ![4, 512, 0] ![1, 128, 128] inb).toLoadRect G12 (ix3 0 s x) = arg12.view.read (Elt Ideal) G12 (ix3 4 (row 4 s) x) :=
      fun inb s x => rd3 arg12.view G12 rfl inb (0 : Fin 1) s x 4 (row 4 s) x rfl rfl (Nat.zero_add _).symm
  have L13_4_4 : ∀ inb s x, arg13.view.readAt (Elt Ideal) (Rect.unit (s := S5x640x128) ![4, 512, 0] ![1, 128, 128] inb).toLoadRect G13 (ix3 0 s x) = arg13.view.read (Elt Ideal) G13 (ix3 4 (row 4 s) x) :=
      fun inb s x => rd3 arg13.view G13 rfl inb (0 : Fin 1) s x 4 (row 4 s) x rfl rfl (Nat.zero_add _).symm
  have L14_4 : ∀ inb s x, arg14.view.readAt (Elt Ideal) (Rect.unit (s := S4x640x128) ![1, 512, 0] ![1, 128, 128] inb).toLoadRect G14 (ix3 0 s x) = arg14.view.read (Elt Ideal) G14 (ix3 1 (row 4 s) x) :=
      fun inb s x => rd3 arg14.view G14 rfl inb (0 : Fin 1) s x 1 (row 4 s) x rfl rfl (Nat.zero_add _).symm
  unfold_payloads
  try dsimp only
  pointwise []
  simp only [L12_0_0, L13_0_0, L12_4_0, L13_4_0, L14_0, L12_0_1, L13_0_1, L12_4_1, L13_4_1, L14_1, L12_0_2, L13_0_2, L12_4_2, L13_4_2, L14_2, L12_0_3, L13_0_3, L12_4_3, L13_4_3, L14_3, L12_0_4, L13_0_4, L12_4_4, L13_4_4, L14_4, ln2_named, log2e_named]
  iterate 5 rw [rd1 (ho := by decide)]
  rfl

set_option maxHeartbeats 2000000 in
theorem pair2 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) (G) : ∀ G12 G13 G14, arg12.view.writes (Elt Ideal) (harg12.unread xs2) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.1 = G12 →
     arg13.view.writes (Elt Ideal) (harg13.unread xs3) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.2.1 = G13 →
     arg14.view.writes (Elt Ideal) (harg14.unread xs4) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.2.2.1 = G14 →
    arg7.view.read (Elt Ideal) (arg7.view.writes (Elt Ideal) G (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).1) (ix2 1 0)
      = Ideal.div (((((∑ s, rowV (arg12.view.read (Elt Ideal) G12) (arg13.view.read (Elt Ideal) G13) (arg14.view.read (Elt Ideal) G14) (NV xt0) 2 0 s) + ∑ s, rowV (arg12.view.read (Elt Ideal) G12) (arg13.view.read (Elt Ideal) G13) (arg14.view.read (Elt Ideal) G14) (NV xt0) 2 1 s) + ∑ s, rowV (arg12.view.read (Elt Ideal) G12) (arg13.view.read (Elt Ideal) G13) (arg14.view.read (Elt Ideal) G14) (NV xt0) 2 2 s) + ∑ s, rowV (arg12.view.read (Elt Ideal) G12) (arg13.view.read (Elt Ideal) G13) (arg14.view.read (Elt Ideal) G14) (NV xt0) 2 3 s) + ∑ s, rowV (arg12.view.read (Elt Ideal) G12) (arg13.view.read (Elt Ideal) G13) (arg14.view.read (Elt Ideal) G14) (NV xt0) 2 4 s) (NT (NV xt0)) := by
  unfold kernelRun0_C
  dsimp only
  rw [wr2_not1 _ _ rfl _ _ _ _ _ (by decide), wr2_mem _ _ rfl _ _ _ _ _ 0 0 rfl rfl]
  sl_unfold_run_names
  intro G12 G13 G14 e12 e13 e14
  rw [e12, e13, e14]
  clear e12 e13 e14
  have L12_1_0 : ∀ inb s x, arg12.view.readAt (Elt Ideal) (Rect.unit (s := S5x640x128) ![1, 0, 0] ![1, 128, 128] inb).toLoadRect G12 (ix3 0 s x) = arg12.view.read (Elt Ideal) G12 (ix3 1 (row 0 s) x) :=
      fun inb s x => rd3 arg12.view G12 rfl inb (0 : Fin 1) s x 1 (row 0 s) x rfl rfl (Nat.zero_add _).symm
  have L13_1_0 : ∀ inb s x, arg13.view.readAt (Elt Ideal) (Rect.unit (s := S5x640x128) ![1, 0, 0] ![1, 128, 128] inb).toLoadRect G13 (ix3 0 s x) = arg13.view.read (Elt Ideal) G13 (ix3 1 (row 0 s) x) :=
      fun inb s x => rd3 arg13.view G13 rfl inb (0 : Fin 1) s x 1 (row 0 s) x rfl rfl (Nat.zero_add _).symm
  have L12_2_0 : ∀ inb s x, arg12.view.readAt (Elt Ideal) (Rect.unit (s := S5x640x128) ![2, 0, 0] ![1, 128, 128] inb).toLoadRect G12 (ix3 0 s x) = arg12.view.read (Elt Ideal) G12 (ix3 2 (row 0 s) x) :=
      fun inb s x => rd3 arg12.view G12 rfl inb (0 : Fin 1) s x 2 (row 0 s) x rfl rfl (Nat.zero_add _).symm
  have L13_2_0 : ∀ inb s x, arg13.view.readAt (Elt Ideal) (Rect.unit (s := S5x640x128) ![2, 0, 0] ![1, 128, 128] inb).toLoadRect G13 (ix3 0 s x) = arg13.view.read (Elt Ideal) G13 (ix3 2 (row 0 s) x) :=
      fun inb s x => rd3 arg13.view G13 rfl inb (0 : Fin 1) s x 2 (row 0 s) x rfl rfl (Nat.zero_add _).symm
  have L14_0 : ∀ inb s x, arg14.view.readAt (Elt Ideal) (Rect.unit (s := S4x640x128) ![2, 0, 0] ![1, 128, 128] inb).toLoadRect G14 (ix3 0 s x) = arg14.view.read (Elt Ideal) G14 (ix3 2 (row 0 s) x) :=
      fun inb s x => rd3 arg14.view G14 rfl inb (0 : Fin 1) s x 2 (row 0 s) x rfl rfl (Nat.zero_add _).symm
  have L12_1_1 : ∀ inb s x, arg12.view.readAt (Elt Ideal) (Rect.unit (s := S5x640x128) ![1, 128, 0] ![1, 128, 128] inb).toLoadRect G12 (ix3 0 s x) = arg12.view.read (Elt Ideal) G12 (ix3 1 (row 1 s) x) :=
      fun inb s x => rd3 arg12.view G12 rfl inb (0 : Fin 1) s x 1 (row 1 s) x rfl rfl (Nat.zero_add _).symm
  have L13_1_1 : ∀ inb s x, arg13.view.readAt (Elt Ideal) (Rect.unit (s := S5x640x128) ![1, 128, 0] ![1, 128, 128] inb).toLoadRect G13 (ix3 0 s x) = arg13.view.read (Elt Ideal) G13 (ix3 1 (row 1 s) x) :=
      fun inb s x => rd3 arg13.view G13 rfl inb (0 : Fin 1) s x 1 (row 1 s) x rfl rfl (Nat.zero_add _).symm
  have L12_2_1 : ∀ inb s x, arg12.view.readAt (Elt Ideal) (Rect.unit (s := S5x640x128) ![2, 128, 0] ![1, 128, 128] inb).toLoadRect G12 (ix3 0 s x) = arg12.view.read (Elt Ideal) G12 (ix3 2 (row 1 s) x) :=
      fun inb s x => rd3 arg12.view G12 rfl inb (0 : Fin 1) s x 2 (row 1 s) x rfl rfl (Nat.zero_add _).symm
  have L13_2_1 : ∀ inb s x, arg13.view.readAt (Elt Ideal) (Rect.unit (s := S5x640x128) ![2, 128, 0] ![1, 128, 128] inb).toLoadRect G13 (ix3 0 s x) = arg13.view.read (Elt Ideal) G13 (ix3 2 (row 1 s) x) :=
      fun inb s x => rd3 arg13.view G13 rfl inb (0 : Fin 1) s x 2 (row 1 s) x rfl rfl (Nat.zero_add _).symm
  have L14_1 : ∀ inb s x, arg14.view.readAt (Elt Ideal) (Rect.unit (s := S4x640x128) ![2, 128, 0] ![1, 128, 128] inb).toLoadRect G14 (ix3 0 s x) = arg14.view.read (Elt Ideal) G14 (ix3 2 (row 1 s) x) :=
      fun inb s x => rd3 arg14.view G14 rfl inb (0 : Fin 1) s x 2 (row 1 s) x rfl rfl (Nat.zero_add _).symm
  have L12_1_2 : ∀ inb s x, arg12.view.readAt (Elt Ideal) (Rect.unit (s := S5x640x128) ![1, 256, 0] ![1, 128, 128] inb).toLoadRect G12 (ix3 0 s x) = arg12.view.read (Elt Ideal) G12 (ix3 1 (row 2 s) x) :=
      fun inb s x => rd3 arg12.view G12 rfl inb (0 : Fin 1) s x 1 (row 2 s) x rfl rfl (Nat.zero_add _).symm
  have L13_1_2 : ∀ inb s x, arg13.view.readAt (Elt Ideal) (Rect.unit (s := S5x640x128) ![1, 256, 0] ![1, 128, 128] inb).toLoadRect G13 (ix3 0 s x) = arg13.view.read (Elt Ideal) G13 (ix3 1 (row 2 s) x) :=
      fun inb s x => rd3 arg13.view G13 rfl inb (0 : Fin 1) s x 1 (row 2 s) x rfl rfl (Nat.zero_add _).symm
  have L12_2_2 : ∀ inb s x, arg12.view.readAt (Elt Ideal) (Rect.unit (s := S5x640x128) ![2, 256, 0] ![1, 128, 128] inb).toLoadRect G12 (ix3 0 s x) = arg12.view.read (Elt Ideal) G12 (ix3 2 (row 2 s) x) :=
      fun inb s x => rd3 arg12.view G12 rfl inb (0 : Fin 1) s x 2 (row 2 s) x rfl rfl (Nat.zero_add _).symm
  have L13_2_2 : ∀ inb s x, arg13.view.readAt (Elt Ideal) (Rect.unit (s := S5x640x128) ![2, 256, 0] ![1, 128, 128] inb).toLoadRect G13 (ix3 0 s x) = arg13.view.read (Elt Ideal) G13 (ix3 2 (row 2 s) x) :=
      fun inb s x => rd3 arg13.view G13 rfl inb (0 : Fin 1) s x 2 (row 2 s) x rfl rfl (Nat.zero_add _).symm
  have L14_2 : ∀ inb s x, arg14.view.readAt (Elt Ideal) (Rect.unit (s := S4x640x128) ![2, 256, 0] ![1, 128, 128] inb).toLoadRect G14 (ix3 0 s x) = arg14.view.read (Elt Ideal) G14 (ix3 2 (row 2 s) x) :=
      fun inb s x => rd3 arg14.view G14 rfl inb (0 : Fin 1) s x 2 (row 2 s) x rfl rfl (Nat.zero_add _).symm
  have L12_1_3 : ∀ inb s x, arg12.view.readAt (Elt Ideal) (Rect.unit (s := S5x640x128) ![1, 384, 0] ![1, 128, 128] inb).toLoadRect G12 (ix3 0 s x) = arg12.view.read (Elt Ideal) G12 (ix3 1 (row 3 s) x) :=
      fun inb s x => rd3 arg12.view G12 rfl inb (0 : Fin 1) s x 1 (row 3 s) x rfl rfl (Nat.zero_add _).symm
  have L13_1_3 : ∀ inb s x, arg13.view.readAt (Elt Ideal) (Rect.unit (s := S5x640x128) ![1, 384, 0] ![1, 128, 128] inb).toLoadRect G13 (ix3 0 s x) = arg13.view.read (Elt Ideal) G13 (ix3 1 (row 3 s) x) :=
      fun inb s x => rd3 arg13.view G13 rfl inb (0 : Fin 1) s x 1 (row 3 s) x rfl rfl (Nat.zero_add _).symm
  have L12_2_3 : ∀ inb s x, arg12.view.readAt (Elt Ideal) (Rect.unit (s := S5x640x128) ![2, 384, 0] ![1, 128, 128] inb).toLoadRect G12 (ix3 0 s x) = arg12.view.read (Elt Ideal) G12 (ix3 2 (row 3 s) x) :=
      fun inb s x => rd3 arg12.view G12 rfl inb (0 : Fin 1) s x 2 (row 3 s) x rfl rfl (Nat.zero_add _).symm
  have L13_2_3 : ∀ inb s x, arg13.view.readAt (Elt Ideal) (Rect.unit (s := S5x640x128) ![2, 384, 0] ![1, 128, 128] inb).toLoadRect G13 (ix3 0 s x) = arg13.view.read (Elt Ideal) G13 (ix3 2 (row 3 s) x) :=
      fun inb s x => rd3 arg13.view G13 rfl inb (0 : Fin 1) s x 2 (row 3 s) x rfl rfl (Nat.zero_add _).symm
  have L14_3 : ∀ inb s x, arg14.view.readAt (Elt Ideal) (Rect.unit (s := S4x640x128) ![2, 384, 0] ![1, 128, 128] inb).toLoadRect G14 (ix3 0 s x) = arg14.view.read (Elt Ideal) G14 (ix3 2 (row 3 s) x) :=
      fun inb s x => rd3 arg14.view G14 rfl inb (0 : Fin 1) s x 2 (row 3 s) x rfl rfl (Nat.zero_add _).symm
  have L12_1_4 : ∀ inb s x, arg12.view.readAt (Elt Ideal) (Rect.unit (s := S5x640x128) ![1, 512, 0] ![1, 128, 128] inb).toLoadRect G12 (ix3 0 s x) = arg12.view.read (Elt Ideal) G12 (ix3 1 (row 4 s) x) :=
      fun inb s x => rd3 arg12.view G12 rfl inb (0 : Fin 1) s x 1 (row 4 s) x rfl rfl (Nat.zero_add _).symm
  have L13_1_4 : ∀ inb s x, arg13.view.readAt (Elt Ideal) (Rect.unit (s := S5x640x128) ![1, 512, 0] ![1, 128, 128] inb).toLoadRect G13 (ix3 0 s x) = arg13.view.read (Elt Ideal) G13 (ix3 1 (row 4 s) x) :=
      fun inb s x => rd3 arg13.view G13 rfl inb (0 : Fin 1) s x 1 (row 4 s) x rfl rfl (Nat.zero_add _).symm
  have L12_2_4 : ∀ inb s x, arg12.view.readAt (Elt Ideal) (Rect.unit (s := S5x640x128) ![2, 512, 0] ![1, 128, 128] inb).toLoadRect G12 (ix3 0 s x) = arg12.view.read (Elt Ideal) G12 (ix3 2 (row 4 s) x) :=
      fun inb s x => rd3 arg12.view G12 rfl inb (0 : Fin 1) s x 2 (row 4 s) x rfl rfl (Nat.zero_add _).symm
  have L13_2_4 : ∀ inb s x, arg13.view.readAt (Elt Ideal) (Rect.unit (s := S5x640x128) ![2, 512, 0] ![1, 128, 128] inb).toLoadRect G13 (ix3 0 s x) = arg13.view.read (Elt Ideal) G13 (ix3 2 (row 4 s) x) :=
      fun inb s x => rd3 arg13.view G13 rfl inb (0 : Fin 1) s x 2 (row 4 s) x rfl rfl (Nat.zero_add _).symm
  have L14_4 : ∀ inb s x, arg14.view.readAt (Elt Ideal) (Rect.unit (s := S4x640x128) ![2, 512, 0] ![1, 128, 128] inb).toLoadRect G14 (ix3 0 s x) = arg14.view.read (Elt Ideal) G14 (ix3 2 (row 4 s) x) :=
      fun inb s x => rd3 arg14.view G14 rfl inb (0 : Fin 1) s x 2 (row 4 s) x rfl rfl (Nat.zero_add _).symm
  unfold_payloads
  try dsimp only
  pointwise []
  simp only [L12_1_0, L13_1_0, L12_2_0, L13_2_0, L14_0, L12_1_1, L13_1_1, L12_2_1, L13_2_1, L14_1, L12_1_2, L13_1_2, L12_2_2, L13_2_2, L14_2, L12_1_3, L13_1_3, L12_2_3, L13_2_3, L14_3, L12_1_4, L13_1_4, L12_2_4, L13_2_4, L14_4, ln2_named, log2e_named]
  iterate 5 rw [rd1 (ho := by decide)]
  rfl

set_option maxHeartbeats 2000000 in
theorem pair3 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) (G) : ∀ G12 G13 G14, arg12.view.writes (Elt Ideal) (harg12.unread xs2) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.1 = G12 →
     arg13.view.writes (Elt Ideal) (harg13.unread xs3) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.2.1 = G13 →
     arg14.view.writes (Elt Ideal) (harg14.unread xs4) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.2.2.1 = G14 →
    arg7.view.read (Elt Ideal) (arg7.view.writes (Elt Ideal) G (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).1) (ix2 1 2)
      = Ideal.div (((((∑ s, rowV (arg12.view.read (Elt Ideal) G12) (arg13.view.read (Elt Ideal) G13) (arg14.view.read (Elt Ideal) G14) (NV xt0) 3 0 s) + ∑ s, rowV (arg12.view.read (Elt Ideal) G12) (arg13.view.read (Elt Ideal) G13) (arg14.view.read (Elt Ideal) G14) (NV xt0) 3 1 s) + ∑ s, rowV (arg12.view.read (Elt Ideal) G12) (arg13.view.read (Elt Ideal) G13) (arg14.view.read (Elt Ideal) G14) (NV xt0) 3 2 s) + ∑ s, rowV (arg12.view.read (Elt Ideal) G12) (arg13.view.read (Elt Ideal) G13) (arg14.view.read (Elt Ideal) G14) (NV xt0) 3 3 s) + ∑ s, rowV (arg12.view.read (Elt Ideal) G12) (arg13.view.read (Elt Ideal) G13) (arg14.view.read (Elt Ideal) G14) (NV xt0) 3 4 s) (NT (NV xt0)) := by
  unfold kernelRun0_C
  dsimp only
  rw [wr2_mem _ _ rfl _ _ _ _ _ 0 0 rfl rfl]
  sl_unfold_run_names
  intro G12 G13 G14 e12 e13 e14
  rw [e12, e13, e14]
  clear e12 e13 e14
  have L12_1_0 : ∀ inb s x, arg12.view.readAt (Elt Ideal) (Rect.unit (s := S5x640x128) ![1, 0, 0] ![1, 128, 128] inb).toLoadRect G12 (ix3 0 s x) = arg12.view.read (Elt Ideal) G12 (ix3 1 (row 0 s) x) :=
      fun inb s x => rd3 arg12.view G12 rfl inb (0 : Fin 1) s x 1 (row 0 s) x rfl rfl (Nat.zero_add _).symm
  have L13_1_0 : ∀ inb s x, arg13.view.readAt (Elt Ideal) (Rect.unit (s := S5x640x128) ![1, 0, 0] ![1, 128, 128] inb).toLoadRect G13 (ix3 0 s x) = arg13.view.read (Elt Ideal) G13 (ix3 1 (row 0 s) x) :=
      fun inb s x => rd3 arg13.view G13 rfl inb (0 : Fin 1) s x 1 (row 0 s) x rfl rfl (Nat.zero_add _).symm
  have L12_4_0 : ∀ inb s x, arg12.view.readAt (Elt Ideal) (Rect.unit (s := S5x640x128) ![4, 0, 0] ![1, 128, 128] inb).toLoadRect G12 (ix3 0 s x) = arg12.view.read (Elt Ideal) G12 (ix3 4 (row 0 s) x) :=
      fun inb s x => rd3 arg12.view G12 rfl inb (0 : Fin 1) s x 4 (row 0 s) x rfl rfl (Nat.zero_add _).symm
  have L13_4_0 : ∀ inb s x, arg13.view.readAt (Elt Ideal) (Rect.unit (s := S5x640x128) ![4, 0, 0] ![1, 128, 128] inb).toLoadRect G13 (ix3 0 s x) = arg13.view.read (Elt Ideal) G13 (ix3 4 (row 0 s) x) :=
      fun inb s x => rd3 arg13.view G13 rfl inb (0 : Fin 1) s x 4 (row 0 s) x rfl rfl (Nat.zero_add _).symm
  have L14_0 : ∀ inb s x, arg14.view.readAt (Elt Ideal) (Rect.unit (s := S4x640x128) ![3, 0, 0] ![1, 128, 128] inb).toLoadRect G14 (ix3 0 s x) = arg14.view.read (Elt Ideal) G14 (ix3 3 (row 0 s) x) :=
      fun inb s x => rd3 arg14.view G14 rfl inb (0 : Fin 1) s x 3 (row 0 s) x rfl rfl (Nat.zero_add _).symm
  have L12_1_1 : ∀ inb s x, arg12.view.readAt (Elt Ideal) (Rect.unit (s := S5x640x128) ![1, 128, 0] ![1, 128, 128] inb).toLoadRect G12 (ix3 0 s x) = arg12.view.read (Elt Ideal) G12 (ix3 1 (row 1 s) x) :=
      fun inb s x => rd3 arg12.view G12 rfl inb (0 : Fin 1) s x 1 (row 1 s) x rfl rfl (Nat.zero_add _).symm
  have L13_1_1 : ∀ inb s x, arg13.view.readAt (Elt Ideal) (Rect.unit (s := S5x640x128) ![1, 128, 0] ![1, 128, 128] inb).toLoadRect G13 (ix3 0 s x) = arg13.view.read (Elt Ideal) G13 (ix3 1 (row 1 s) x) :=
      fun inb s x => rd3 arg13.view G13 rfl inb (0 : Fin 1) s x 1 (row 1 s) x rfl rfl (Nat.zero_add _).symm
  have L12_4_1 : ∀ inb s x, arg12.view.readAt (Elt Ideal) (Rect.unit (s := S5x640x128) ![4, 128, 0] ![1, 128, 128] inb).toLoadRect G12 (ix3 0 s x) = arg12.view.read (Elt Ideal) G12 (ix3 4 (row 1 s) x) :=
      fun inb s x => rd3 arg12.view G12 rfl inb (0 : Fin 1) s x 4 (row 1 s) x rfl rfl (Nat.zero_add _).symm
  have L13_4_1 : ∀ inb s x, arg13.view.readAt (Elt Ideal) (Rect.unit (s := S5x640x128) ![4, 128, 0] ![1, 128, 128] inb).toLoadRect G13 (ix3 0 s x) = arg13.view.read (Elt Ideal) G13 (ix3 4 (row 1 s) x) :=
      fun inb s x => rd3 arg13.view G13 rfl inb (0 : Fin 1) s x 4 (row 1 s) x rfl rfl (Nat.zero_add _).symm
  have L14_1 : ∀ inb s x, arg14.view.readAt (Elt Ideal) (Rect.unit (s := S4x640x128) ![3, 128, 0] ![1, 128, 128] inb).toLoadRect G14 (ix3 0 s x) = arg14.view.read (Elt Ideal) G14 (ix3 3 (row 1 s) x) :=
      fun inb s x => rd3 arg14.view G14 rfl inb (0 : Fin 1) s x 3 (row 1 s) x rfl rfl (Nat.zero_add _).symm
  have L12_1_2 : ∀ inb s x, arg12.view.readAt (Elt Ideal) (Rect.unit (s := S5x640x128) ![1, 256, 0] ![1, 128, 128] inb).toLoadRect G12 (ix3 0 s x) = arg12.view.read (Elt Ideal) G12 (ix3 1 (row 2 s) x) :=
      fun inb s x => rd3 arg12.view G12 rfl inb (0 : Fin 1) s x 1 (row 2 s) x rfl rfl (Nat.zero_add _).symm
  have L13_1_2 : ∀ inb s x, arg13.view.readAt (Elt Ideal) (Rect.unit (s := S5x640x128) ![1, 256, 0] ![1, 128, 128] inb).toLoadRect G13 (ix3 0 s x) = arg13.view.read (Elt Ideal) G13 (ix3 1 (row 2 s) x) :=
      fun inb s x => rd3 arg13.view G13 rfl inb (0 : Fin 1) s x 1 (row 2 s) x rfl rfl (Nat.zero_add _).symm
  have L12_4_2 : ∀ inb s x, arg12.view.readAt (Elt Ideal) (Rect.unit (s := S5x640x128) ![4, 256, 0] ![1, 128, 128] inb).toLoadRect G12 (ix3 0 s x) = arg12.view.read (Elt Ideal) G12 (ix3 4 (row 2 s) x) :=
      fun inb s x => rd3 arg12.view G12 rfl inb (0 : Fin 1) s x 4 (row 2 s) x rfl rfl (Nat.zero_add _).symm
  have L13_4_2 : ∀ inb s x, arg13.view.readAt (Elt Ideal) (Rect.unit (s := S5x640x128) ![4, 256, 0] ![1, 128, 128] inb).toLoadRect G13 (ix3 0 s x) = arg13.view.read (Elt Ideal) G13 (ix3 4 (row 2 s) x) :=
      fun inb s x => rd3 arg13.view G13 rfl inb (0 : Fin 1) s x 4 (row 2 s) x rfl rfl (Nat.zero_add _).symm
  have L14_2 : ∀ inb s x, arg14.view.readAt (Elt Ideal) (Rect.unit (s := S4x640x128) ![3, 256, 0] ![1, 128, 128] inb).toLoadRect G14 (ix3 0 s x) = arg14.view.read (Elt Ideal) G14 (ix3 3 (row 2 s) x) :=
      fun inb s x => rd3 arg14.view G14 rfl inb (0 : Fin 1) s x 3 (row 2 s) x rfl rfl (Nat.zero_add _).symm
  have L12_1_3 : ∀ inb s x, arg12.view.readAt (Elt Ideal) (Rect.unit (s := S5x640x128) ![1, 384, 0] ![1, 128, 128] inb).toLoadRect G12 (ix3 0 s x) = arg12.view.read (Elt Ideal) G12 (ix3 1 (row 3 s) x) :=
      fun inb s x => rd3 arg12.view G12 rfl inb (0 : Fin 1) s x 1 (row 3 s) x rfl rfl (Nat.zero_add _).symm
  have L13_1_3 : ∀ inb s x, arg13.view.readAt (Elt Ideal) (Rect.unit (s := S5x640x128) ![1, 384, 0] ![1, 128, 128] inb).toLoadRect G13 (ix3 0 s x) = arg13.view.read (Elt Ideal) G13 (ix3 1 (row 3 s) x) :=
      fun inb s x => rd3 arg13.view G13 rfl inb (0 : Fin 1) s x 1 (row 3 s) x rfl rfl (Nat.zero_add _).symm
  have L12_4_3 : ∀ inb s x, arg12.view.readAt (Elt Ideal) (Rect.unit (s := S5x640x128) ![4, 384, 0] ![1, 128, 128] inb).toLoadRect G12 (ix3 0 s x) = arg12.view.read (Elt Ideal) G12 (ix3 4 (row 3 s) x) :=
      fun inb s x => rd3 arg12.view G12 rfl inb (0 : Fin 1) s x 4 (row 3 s) x rfl rfl (Nat.zero_add _).symm
  have L13_4_3 : ∀ inb s x, arg13.view.readAt (Elt Ideal) (Rect.unit (s := S5x640x128) ![4, 384, 0] ![1, 128, 128] inb).toLoadRect G13 (ix3 0 s x) = arg13.view.read (Elt Ideal) G13 (ix3 4 (row 3 s) x) :=
      fun inb s x => rd3 arg13.view G13 rfl inb (0 : Fin 1) s x 4 (row 3 s) x rfl rfl (Nat.zero_add _).symm
  have L14_3 : ∀ inb s x, arg14.view.readAt (Elt Ideal) (Rect.unit (s := S4x640x128) ![3, 384, 0] ![1, 128, 128] inb).toLoadRect G14 (ix3 0 s x) = arg14.view.read (Elt Ideal) G14 (ix3 3 (row 3 s) x) :=
      fun inb s x => rd3 arg14.view G14 rfl inb (0 : Fin 1) s x 3 (row 3 s) x rfl rfl (Nat.zero_add _).symm
  have L12_1_4 : ∀ inb s x, arg12.view.readAt (Elt Ideal) (Rect.unit (s := S5x640x128) ![1, 512, 0] ![1, 128, 128] inb).toLoadRect G12 (ix3 0 s x) = arg12.view.read (Elt Ideal) G12 (ix3 1 (row 4 s) x) :=
      fun inb s x => rd3 arg12.view G12 rfl inb (0 : Fin 1) s x 1 (row 4 s) x rfl rfl (Nat.zero_add _).symm
  have L13_1_4 : ∀ inb s x, arg13.view.readAt (Elt Ideal) (Rect.unit (s := S5x640x128) ![1, 512, 0] ![1, 128, 128] inb).toLoadRect G13 (ix3 0 s x) = arg13.view.read (Elt Ideal) G13 (ix3 1 (row 4 s) x) :=
      fun inb s x => rd3 arg13.view G13 rfl inb (0 : Fin 1) s x 1 (row 4 s) x rfl rfl (Nat.zero_add _).symm
  have L12_4_4 : ∀ inb s x, arg12.view.readAt (Elt Ideal) (Rect.unit (s := S5x640x128) ![4, 512, 0] ![1, 128, 128] inb).toLoadRect G12 (ix3 0 s x) = arg12.view.read (Elt Ideal) G12 (ix3 4 (row 4 s) x) :=
      fun inb s x => rd3 arg12.view G12 rfl inb (0 : Fin 1) s x 4 (row 4 s) x rfl rfl (Nat.zero_add _).symm
  have L13_4_4 : ∀ inb s x, arg13.view.readAt (Elt Ideal) (Rect.unit (s := S5x640x128) ![4, 512, 0] ![1, 128, 128] inb).toLoadRect G13 (ix3 0 s x) = arg13.view.read (Elt Ideal) G13 (ix3 4 (row 4 s) x) :=
      fun inb s x => rd3 arg13.view G13 rfl inb (0 : Fin 1) s x 4 (row 4 s) x rfl rfl (Nat.zero_add _).symm
  have L14_4 : ∀ inb s x, arg14.view.readAt (Elt Ideal) (Rect.unit (s := S4x640x128) ![3, 512, 0] ![1, 128, 128] inb).toLoadRect G14 (ix3 0 s x) = arg14.view.read (Elt Ideal) G14 (ix3 3 (row 4 s) x) :=
      fun inb s x => rd3 arg14.view G14 rfl inb (0 : Fin 1) s x 3 (row 4 s) x rfl rfl (Nat.zero_add _).symm
  unfold_payloads
  try dsimp only
  pointwise []
  simp only [L12_1_0, L13_1_0, L12_4_0, L13_4_0, L14_0, L12_1_1, L13_1_1, L12_4_1, L13_4_1, L14_1, L12_1_2, L13_1_2, L12_4_2, L13_4_2, L14_2, L12_1_3, L13_1_3, L12_4_3, L13_4_3, L14_3, L12_1_4, L13_1_4, L12_4_4, L13_4_4, L14_4, ln2_named, log2e_named]
  iterate 5 rw [rd1 (ho := by decide)]
  rfl

set_option maxHeartbeats 2000000 in
theorem pairD0 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) (G) : arg7.view.read (Elt Ideal) (arg7.view.writes (Elt Ideal) G (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).1) (ix2 0 0) = 0 := by
  unfold kernelRun0_C
  dsimp only
  rw [wr2_not0 _ _ rfl _ _ _ _ _ (by decide), wr2_not0 _ _ rfl _ _ _ _ _ (by decide), wr2_not1 _ _ rfl _ _ _ _ _ (by decide), wr2_not1 _ _ rfl _ _ _ _ _ (by decide), wr2_mem _ _ rfl _ _ _ _ _ 0 0 rfl rfl]
  sl_unfold_run_names
  unfold_payloads
  pointwise []

set_option maxHeartbeats 2000000 in
theorem pairD1 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) (G) : arg7.view.read (Elt Ideal) (arg7.view.writes (Elt Ideal) G (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).1) (ix2 1 1) = 0 := by
  unfold kernelRun0_C
  dsimp only
  rw [wr2_not1 _ _ rfl _ _ _ _ _ (by decide), wr2_not1 _ _ rfl _ _ _ _ _ (by decide), wr2_not0 _ _ rfl _ _ _ _ _ (by decide), wr2_not0 _ _ rfl _ _ _ _ _ (by decide), wr2_mem _ _ rfl _ _ _ _ _ 1 1 rfl rfl]
  sl_unfold_run_names
  unfold_payloads
  pointwise []

end Cert.KernelIdeal.Gen

end
-- ==== Proof.Last.lean ====
/- The kernel's last point, as a function of the running quantities it leaves, in exact arithmetic. -/
module

public import proofs.«01_k».proof.Proof.Gen.KernelIdeal.Frame
public import proofs.«01_k».proof.Proof.FinRow
public import proofs.«01_k».proof.Proof.FinPair

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

set_option maxHeartbeats 2000000 in
theorem rd12_C (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) : arg12.view.read (Elt Ideal) (arg12.view.writes (Elt Ideal) (harg12.unread xs2) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.1) = sout0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 := by
  have hc := scover0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4
  unfold sout0_C_2
  funext j
  rw [View.read_writes_eq_canon _ _ _ hc, View.read_writes_eq_canon _ _ _ hc]

set_option maxHeartbeats 2000000 in
theorem rd13_C (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) : arg13.view.read (Elt Ideal) (arg13.view.writes (Elt Ideal) (harg13.unread xs3) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.2.1) = sout0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 := by
  have hc := scover0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4
  unfold sout0_C_3
  funext j
  rw [View.read_writes_eq_canon _ _ _ hc, View.read_writes_eq_canon _ _ _ hc]

set_option maxHeartbeats 2000000 in
theorem rd14_C (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) : arg14.view.read (Elt Ideal) (arg14.view.writes (Elt Ideal) (harg14.unread xs4) (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4).2.2.2.2.2.2.1) = sout0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 := by
  have hc := scover0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4
  unfold sout0_C_4
  funext j
  rw [View.read_writes_eq_canon _ _ _ hc, View.read_writes_eq_canon _ _ _ hc]

set_option maxHeartbeats 2000000 in
/-- The per-row losses the last point stores: those of the four pairs. -/
theorem out6 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) (p : Fin 4) (b : Fin 5) (s : Fin 128) :
    out0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 (ix4 (pI p) (pV p) b s) = rowV (sout0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4) (sout0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4) (sout0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4) (NV xt0) p b s := by
  have hc := cover0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4
  unfold out0_C_6
  rw [View.read_writes_eq_canon _ _ _ hc, ← View.read_writes_eq_canon arg8.view arg8.view.junk _ hc, ← rd12_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, ← rd13_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, ← rd14_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4]
  match p with
  | ⟨0, _⟩ => exact row0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 _ b s _ _ _ rfl rfl rfl
  | ⟨1, _⟩ => exact row1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 _ b s _ _ _ rfl rfl rfl
  | ⟨2, _⟩ => exact row2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 _ b s _ _ _ rfl rfl rfl
  | ⟨3, _⟩ => exact row3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 _ b s _ _ _ rfl rfl rfl

set_option maxHeartbeats 2000000 in
/-- The per-row losses of equal views are zero. -/
theorem out6D (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) (b : Fin 5) (s : Fin 128) :
    out0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 (ix4 0 0 b s) = 0 ∧ out0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 (ix4 1 1 b s) = 0 := by
  have hc := cover0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4
  unfold out0_C_6
  rw [View.read_writes_eq_canon _ _ _ hc, ← View.read_writes_eq_canon arg8.view arg8.view.junk _ hc]
  exact ⟨rowD0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 _ b s, rowD1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 _ b s⟩

/-- A pair loss, from the per-row losses of its pair. -/
def pairV (M L : Vec Ideal S5x640x128 .f32) (A : Vec Ideal S4x640x128 .f32) (nv : Fin 5 → BitVec 32) (p : Fin 4) : EReal :=
  Ideal.div (((((∑ s, rowV M L A nv p 0 s) + ∑ s, rowV M L A nv p 1 s) + ∑ s, rowV M L A nv p 2 s) + ∑ s, rowV M L A nv p 3 s) + ∑ s, rowV M L A nv p 4 s) (NT nv)

set_option maxHeartbeats 2000000 in
/-- The pair losses the last point stores: those of the four pairs. -/
theorem out5 (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) (p : Fin 4) :
    out0_C_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 (ix2 (pI p) (pV p)) = pairV (sout0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4) (sout0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4) (sout0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4) (NV xt0) p := by
  have hc := cover0_C_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4
  unfold out0_C_5
  rw [View.read_writes_eq_canon _ _ _ hc, ← View.read_writes_eq_canon arg7.view arg7.view.junk _ hc, ← rd12_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, ← rd13_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4, ← rd14_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4]
  match p with
  | ⟨0, _⟩ => exact pair0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 _ _ _ _ rfl rfl rfl
  | ⟨1, _⟩ => exact pair1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 _ _ _ _ rfl rfl rfl
  | ⟨2, _⟩ => exact pair2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 _ _ _ _ rfl rfl rfl
  | ⟨3, _⟩ => exact pair3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 _ _ _ _ rfl rfl rfl

set_option maxHeartbeats 2000000 in
/-- The pair losses of equal views are zero. -/
theorem out5D (c : Dev nD) (i : grid0.Coords) (arg2 : Memref sig .tc .vmem S5x640x1024 .fp8e4m3) (harg2 : arg2.IsWhole) (arg3 : Memref sig .tc .vmem S5x5x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S2x3 .f32) (harg7 : arg7.IsWhole) (arg8 : Memref sig .tc .vmem S2x3x5x128 .f32) (harg8 : arg8.IsWhole) (arg9 : Memref sig .tc .vmem S1x512 .f32) (harg9 : arg9.IsWhole) (arg10 : Memref sig .tc .vmem S5x640x512 .f32) (harg10 : arg10.IsWhole) (arg11 : Memref sig .tc .vmem S5x640x128 .f32) (harg11 : arg11.IsWhole) (arg12 : Memref sig .tc .vmem S5x640x128 .f32) (harg12 : arg12.IsWhole) (arg13 : Memref sig .tc .vmem S5x640x128 .f32) (harg13 : arg13.IsWhole) (arg14 : Memref sig .tc .vmem S4x640x128 .f32) (harg14 : arg14.IsWhole) (arg15 : Memref sig .tc .vmem S1x512 .f32) (harg15 : arg15.IsWhole) (hc0 : ¬cond0_0 i) (hc1 : cond0_1 i)     (x0 : Vec Ideal S5x640x1024 .fp8e4m3) (x1 : Vec Ideal S5x5x128 .f32) (x2 : Vec Ideal S512x1024 .fp8e4m3) (x3 : Vec Ideal S1x512 .f32) (x4 : Vec Ideal S1x512 .f32) (xt0 : TbBuf0 (F := Ideal) c tbM0_0) (xs1 : Vec Ideal S5x640x128 .f32) (xs2 : Vec Ideal S5x640x128 .f32) (xs3 : Vec Ideal S5x640x128 .f32) (xs4 : Vec Ideal S4x640x128 .f32) :
    out0_C_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 (ix2 0 0) = 0 ∧ out0_C_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 (ix2 1 1) = 0 := by
  have hc := cover0_C_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4
  unfold out0_C_5
  rw [View.read_writes_eq_canon _ _ _ hc, ← View.read_writes_eq_canon arg7.view arg7.view.junk _ hc]
  exact ⟨pairD0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 _, pairD1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 xt0 xs1 xs2 xs3 xs4 _⟩

end Cert.KernelIdeal.Gen

end
-- ==== Proof.Softmax.lean ====
/-
  The arithmetic of a running (online) softmax over the extended reals, with no program in it.

  A column of logits is visited four at a time; a running maximum, a sum of `2^(z - max)` and a weighted sum of
  `2^(z - max)` are kept, each rescaled when the maximum moves. The lemmas say that the running state is the state of
  the whole column so far (`online_sum`), that 128 such states (one per lane) combine to the state of all the columns
  (`lanes_sum`), and that the base-2 cross entropy read off the combined state is the natural one (`ce_eq`). All hold at
  every extended real, infinite logits included.
-/
module

public import Idealize.ShloMosaic.PureOps.Ideal
public import Mathlib.Analysis.SpecialFunctions.Pow.Real

@[expose] public section

noncomputable section

namespace Cert.Softmax

open Idealize.ShloMosaic

/-! ## Powers of two of differences -/

theorem exp2_nonneg (x : EReal) : 0 ≤ Ideal.exp2 x := by
  induction x with
  | bot => simp
  | top => simp
  | coe r => rw [Ideal.exp2_coe]; exact EReal.coe_nonneg.mpr (Real.rpow_nonneg (by norm_num) r)

theorem sub_top (x : EReal) : x - ⊤ = ⊥ := by
  rw [sub_eq_add_neg, EReal.neg_top, EReal.add_bot]

theorem bot_sub (x : EReal) : (⊥ : EReal) - x = ⊥ := by
  rw [sub_eq_add_neg, EReal.bot_add]

/-- The factor that rescales a state when its maximum moves from `a` up to `b` is a real in `[0, ∞)`. -/
theorem exp2_factor {a b : EReal} (ha : a ≠ ⊥) (h : a ≤ b) : ∃ r : ℝ, 0 ≤ r ∧ Ideal.exp2 (a - b) = (r : EReal) := by
  induction b with
  | bot => exact absurd (le_bot_iff.mp h) ha
  | top => exact ⟨0, le_refl _, by rw [sub_top]; simp⟩
  | coe b =>
    induction a with
    | bot => exact absurd rfl ha
    | top => exact absurd (top_le_iff.mp h) (EReal.coe_ne_top b)
    | coe a => exact ⟨Real.rpow 2 (a - b), Real.rpow_nonneg (by norm_num) _, by rw [← EReal.coe_sub, Ideal.exp2_coe]⟩

/-- Rescaling from the maximum `a` to the maximum `b` moves a term from one to the other. -/
theorem exp2_shift {z a b : EReal} (ha : a ≠ ⊥) (h : a ≤ b) (hz : z ≤ a) :
    Ideal.exp2 (z - a) * Ideal.exp2 (a - b) = Ideal.exp2 (z - b) := by
  induction b with
  | bot => exact absurd (le_bot_iff.mp h) ha
  | top => rw [sub_top, sub_top]; simp
  | coe b =>
    induction a with
    | bot => exact absurd rfl ha
    | top => exact absurd (top_le_iff.mp h) (EReal.coe_ne_top b)
    | coe a =>
      induction z with
      | bot => rw [bot_sub, bot_sub]; simp
      | top => exact absurd (top_le_iff.mp hz) (EReal.coe_ne_top a)
      | coe z =>
        rw [← EReal.coe_sub, ← EReal.coe_sub, ← EReal.coe_sub, Ideal.exp2_coe, Ideal.exp2_coe, Ideal.exp2_coe, ← EReal.coe_mul]
        congr 1
        exact (Real.rpow_add (by norm_num) _ _).symm.trans (by congr 1; ring)

/-! ## A nonnegative real factor through sums -/

theorem add_mul_real {r : ℝ} (hr : 0 ≤ r) (x y : EReal) : (x + y) * (r : EReal) = x * r + y * r := by
  rw [mul_comm, EReal.left_distrib_of_nonneg_of_ne_top (EReal.coe_nonneg.mpr hr) (EReal.coe_ne_top r), mul_comm x, mul_comm y]

theorem sub_mul_real {r : ℝ} (hr : 0 ≤ r) (x y : EReal) : (x - y) * (r : EReal) = x * r - y * r := by
  rw [sub_eq_add_neg, sub_eq_add_neg, add_mul_real hr, EReal.neg_mul]

theorem sum_mul_real {ι : Type} (s : Finset ι) (f : ι → EReal) {r : ℝ} (hr : 0 ≤ r) :
    (∑ k ∈ s, f k) * (r : EReal) = ∑ k ∈ s, f k * r := by
  classical
  induction s using Finset.induction_on with
  | empty => simp
  | insert a s ha ih => rw [Finset.sum_insert ha, Finset.sum_insert ha, add_mul_real hr, ih]

/-! ## The running state of one lane -/

/-- The running maximum of a lane: `lo` to begin with, then the logits one after another. -/
def mx (lo : EReal) (Z : ℕ → EReal) : ℕ → EReal
  | 0 => lo
  | n + 1 => max (mx lo Z n) (Z n)

theorem mx_ne_bot {lo : EReal} (hlo : lo ≠ ⊥) (Z : ℕ → EReal) : ∀ n, mx lo Z n ≠ ⊥
  | 0 => hlo
  | n + 1 => fun h => mx_ne_bot hlo Z n (by
      have : mx lo Z n ≤ ⊥ := h ▸ le_max_left (mx lo Z n) (Z n)
      exact le_bot_iff.mp this)

theorem mx_mono (lo : EReal) (Z : ℕ → EReal) : Monotone (mx lo Z) :=
  monotone_nat_of_le_succ fun _ => le_max_left _ _

theorem le_mx (lo : EReal) (Z : ℕ → EReal) {k n : ℕ} (h : k < n) : Z k ≤ mx lo Z n :=
  (le_max_right (mx lo Z k) (Z k)).trans (mx_mono lo Z h)

/-- The weighted sum of a lane's state after `n` logits: `∑ 2^(z - max) · w`. -/
def wsum (lo : EReal) (Z W : ℕ → EReal) (n : ℕ) : EReal :=
  ∑ k ∈ Finset.range n, Ideal.exp2 (Z k - mx lo Z n) * W k

@[simp] theorem wsum_zero (lo : EReal) (Z W : ℕ → EReal) : wsum lo Z W 0 = 0 := by simp [wsum]

/-- Rescaling a lane's weighted sum to a maximum at or above its own. -/
theorem wsum_scale {lo : EReal} (hlo : lo ≠ ⊥) (Z W : ℕ → EReal) (n : ℕ) {b : EReal} (hb : mx lo Z n ≤ b) :
    wsum lo Z W n * Ideal.exp2 (mx lo Z n - b) = ∑ k ∈ Finset.range n, Ideal.exp2 (Z k - b) * W k := by
  obtain ⟨r, hr, e⟩ := exp2_factor (mx_ne_bot hlo Z n) hb
  rw [wsum, e, sum_mul_real _ _ hr]
  refine Finset.sum_congr rfl fun k hk => ?_
  rw [← e, mul_right_comm, exp2_shift (mx_ne_bot hlo Z n) hb (le_mx lo Z (Finset.mem_range.mp hk))]

/-- ONE STEP: four more logits. The old sum rescaled plus the four new terms is the new sum. -/
theorem online_sum {lo : EReal} (hlo : lo ≠ ⊥) (Z W : ℕ → EReal) (n : ℕ) :
    wsum lo Z W n * Ideal.exp2 (mx lo Z n - mx lo Z (n + 4))
      + (((Ideal.exp2 (Z n - mx lo Z (n + 4)) * W n + Ideal.exp2 (Z (n + 1) - mx lo Z (n + 4)) * W (n + 1))
        + Ideal.exp2 (Z (n + 2) - mx lo Z (n + 4)) * W (n + 2)) + Ideal.exp2 (Z (n + 3) - mx lo Z (n + 4)) * W (n + 3))
      = wsum lo Z W (n + 4) := by
  rw [wsum_scale hlo Z W n (mx_mono lo Z (Nat.le_add_right n 4)), wsum, Finset.sum_range_succ, Finset.sum_range_succ,
    Finset.sum_range_succ, Finset.sum_range_succ]
  simp only [add_assoc]

theorem mx_four (lo : EReal) (Z : ℕ → EReal) (n : ℕ) :
    mx lo Z (n + 4) = max (max (max (max (mx lo Z n) (Z n)) (Z (n + 1))) (Z (n + 2))) (Z (n + 3)) := rfl

/-! ## The lanes together -/

/-- The maximum over a finite index set, `⊥` on the empty one. -/
def top {ι : Type} [Fintype ι] (f : ι → EReal) : EReal := Finset.univ.sup f

/-- The lanes' sums, each rescaled to the maximum over the lanes, add up to the sum over all the lanes' logits. -/
theorem lanes_sum {ι : Type} [Fintype ι] {lo : EReal} (hlo : lo ≠ ⊥) (Z W : ι → ℕ → EReal) (n : ℕ) :
    ∑ l, wsum lo (Z l) (W l) n * Ideal.exp2 (mx lo (Z l) n - top fun l => mx lo (Z l) n)
      = ∑ l, ∑ k ∈ Finset.range n, Ideal.exp2 (Z l k - top fun l => mx lo (Z l) n) * W l k :=
  Finset.sum_congr rfl fun l _ => wsum_scale hlo _ _ n (Finset.le_sup (f := fun l => mx lo (Z l) n) (Finset.mem_univ l))

theorem mx_eq (lo : EReal) (Z : ℕ → EReal) : ∀ n, mx lo Z n = max lo ((Finset.range n).sup Z)
  | 0 => by simp [mx]
  | n + 1 => by
    rw [mx, mx_eq lo Z n, Finset.range_add_one, Finset.sup_insert, max_assoc, max_comm ((Finset.range n).sup Z)]

/-- The maximum over the lanes of the lanes' running maxima. -/
theorem top_mx {ι : Type} [Fintype ι] [Nonempty ι] (lo : EReal) (Z : ι → ℕ → EReal) (n : ℕ) :
    (top fun l => mx lo (Z l) n) = max lo (top fun l => (Finset.range n).sup (Z l)) := by
  refine le_antisymm ?_ ?_
  · refine Finset.sup_le fun l _ => ?_
    rw [mx_eq]
    exact max_le_max le_rfl (Finset.le_sup (f := fun l => (Finset.range n).sup (Z l)) (Finset.mem_univ l))
  · refine max_le ?_ (Finset.sup_mono_fun fun l _ => ?_)
    · obtain ⟨l⟩ := ‹Nonempty ι›
      exact le_trans (by rw [mx_eq]; exact le_max_left _ _) (Finset.le_sup (f := fun l => mx lo (Z l) n) (Finset.mem_univ l))
    · rw [mx_eq]; exact le_max_right _ _

/-! ## Base two against base e -/

/-- The natural sum of exponentials. -/
def esum {ι : Type} [Fintype ι] (z w : ι → EReal) : EReal := ∑ k, Ideal.exp (z k - top z) * w k

/-- The base-2 sum of exponentials, with the maximum bounded below by `lo`. -/
def bsum {ι : Type} [Fintype ι] (lo : EReal) (z w : ι → EReal) : EReal := ∑ k, Ideal.exp2 (z k - max lo (top z)) * w k

section
variable {ι : Type} [Fintype ι]

theorem le_top (z : ι → EReal) (k : ι) : z k ≤ top z := Finset.le_sup (Finset.mem_univ k)

theorem top_mul (z : ι → EReal) [Nonempty ι] {c : ℝ} (hc : 0 < c) : (top fun k => z k * (c : EReal)) = top z * c := by
  have hmono : Monotone fun x : EReal => x * (c : EReal) := fun x y h => mul_le_mul_of_nonneg_right h (EReal.coe_nonneg.mpr hc.le)
  have := (Finset.comp_sup_eq_sup_comp_of_is_total (s := Finset.univ) (f := z) (fun x : EReal => x * (c : EReal)) hmono (EReal.bot_mul_coe_of_pos hc))
  exact this.symm

/-- At an infinite maximum every term of the natural sum vanishes, `∞ - ∞` being `⊥`. -/
theorem esum_of_inf (z w : ι → EReal) (h : top z = ⊥ ∨ top z = ⊤) : esum z w = 0 := by
  refine Finset.sum_eq_zero fun k _ => ?_
  rcases h with h | h
  · have hk : z k = ⊥ := le_bot_iff.mp (h ▸ le_top z k)
    rw [hk, bot_sub]; simp
  · rw [h, sub_top]; simp

theorem bsum_of_inf (lo : EReal) (z w : ι → EReal) (h : top z = ⊥ ∨ top z = ⊤) : bsum lo z w = 0 := by
  refine Finset.sum_eq_zero fun k _ => ?_
  rcases h with h | h
  · have hk : z k = ⊥ := le_bot_iff.mp (h ▸ le_top z k)
    rw [hk, bot_sub]; simp
  · rw [h, max_eq_right _root_.le_top, sub_top]; simp

end

end Cert.Softmax

end
-- ==== Proof.Value.lean ====
module

public import proofs.«01_k».proof.Proof.Last
public import proofs.«01_k».proof.Proof.Softmax

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Softmax

/-! ## What the carried buffers hold after each point

Lane `l` of a row meets one column of every 128; `zS … k` is the score at the `k`-th of them, four of them a point. -/

/-- The running maximum's start, `-10 ^ 30`. -/
def lo : EReal := Ideal.ofBits .f32 4048155338#32

theorem lo_ne_bot : lo ≠ ⊥ := by
  have h : lo = ((-(13234890 * 2 ^ 76) : ℝ) : EReal) := by
    unfold lo
    simp [Ideal.ofBits, Ideal.ieee]
  rw [h]
  exact EReal.coe_ne_bot _

variable (m : (ℓ : Loc nD τ sig) → Buf (Elt Ideal) ℓ) (hO : Ok m) (c : Dev nD)

/-- Grid point `n`. -/
def pt (n : ℕ) : Fin (cfgM m hO).N := ⟨n % 16, lt_of_lt_of_eq (Nat.mod_lt n (by decide)) (N_0.symm : 16 = (cfgM m hO).N)⟩

theorem pt_eq (n : ℕ) (h : n < (cfgM m hO).N) : pt m hO n = ⟨n, h⟩ :=
  Fin.ext (Nat.mod_eq_of_lt (lt_of_lt_of_eq h (N_0 : (cfgM m hO).N = 16)))

/-- The scales of every candidate and row, spread over the lanes. -/
def sS : Vec Ideal S5x640x128 .f32 := SV (iblk m hO c 1 (pt m hO 0)) (NV (c := c) (tbl m 0))

/-- The score at column `128 q + l` of point `n`'s tile. -/
def zP (n : ℕ) (C : Fin 5) (R : Fin 640) (q : Fin 4) (l : Fin 128) : EReal :=
  zk (XV (iblk m hO c 0 (pt m hO n)) (iblk m hO c 2 (pt m hO n))) (sS m hO c)
    (WV (iblk m hO c 2 (pt m hO n)) (iblk m hO c 3 (pt m hO n))) (iblk m hO c 4 (pt m hO n)) C R q l

/-- The scores that a lane meets, in order. -/
def zS (C : Fin 5) (R : Fin 640) (l : Fin 128) (k : ℕ) : EReal := zP m hO c (k / 4) C R (Fin.ofNat 4 k) l

theorem zS_four (n : ℕ) (C : Fin 5) (R : Fin 640) (l : Fin 128) (i : ℕ) (hi : i < 4) :
    zS m hO c C R l (4 * n + i) = zP m hO c n C R ⟨i, hi⟩ l := by
  unfold zS
  rw [show (4 * n + i) / 4 = n by omega, show Fin.ofNat 4 (4 * n + i) = ⟨i, hi⟩ from Fin.ext (show (4 * n + i) % 4 = i by omega)]

theorem iblk1_eq (t : Fin (cfgM m hO).N) : iblk m hO c 1 t = iblk m hO c 1 (pt m hO 0) := rfl

section Step

variable (n : ℕ) (s2 s3 : Vec Ideal S5x640x128 .f32) (s4 : Vec Ideal S4x640x128 .f32)
  (h2 : s2 = fun j => mx lo (zS m hO c (j 0) (j 1) (j 2)) (4 * n))

include h2

theorem newM_step (C : Fin 5) (R : Fin 640) (l : Fin 128) :
    newM (XV (iblk m hO c 0 (pt m hO n)) (iblk m hO c 2 (pt m hO n))) (sS m hO c)
      (WV (iblk m hO c 2 (pt m hO n)) (iblk m hO c 3 (pt m hO n))) (iblk m hO c 4 (pt m hO n)) s2 C R l
      = mx lo (zS m hO c C R l) (4 * n + 4) := by
  subst h2
  rw [mx_four, show 4 * n = 4 * n + 0 from rfl, zS_four m hO c n C R l 0 (by decide), zS_four m hO c n C R l 1 (by decide),
    zS_four m hO c n C R l 2 (by decide), zS_four m hO c n C R l 3 (by decide)]
  rfl

theorem newL_step (h3 : s3 = fun j => wsum lo (zS m hO c (j 0) (j 1) (j 2)) (fun _ => 1) (4 * n))
    (C : Fin 5) (R : Fin 640) (l : Fin 128) :
    newL (XV (iblk m hO c 0 (pt m hO n)) (iblk m hO c 2 (pt m hO n))) (sS m hO c)
      (WV (iblk m hO c 2 (pt m hO n)) (iblk m hO c 3 (pt m hO n))) (iblk m hO c 4 (pt m hO n)) s2 s3 C R l
      = wsum lo (zS m hO c C R l) (fun _ => 1) (4 * n + 4) := by
  unfold newL ek
  rw [newM_step m hO c n s2 h2, ← online_sum lo_ne_bot, show 4 * n = 4 * n + 0 from rfl, zS_four m hO c n C R l 0 (by decide),
    zS_four m hO c n C R l 1 (by decide), zS_four m hO c n C R l 2 (by decide), zS_four m hO c n C R l 3 (by decide)]
  subst h2 h3
  simp only [mul_one]
  rfl

theorem newA_step (h4 : s4 = fun j => wsum lo (zS m hO c (pT (j 0)) (j 1) (j 2)) (zS m hO c (pS (j 0)) (j 1) (j 2)) (4 * n))
    (p : Fin 4) (R : Fin 640) (l : Fin 128) :
    newA (XV (iblk m hO c 0 (pt m hO n)) (iblk m hO c 2 (pt m hO n))) (sS m hO c)
      (WV (iblk m hO c 2 (pt m hO n)) (iblk m hO c 3 (pt m hO n))) (iblk m hO c 4 (pt m hO n)) s2 s4 p R l
      = wsum lo (zS m hO c (pT p) R l) (zS m hO c (pS p) R l) (4 * n + 4) := by
  unfold newA ek
  rw [newM_step m hO c n s2 h2, ← online_sum lo_ne_bot, show 4 * n = 4 * n + 0 from rfl]
  simp only [zS_four m hO c n _ R l 0 (by decide), zS_four m hO c n _ R l 1 (by decide), zS_four m hO c n _ R l 2 (by decide),
    zS_four m hO c n _ R l 3 (by decide)]
  subst h2 h4
  rfl

end Step

/-- What the buffers carried between points hold after point `n`. -/
def Carried (n : ℕ) (h : n < (cfgM m hO).N) : Prop :=
  (outsAt0 m hO c n h).2.2.2.1 = sS m hO c
  ∧ (outsAt0 m hO c n h).2.2.2.2.1 = (fun j => mx lo (zS m hO c (j 0) (j 1) (j 2)) (4 * n + 4))
  ∧ (outsAt0 m hO c n h).2.2.2.2.2.1 = (fun j => wsum lo (zS m hO c (j 0) (j 1) (j 2)) (fun _ => 1) (4 * n + 4))
  ∧ (outsAt0 m hO c n h).2.2.2.2.2.2 = (fun j => wsum lo (zS m hO c (pT (j 0)) (j 1) (j 2)) (zS m hO c (pS (j 0)) (j 1) (j 2)) (4 * n + 4))

theorem carried_zero (h : 0 < (cfgM m hO).N) : Carried m hO c 0 h := by
  have e := outsAt0_A m hO c ⟨0, h⟩ rfl (show ¬(0 % 16 = 15) by decide)
  have hp := pt_eq m hO 0 h
  have h1 := sA_1 c (grid0.coords ⟨0, h⟩) (ms0_0 m hO ⟨0, h⟩) (hs0_0 m hO ⟨0, h⟩) (ms0_1 m hO ⟨0, h⟩) (hs0_1 m hO ⟨0, h⟩) (ms0_2 m hO ⟨0, h⟩) (hs0_2 m hO ⟨0, h⟩) (ms0_3 m hO ⟨0, h⟩) (hs0_3 m hO ⟨0, h⟩) (ms0_4 m hO ⟨0, h⟩) (hs0_4 m hO ⟨0, h⟩) (ms0_5 m hO ⟨0, h⟩) (hs0_5 m hO ⟨0, h⟩) (ms0_6 m hO ⟨0, h⟩) (hs0_6 m hO ⟨0, h⟩) (ms0_7 m hO ⟨0, h⟩) (hs0_7 m hO ⟨0, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _)
  have e2 := fun a b => sA_2 c (grid0.coords ⟨0, h⟩) (ms0_0 m hO ⟨0, h⟩) (hs0_0 m hO ⟨0, h⟩) (ms0_1 m hO ⟨0, h⟩) (hs0_1 m hO ⟨0, h⟩) (ms0_2 m hO ⟨0, h⟩) (hs0_2 m hO ⟨0, h⟩) (ms0_3 m hO ⟨0, h⟩) (hs0_3 m hO ⟨0, h⟩) (ms0_4 m hO ⟨0, h⟩) (hs0_4 m hO ⟨0, h⟩) (ms0_5 m hO ⟨0, h⟩) (hs0_5 m hO ⟨0, h⟩) (ms0_6 m hO ⟨0, h⟩) (hs0_6 m hO ⟨0, h⟩) (ms0_7 m hO ⟨0, h⟩) (hs0_7 m hO ⟨0, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) a b (iblk m hO c 0 ⟨0, h⟩) (iblk m hO c 1 ⟨0, h⟩) (iblk m hO c 2 ⟨0, h⟩) (iblk m hO c 3 ⟨0, h⟩) (iblk m hO c 4 ⟨0, h⟩) (tbl m 0)
  have e3 := fun a b => sA_3 c (grid0.coords ⟨0, h⟩) (ms0_0 m hO ⟨0, h⟩) (hs0_0 m hO ⟨0, h⟩) (ms0_1 m hO ⟨0, h⟩) (hs0_1 m hO ⟨0, h⟩) (ms0_2 m hO ⟨0, h⟩) (hs0_2 m hO ⟨0, h⟩) (ms0_3 m hO ⟨0, h⟩) (hs0_3 m hO ⟨0, h⟩) (ms0_4 m hO ⟨0, h⟩) (hs0_4 m hO ⟨0, h⟩) (ms0_5 m hO ⟨0, h⟩) (hs0_5 m hO ⟨0, h⟩) (ms0_6 m hO ⟨0, h⟩) (hs0_6 m hO ⟨0, h⟩) (ms0_7 m hO ⟨0, h⟩) (hs0_7 m hO ⟨0, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) a b (iblk m hO c 0 ⟨0, h⟩) (iblk m hO c 1 ⟨0, h⟩) (iblk m hO c 2 ⟨0, h⟩) (iblk m hO c 3 ⟨0, h⟩) (iblk m hO c 4 ⟨0, h⟩) (tbl m 0)
  have e4 := fun a b => sA_4 c (grid0.coords ⟨0, h⟩) (ms0_0 m hO ⟨0, h⟩) (hs0_0 m hO ⟨0, h⟩) (ms0_1 m hO ⟨0, h⟩) (hs0_1 m hO ⟨0, h⟩) (ms0_2 m hO ⟨0, h⟩) (hs0_2 m hO ⟨0, h⟩) (ms0_3 m hO ⟨0, h⟩) (hs0_3 m hO ⟨0, h⟩) (ms0_4 m hO ⟨0, h⟩) (hs0_4 m hO ⟨0, h⟩) (ms0_5 m hO ⟨0, h⟩) (hs0_5 m hO ⟨0, h⟩) (ms0_6 m hO ⟨0, h⟩) (hs0_6 m hO ⟨0, h⟩) (ms0_7 m hO ⟨0, h⟩) (hs0_7 m hO ⟨0, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) a b (iblk m hO c 0 ⟨0, h⟩) (iblk m hO c 1 ⟨0, h⟩) (iblk m hO c 2 ⟨0, h⟩) (iblk m hO c 3 ⟨0, h⟩) (iblk m hO c 4 ⟨0, h⟩) (tbl m 0)
  unfold Carried
  rw [e]
  dsimp only
  have k2 : (fun _ => Ideal.ofBits .f32 4048155338#32 : Vec Ideal S5x640x128 .f32) = fun j => mx lo (zS m hO c (j 0) (j 1) (j 2)) (4 * 0) := rfl
  refine ⟨h1 _ _ _ _ _ _ _ _, ?_, ?_, ?_⟩
  · rw [e2, ← hp]
    exact funext fun j => newM_step m hO c 0 _ k2 (j 0) (j 1) (j 2)
  · rw [e3, ← hp]
    exact funext fun j => newL_step m hO c 0 _ _ k2 (funext fun j => (wsum_zero _ _ _).symm) (j 0) (j 1) (j 2)
  · rw [e4, ← hp]
    exact funext fun j => newA_step m hO c 0 _ _ k2 (funext fun j => (wsum_zero _ _ _).symm) (j 0) (j 1) (j 2)

theorem carried_B (n : ℕ) (h : n + 1 < (cfgM m hO).N) (h' : n < (cfgM m hO).N) (h1 : ¬(n + 1) % 16 = 15) (ih : Carried m hO c n h') :
    Carried m hO c (n + 1) h := by
  have hN : n + 1 < 16 := lt_of_lt_of_eq h (show (cfgM m hO).N = 16 from N_0)
  have e := outsAt0_B m hO c ⟨n + 1, h⟩ (show ¬((n + 1) % 16 = 0) by omega) h1
  have hp := pt_eq m hO (n + 1) h
  obtain ⟨i1, i2, i3, i4⟩ := ih
  have e2 := fun a b => sB_2 c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) (ms0_6 m hO ⟨n + 1, h⟩) (hs0_6 m hO ⟨n + 1, h⟩) (ms0_7 m hO ⟨n + 1, h⟩) (hs0_7 m hO ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) a b (iblk m hO c 0 ⟨n + 1, h⟩) (iblk m hO c 1 ⟨n + 1, h⟩) (iblk m hO c 2 ⟨n + 1, h⟩) (iblk m hO c 3 ⟨n + 1, h⟩) (iblk m hO c 4 ⟨n + 1, h⟩) (tbl m 0) (outsAt0 m hO c n h').2.2.2.1 (outsAt0 m hO c n h').2.2.2.2.1 (outsAt0 m hO c n h').2.2.2.2.2.1 (outsAt0 m hO c n h').2.2.2.2.2.2
  have e3 := fun a b => sB_3 c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) (ms0_6 m hO ⟨n + 1, h⟩) (hs0_6 m hO ⟨n + 1, h⟩) (ms0_7 m hO ⟨n + 1, h⟩) (hs0_7 m hO ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) a b (iblk m hO c 0 ⟨n + 1, h⟩) (iblk m hO c 1 ⟨n + 1, h⟩) (iblk m hO c 2 ⟨n + 1, h⟩) (iblk m hO c 3 ⟨n + 1, h⟩) (iblk m hO c 4 ⟨n + 1, h⟩) (tbl m 0) (outsAt0 m hO c n h').2.2.2.1 (outsAt0 m hO c n h').2.2.2.2.1 (outsAt0 m hO c n h').2.2.2.2.2.1 (outsAt0 m hO c n h').2.2.2.2.2.2
  have e4 := fun a b => sB_4 c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) (ms0_6 m hO ⟨n + 1, h⟩) (hs0_6 m hO ⟨n + 1, h⟩) (ms0_7 m hO ⟨n + 1, h⟩) (hs0_7 m hO ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) a b (iblk m hO c 0 ⟨n + 1, h⟩) (iblk m hO c 1 ⟨n + 1, h⟩) (iblk m hO c 2 ⟨n + 1, h⟩) (iblk m hO c 3 ⟨n + 1, h⟩) (iblk m hO c 4 ⟨n + 1, h⟩) (tbl m 0) (outsAt0 m hO c n h').2.2.2.1 (outsAt0 m hO c n h').2.2.2.2.1 (outsAt0 m hO c n h').2.2.2.2.2.1 (outsAt0 m hO c n h').2.2.2.2.2.2
  unfold Carried
  rw [e]
  dsimp only
  refine ⟨i1, ?_, ?_, ?_⟩
  · refine (e2 _ _).trans ?_
    rw [i1, ← hp]
    exact funext fun j => newM_step m hO c (n + 1) _ i2 (j 0) (j 1) (j 2)
  · refine (e3 _ _).trans ?_
    rw [i1, ← hp]
    exact funext fun j => newL_step m hO c (n + 1) _ _ i2 i3 (j 0) (j 1) (j 2)
  · refine (e4 _ _).trans ?_
    rw [i1, ← hp]
    exact funext fun j => newA_step m hO c (n + 1) _ _ i2 i4 (j 0) (j 1) (j 2)

theorem carried_C (n : ℕ) (h : n + 1 < (cfgM m hO).N) (h' : n < (cfgM m hO).N) (h1 : (n + 1) % 16 = 15) (ih : Carried m hO c n h') :
    Carried m hO c (n + 1) h := by
  have hN : n + 1 < 16 := lt_of_lt_of_eq h (show (cfgM m hO).N = 16 from N_0)
  have e := outsAt0_C m hO c ⟨n + 1, h⟩ (show ¬((n + 1) % 16 = 0) by omega) h1
  have hp := pt_eq m hO (n + 1) h
  obtain ⟨i1, i2, i3, i4⟩ := ih
  have e2 := fun a b => sC_2 c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) (ms0_6 m hO ⟨n + 1, h⟩) (hs0_6 m hO ⟨n + 1, h⟩) (ms0_7 m hO ⟨n + 1, h⟩) (hs0_7 m hO ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) a b (iblk m hO c 0 ⟨n + 1, h⟩) (iblk m hO c 1 ⟨n + 1, h⟩) (iblk m hO c 2 ⟨n + 1, h⟩) (iblk m hO c 3 ⟨n + 1, h⟩) (iblk m hO c 4 ⟨n + 1, h⟩) (tbl m 0) (outsAt0 m hO c n h').2.2.2.1 (outsAt0 m hO c n h').2.2.2.2.1 (outsAt0 m hO c n h').2.2.2.2.2.1 (outsAt0 m hO c n h').2.2.2.2.2.2
  have e3 := fun a b => sC_3 c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) (ms0_6 m hO ⟨n + 1, h⟩) (hs0_6 m hO ⟨n + 1, h⟩) (ms0_7 m hO ⟨n + 1, h⟩) (hs0_7 m hO ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) a b (iblk m hO c 0 ⟨n + 1, h⟩) (iblk m hO c 1 ⟨n + 1, h⟩) (iblk m hO c 2 ⟨n + 1, h⟩) (iblk m hO c 3 ⟨n + 1, h⟩) (iblk m hO c 4 ⟨n + 1, h⟩) (tbl m 0) (outsAt0 m hO c n h').2.2.2.1 (outsAt0 m hO c n h').2.2.2.2.1 (outsAt0 m hO c n h').2.2.2.2.2.1 (outsAt0 m hO c n h').2.2.2.2.2.2
  have e4 := fun a b => sC_4 c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) (ms0_6 m hO ⟨n + 1, h⟩) (hs0_6 m hO ⟨n + 1, h⟩) (ms0_7 m hO ⟨n + 1, h⟩) (hs0_7 m hO ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) a b (iblk m hO c 0 ⟨n + 1, h⟩) (iblk m hO c 1 ⟨n + 1, h⟩) (iblk m hO c 2 ⟨n + 1, h⟩) (iblk m hO c 3 ⟨n + 1, h⟩) (iblk m hO c 4 ⟨n + 1, h⟩) (tbl m 0) (outsAt0 m hO c n h').2.2.2.1 (outsAt0 m hO c n h').2.2.2.2.1 (outsAt0 m hO c n h').2.2.2.2.2.1 (outsAt0 m hO c n h').2.2.2.2.2.2
  unfold Carried
  rw [e]
  dsimp only
  refine ⟨i1, ?_, ?_, ?_⟩
  · refine (e2 _ _).trans ?_
    rw [i1, ← hp]
    exact funext fun j => newM_step m hO c (n + 1) _ i2 (j 0) (j 1) (j 2)
  · refine (e3 _ _).trans ?_
    rw [i1, ← hp]
    exact funext fun j => newL_step m hO c (n + 1) _ _ i2 i3 (j 0) (j 1) (j 2)
  · refine (e4 _ _).trans ?_
    rw [i1, ← hp]
    exact funext fun j => newA_step m hO c (n + 1) _ _ i2 i4 (j 0) (j 1) (j 2)

theorem carried : ∀ (n : ℕ) (h : n < (cfgM m hO).N), Carried m hO c n h
  | 0, h => carried_zero m hO c h
  | n + 1, h => by
    have ih := carried n (Nat.lt_of_succ_lt h)
    by_cases h1 : (n + 1) % 16 = 15
    · exact carried_C m hO c n h _ h1 ih
    · exact carried_B m hO c n h _ h1 ih

/-- A tile's part of the third result, after its point. -/
theorem centre (t : Fin (cfgM m hO).N) (q : Fin 4) (l : Fin 128) :
    (outsAt0 m hO c t.val t.isLt).2.2.1 (ix2 0 (col q l))
      = bcV (XV (iblk m hO c 0 t) (iblk m hO c 2 t)) (sS m hO c) (WV (iblk m hO c 2 t) (iblk m hO c 3 t)) (NV (c := c) (tbl m 0)) q l := by
  obtain ⟨n, h⟩ := t
  have hN : n < 16 := lt_of_lt_of_eq h (show (cfgM m hO).N = 16 from N_0)
  cases n with
  | zero =>
    rw [outsAt0_A m hO c ⟨0, h⟩ rfl (show ¬(0 % 16 = 15) by decide)]
    exact bA c (grid0.coords ⟨0, h⟩) (ms0_0 m hO ⟨0, h⟩) (hs0_0 m hO ⟨0, h⟩) (ms0_1 m hO ⟨0, h⟩) (hs0_1 m hO ⟨0, h⟩) (ms0_2 m hO ⟨0, h⟩) (hs0_2 m hO ⟨0, h⟩) (ms0_3 m hO ⟨0, h⟩) (hs0_3 m hO ⟨0, h⟩) (ms0_4 m hO ⟨0, h⟩) (hs0_4 m hO ⟨0, h⟩) (ms0_5 m hO ⟨0, h⟩) (hs0_5 m hO ⟨0, h⟩) (ms0_6 m hO ⟨0, h⟩) (hs0_6 m hO ⟨0, h⟩) (ms0_7 m hO ⟨0, h⟩) (hs0_7 m hO ⟨0, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, h⟩).mpr rfl) (fun hh => (show ¬(0 % 16 = 15) by decide) ((hcond0_1 ⟨0, h⟩).mp hh)) (iblk m hO c 0 ⟨0, h⟩) (iblk m hO c 1 ⟨0, h⟩) (iblk m hO c 2 ⟨0, h⟩) (iblk m hO c 3 ⟨0, h⟩) (iblk m hO c 4 ⟨0, h⟩) (tbl m 0) q l
  | succ n =>
    have i1 := (carried m hO c n (Nat.lt_of_succ_lt h)).1
    by_cases h1 : (n + 1) % 16 = 15
    · rw [outsAt0_C m hO c ⟨n + 1, h⟩ (show ¬((n + 1) % 16 = 0) by omega) h1, ← i1]
      exact bC c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) (ms0_6 m hO ⟨n + 1, h⟩) (hs0_6 m hO ⟨n + 1, h⟩) (ms0_7 m hO ⟨n + 1, h⟩) (hs0_7 m hO ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => (show ¬((n + 1) % 16 = 0) by omega) ((hcond0_0 ⟨n + 1, h⟩).mp hh)) ((hcond0_1 ⟨n + 1, h⟩).mpr h1) (iblk m hO c 0 ⟨n + 1, h⟩) (iblk m hO c 1 ⟨n + 1, h⟩) (iblk m hO c 2 ⟨n + 1, h⟩) (iblk m hO c 3 ⟨n + 1, h⟩) (iblk m hO c 4 ⟨n + 1, h⟩) (tbl m 0) _ _ _ _ q l
    · rw [outsAt0_B m hO c ⟨n + 1, h⟩ (show ¬((n + 1) % 16 = 0) by omega) h1, ← i1]
      exact bB c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) (ms0_6 m hO ⟨n + 1, h⟩) (hs0_6 m hO ⟨n + 1, h⟩) (ms0_7 m hO ⟨n + 1, h⟩) (hs0_7 m hO ⟨n + 1, h⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun hh => (show ¬((n + 1) % 16 = 0) by omega) ((hcond0_0 ⟨n + 1, h⟩).mp hh)) (fun hh => h1 ((hcond0_1 ⟨n + 1, h⟩).mp hh)) (iblk m hO c 0 ⟨n + 1, h⟩) (iblk m hO c 1 ⟨n + 1, h⟩) (iblk m hO c 2 ⟨n + 1, h⟩) (iblk m hO c 3 ⟨n + 1, h⟩) (iblk m hO c 4 ⟨n + 1, h⟩) (tbl m 0) _ _ _ _ q l

end Cert.KernelIdeal.Gen

end
-- ==== Proof.Spec.lean ====
module

public import proofs.«01_k».proof.Proof.Softmax

@[expose] public section

noncomputable section

namespace Cert.Spec

open Idealize.ShloMosaic Cert.Softmax

/-! # The problem's function on the extended reals

The three results as functions of the eight arguments. -/

/-- The eight arguments: the codes and scales of the teacher's and the student's tokens, the prototypes' codes and gains, the
    centre, and the number of valid tokens of every batch entry. -/
structure In where
  t : Fin 2 → Fin 5 → Fin 128 → Fin 1024 → EReal
  ts : Fin 2 → Fin 5 → Fin 128 → EReal
  s : Fin 3 → Fin 5 → Fin 128 → Fin 1024 → EReal
  ss : Fin 3 → Fin 5 → Fin 128 → EReal
  v : Fin 8192 → Fin 1024 → EReal
  g : Fin 8192 → EReal
  c : Fin 8192 → EReal
  n : Fin 5 → BitVec 32

variable (x : In)

/-- A prototype's norm. -/
def norm (k : Fin 8192) : EReal := Ideal.sqrt (∑ d : Fin 1024, x.v k d * x.v k d)

/-- A prototype's gain over its norm (over one, for a zero prototype). -/
def w (k : Fin 8192) : EReal := Ideal.div (x.g k) (if 0 < norm x k then norm x k else 1)

/-- The teacher's and the student's scores. -/
def tt (i : Fin 2) (b : Fin 5) (s : Fin 128) (k : Fin 8192) : EReal :=
  (∑ d : Fin 1024, x.t i b s d * x.v k d) * x.ts i b s * w x k
def sl (v : Fin 3) (b : Fin 5) (s : Fin 128) (k : Fin 8192) : EReal :=
  (∑ d : Fin 1024, x.s v b s d * x.v k d) * x.ss v b s * w x k

/-- The two logits: the centred teacher score and the student score, each over its temperature. -/
def u (i : Fin 2) (b : Fin 5) (s : Fin 128) (k : Fin 8192) : EReal := (tt x i b s k - x.c k) * ((25 : ℝ) : EReal)
def z (v : Fin 3) (b : Fin 5) (s : Fin 128) (k : Fin 8192) : EReal := sl x v b s k * ((10 : ℝ) : EReal)

/-- The cross entropy of the teacher's softmax against the student's: the logarithm of the student's sum of exponentials less
    the student logits' mean under the teacher's softmax. -/
def ce (i : Fin 2) (v : Fin 3) (b : Fin 5) (s : Fin 128) : EReal :=
  (top (z x v b s) + Ideal.log (esum (z x v b s) fun _ => 1)) - Ideal.div (esum (u x i b s) (z x v b s)) (esum (u x i b s) fun _ => 1)

/-- Token `s` of batch entry `b` is valid. -/
def valid (b : Fin 5) (s : Fin 128) : BitVec 1 := IntOp.cmpi .slt (BitVec.ofNat 32 s.val) (x.n b)

/-- The second result: the loss of every token of every pair of different crops. -/
def row (i : Fin 2) (v : Fin 3) (b : Fin 5) (s : Fin 128) : EReal :=
  if i.val = v.val then 0 else Scalar.select (valid x b s) (ce x i v b s) 0

/-- The number of valid tokens. -/
def ntI (n : Fin 5 → BitVec 32) : BitVec 32 := n 0 + n 1 + n 2 + n 3 + n 4

/-- The means' divisor: the number of valid tokens where it is positive, else one. -/
def NT (n : Fin 5 → BitVec 32) : EReal :=
  if (0 : EReal) < (((ntI n).toInt : ℝ) : EReal) then (((ntI n).toInt : ℝ) : EReal) else 1

/-- The first result: every pair's mean loss. -/
def pair (i : Fin 2) (v : Fin 3) : EReal := Ideal.div (∑ b : Fin 5, ∑ s : Fin 128, row x i v b s) (NT x.n)

/-- The third result: the mean teacher score of every prototype. -/
def centre (k : Fin 8192) : EReal :=
  Ideal.div (∑ i : Fin 2, ∑ b : Fin 5, ∑ s : Fin 128, Scalar.select (valid x b s) (tt x i b s k) 0) (((2 : ℝ) : EReal) * NT x.n)

end Cert.Spec

end
-- ==== Proof.Blocks.lean ====
/- The kernel's input blocks as entries of the arguments. -/
module

public import proofs.«01_k».proof.Proof.Value
public import proofs.«01_k».proof.Proof.Spec
public import Idealize.ShloMosaic.Lib.Pipeline.ValueKit
public import Idealize.ShloMosaic.Lib.StableHlo.ReadAt

@[expose] public section

set_option maxRecDepth 16384

noncomputable section

namespace Cert.KernelIdeal.Gen

open Idealize.ShloMosaic Idealize.ShloMosaic.TcCoe Idealize.ShloMosaic.Tactic Idealize.ShloMosaic.StableHlo
open Idealize.SL.Sem
open Cert.Softmax

variable (m : (ℓ : Loc nD τ sig) → Buf (Elt Ideal) ℓ) (hO : Ok m) (c : Dev nD)

/-- The arguments. -/
def inp : Spec.In where
  t i b s d := (m ((c.tc : Thread nD τ).loc main_arg0) : S2x5x128x1024.Idx → EReal) (ix4 i b s d)
  ts i b s := (m ((c.tc : Thread nD τ).loc main_arg1) : S2x5x128.Idx → EReal) (ix3 i b s)
  s i b s d := (m ((c.tc : Thread nD τ).loc main_arg2) : S3x5x128x1024.Idx → EReal) (ix4 i b s d)
  ss i b s := (m ((c.tc : Thread nD τ).loc main_arg3) : S3x5x128.Idx → EReal) (ix3 i b s)
  v k d := (m ((c.tc : Thread nD τ).loc main_arg4) : S8192x1024.Idx → EReal) (ix2 k d)
  g k := (m ((c.tc : Thread nD τ).loc main_arg5) : S8192.Idx → EReal) (ix1 k)
  c k := (m ((c.tc : Thread nD τ).loc main_arg6) : S8192.Idx → EReal) (ix1 k)
  n b := (m ((c.tc : Thread nD τ).loc main_arg7) : S5.Idx → BitVec 32) (ix1 b)

theorem V_v3 (k : Fin 8192) : (V m c main_v3 : S1x8192.Idx → EReal) (ix2 0 k) = (inp m c).g k := by
  unfold V V0
  after_reads_at
  rfl

theorem V_v4 (k : Fin 8192) : (V m c main_v4 : S1x8192.Idx → EReal) (ix2 0 k) = (inp m c).c k := by
  unfold V V0
  after_reads_at
  rfl

theorem V_v2_t (i : Fin 2) (b : Fin 5) (s : Fin 128) :
    (V m c main_v2 : S5x5x128.Idx → EReal) (ix3 ⟨i.val, by omega⟩ b s) = (inp m c).ts i b s := by
  unfold V V0
  after_reads_at
  rfl

theorem V_v1_t (i : Fin 2) (R : Fin 640) (d : Fin 1024) :
    (V m c main_v1 : S5x640x1024.Idx → EReal) (ix3 ⟨i.val, by omega⟩ R d) = (inp m c).t i (rB R) (rS R) d := by
  unfold V V0
  after_reads_at
  rfl

theorem V_v1_s (i : Fin 3) (R : Fin 640) (d : Fin 1024) :
    (V m c main_v1 : S5x640x1024.Idx → EReal) (ix3 ⟨2 + i.val, by omega⟩ R d) = (inp m c).s i (rB R) (rS R) d := by
  unfold V V0
  after_reads_at
  rfl

theorem V_v2_s (i : Fin 3) (b : Fin 5) (s : Fin 128) :
    (V m c main_v2 : S5x5x128.Idx → EReal) (ix3 ⟨2 + i.val, by omega⟩ b s) = (inp m c).ss i b s := by
  unfold V V0
  after_reads_at
  rfl

theorem coord0 (t : Fin grid0.N) : cc0_transform_0 (grid0.coords t) = ![0, 0, 0] := by
  revert t; decide +kernel

theorem coord1 (t : Fin grid0.N) : cc0_transform_1 (grid0.coords t) = ![0, 0, 0] := by
  revert t; decide +kernel

theorem coord2 (t : Fin grid0.N) : cc0_transform_2 (grid0.coords t) = ![t.val, 0] := by
  revert t; decide +kernel

theorem coord3 (t : Fin grid0.N) : cc0_transform_3 (grid0.coords t) = ![0, t.val] := by
  revert t; decide +kernel

theorem coord4 (t : Fin grid0.N) : cc0_transform_4 (grid0.coords t) = ![0, t.val] := by
  revert t; decide +kernel

theorem coord7 (t : Fin grid0.N) : cc0_transform_7 (grid0.coords t) = ![0, t.val] := by
  revert t; decide +kernel

theorem emb0 (t : Fin (cfgM m hO).N) (i : Fin 5) (R : Fin 640) (d : Fin 1024) :
    ((((cfgM m hO).win 0).blk t).view.emb (ix3 i R d : S5x640x1024.Idx) : S5x640x1024.Idx) = ix3 i R d := by
  have ht : t.val < 16 := lt_of_lt_of_eq t.isLt (N_0 : (cfgM m hO).N = 16)
  funext b
  apply Fin.ext
  refine (Pipeline.Window.rect_emb_val ((cfgM m hO).win 0) t (ix3 i R d : S5x640x1024.Idx) b).trans ?_
  match b with
  | ⟨0, _⟩ =>
    show cc0_transform_0 (grid0.coords t) 0 * 5 + i.val = i.val
    rw [coord0]
    show 0 * 5 + i.val = _
    omega
  | ⟨1, _⟩ =>
    show cc0_transform_0 (grid0.coords t) 1 * 640 + R.val = R.val
    rw [coord0]
    show 0 * 640 + R.val = _
    omega
  | ⟨2, _⟩ =>
    show cc0_transform_0 (grid0.coords t) 2 * 1024 + d.val = d.val
    rw [coord0]
    show 0 * 1024 + d.val = _
    omega

theorem emb1 (t : Fin (cfgM m hO).N) (i : Fin 5) (R : Fin 5) (d : Fin 128) :
    ((((cfgM m hO).win 1).blk t).view.emb (ix3 i R d : S5x5x128.Idx) : S5x5x128.Idx) = ix3 i R d := by
  have ht : t.val < 16 := lt_of_lt_of_eq t.isLt (N_0 : (cfgM m hO).N = 16)
  funext b
  apply Fin.ext
  refine (Pipeline.Window.rect_emb_val ((cfgM m hO).win 1) t (ix3 i R d : S5x5x128.Idx) b).trans ?_
  match b with
  | ⟨0, _⟩ =>
    show cc0_transform_1 (grid0.coords t) 0 * 5 + i.val = i.val
    rw [coord1]
    show 0 * 5 + i.val = _
    omega
  | ⟨1, _⟩ =>
    show cc0_transform_1 (grid0.coords t) 1 * 5 + R.val = R.val
    rw [coord1]
    show 0 * 5 + R.val = _
    omega
  | ⟨2, _⟩ =>
    show cc0_transform_1 (grid0.coords t) 2 * 128 + d.val = d.val
    rw [coord1]
    show 0 * 128 + d.val = _
    omega

theorem emb2 (t : Fin (cfgM m hO).N) (a : Fin 512) (d : Fin 1024) :
    ((((cfgM m hO).win 2).blk t).view.emb (ix2 a d : S512x1024.Idx) : S8192x1024.Idx) = ix2 (Fin.ofNat 8192 (512 * t.val + a.val)) d := by
  have ht : t.val < 16 := lt_of_lt_of_eq t.isLt (N_0 : (cfgM m hO).N = 16)
  funext b
  apply Fin.ext
  refine (Pipeline.Window.rect_emb_val ((cfgM m hO).win 2) t (ix2 a d : S512x1024.Idx) b).trans ?_
  match b with
  | ⟨0, _⟩ =>
    show cc0_transform_2 (grid0.coords t) 0 * 512 + a.val = (512 * t.val + a.val) % 8192
    rw [coord2]
    show t.val * 512 + a.val = _
    omega
  | ⟨1, _⟩ =>
    show cc0_transform_2 (grid0.coords t) 1 * 1024 + d.val = d.val
    rw [coord2]
    show 0 * 1024 + d.val = _
    omega

theorem emb3 (t : Fin (cfgM m hO).N) (a : Fin 512) :
    ((((cfgM m hO).win 3).blk t).view.emb (ix2 0 a : S1x512.Idx) : S1x8192.Idx) = ix2 0 (Fin.ofNat 8192 (512 * t.val + a.val)) := by
  have ht : t.val < 16 := lt_of_lt_of_eq t.isLt (N_0 : (cfgM m hO).N = 16)
  funext b
  apply Fin.ext
  refine (Pipeline.Window.rect_emb_val ((cfgM m hO).win 3) t (ix2 0 a : S1x512.Idx) b).trans ?_
  match b with
  | ⟨0, _⟩ =>
    show cc0_transform_3 (grid0.coords t) 0 * 1 + (0 : Fin 1).val = 0
    rw [coord3]
    show 0 * 1 + (0 : Fin 1).val = _
    omega
  | ⟨1, _⟩ =>
    show cc0_transform_3 (grid0.coords t) 1 * 512 + a.val = (512 * t.val + a.val) % 8192
    rw [coord3]
    show t.val * 512 + a.val = _
    omega

theorem emb4 (t : Fin (cfgM m hO).N) (a : Fin 512) :
    ((((cfgM m hO).win 4).blk t).view.emb (ix2 0 a : S1x512.Idx) : S1x8192.Idx) = ix2 0 (Fin.ofNat 8192 (512 * t.val + a.val)) := by
  have ht : t.val < 16 := lt_of_lt_of_eq t.isLt (N_0 : (cfgM m hO).N = 16)
  funext b
  apply Fin.ext
  refine (Pipeline.Window.rect_emb_val ((cfgM m hO).win 4) t (ix2 0 a : S1x512.Idx) b).trans ?_
  match b with
  | ⟨0, _⟩ =>
    show cc0_transform_4 (grid0.coords t) 0 * 1 + (0 : Fin 1).val = 0
    rw [coord4]
    show 0 * 1 + (0 : Fin 1).val = _
    omega
  | ⟨1, _⟩ =>
    show cc0_transform_4 (grid0.coords t) 1 * 512 + a.val = (512 * t.val + a.val) % 8192
    rw [coord4]
    show t.val * 512 + a.val = _
    omega

theorem emb7 (t : Fin (cfgM m hO).N) (a : Fin 512) :
    ((((cfgM m hO).win 7).blk t).view.emb (ix2 0 a : S1x512.Idx) : S1x8192.Idx) = ix2 0 (Fin.ofNat 8192 (512 * t.val + a.val)) := by
  have ht : t.val < 16 := lt_of_lt_of_eq t.isLt (N_0 : (cfgM m hO).N = 16)
  funext b
  apply Fin.ext
  refine (Pipeline.Window.rect_emb_val ((cfgM m hO).win 7) t (ix2 0 a : S1x512.Idx) b).trans ?_
  match b with
  | ⟨0, _⟩ =>
    show cc0_transform_7 (grid0.coords t) 0 * 1 + (0 : Fin 1).val = 0
    rw [coord7]
    show 0 * 1 + (0 : Fin 1).val = _
    omega
  | ⟨1, _⟩ =>
    show cc0_transform_7 (grid0.coords t) 1 * 512 + a.val = (512 * t.val + a.val) % 8192
    rw [coord7]
    show t.val * 512 + a.val = _
    omega

theorem read0 (W : (b : Ref sig .tc) → Buf (Elt Ideal) ((c.tc : Thread nD τ).loc b)) (t : Fin (cfgM m hO).N) (i : Fin 5) (R : Fin 640) (d : Fin 1024) :
    ((((cfgM m hO).win 0).blk t).view.read (Elt Ideal) (W (Pipeline.arrRef spec0 0)) : S5x640x1024.Idx → EReal) (ix3 i R d) = (W main_v1 : S5x640x1024.Idx → EReal) (ix3 i R d) :=
  congrArg (W main_v1 : S5x640x1024.Idx → EReal) (emb0 m hO t i R d)

theorem iblk0 (t : Fin (cfgM m hO).N) (i : Fin 5) (R : Fin 640) (d : Fin 1024) :
    (iblk m hO c 0 t : S5x640x1024.Idx → EReal) (ix3 i R d) = (V m c main_v1 : S5x640x1024.Idx → EReal) (ix3 i R d) := by
  unfold iblk
  exact read0 m hO c (V m c) t i R d

theorem iblk0_t (t : Fin (cfgM m hO).N) (i : Fin 2) (R : Fin 640) (d : Fin 1024) :
    (iblk m hO c 0 t : S5x640x1024.Idx → EReal) (ix3 ⟨i.val, by omega⟩ R d) = (inp m c).t i (rB R) (rS R) d :=
  (iblk0 m hO c t ⟨i.val, by omega⟩ R d).trans (V_v1_t m c i R d)

theorem iblk0_s (t : Fin (cfgM m hO).N) (i : Fin 3) (R : Fin 640) (d : Fin 1024) :
    (iblk m hO c 0 t : S5x640x1024.Idx → EReal) (ix3 ⟨2 + i.val, by omega⟩ R d) = (inp m c).s i (rB R) (rS R) d :=
  (iblk0 m hO c t ⟨2 + i.val, by omega⟩ R d).trans (V_v1_s m c i R d)

theorem iblk1_t (t : Fin (cfgM m hO).N) (i : Fin 2) (b : Fin 5) (s : Fin 128) :
    (iblk m hO c 1 t : S5x5x128.Idx → EReal) (ix3 ⟨i.val, by omega⟩ b s) = (inp m c).ts i b s := by
  show (V m c main_v2 : S5x5x128.Idx → EReal) ((((cfgM m hO).win 1).blk t).view.emb (ix3 ⟨i.val, by omega⟩ b s : S5x5x128.Idx) : S5x5x128.Idx) = _
  rw [emb1, V_v2_t]

theorem iblk1_s (t : Fin (cfgM m hO).N) (i : Fin 3) (b : Fin 5) (s : Fin 128) :
    (iblk m hO c 1 t : S5x5x128.Idx → EReal) (ix3 ⟨2 + i.val, by omega⟩ b s) = (inp m c).ss i b s := by
  show (V m c main_v2 : S5x5x128.Idx → EReal) ((((cfgM m hO).win 1).blk t).view.emb (ix3 ⟨2 + i.val, by omega⟩ b s : S5x5x128.Idx) : S5x5x128.Idx) = _
  rw [emb1, V_v2_s]

theorem iblk2 (t : Fin (cfgM m hO).N) (a : Fin 512) (d : Fin 1024) :
    (iblk m hO c 2 t : S512x1024.Idx → EReal) (ix2 a d) = (inp m c).v (Fin.ofNat 8192 (512 * t.val + a.val)) d := by
  show (V m c main_arg4 : S8192x1024.Idx → EReal) ((((cfgM m hO).win 2).blk t).view.emb (ix2 a d : S512x1024.Idx) : S8192x1024.Idx) = _
  rw [emb2, V_main_arg4]
  rfl

theorem iblk3 (t : Fin (cfgM m hO).N) (a : Fin 512) :
    (iblk m hO c 3 t : S1x512.Idx → EReal) (ix2 0 a) = (inp m c).g (Fin.ofNat 8192 (512 * t.val + a.val)) := by
  show (V m c main_v3 : S1x8192.Idx → EReal) ((((cfgM m hO).win 3).blk t).view.emb (ix2 0 a : S1x512.Idx) : S1x8192.Idx) = _
  rw [emb3, V_v3]

theorem iblk4 (t : Fin (cfgM m hO).N) (a : Fin 512) :
    (iblk m hO c 4 t : S1x512.Idx → EReal) (ix2 0 a) = (inp m c).c (Fin.ofNat 8192 (512 * t.val + a.val)) := by
  show (V m c main_v4 : S1x8192.Idx → EReal) ((((cfgM m hO).win 4).blk t).view.emb (ix2 0 a : S1x512.Idx) : S1x8192.Idx) = _
  rw [emb4, V_v4]

theorem wholeAt5 : ((cfgM m hO).win 5).WholeAt t0_15 := by
  refine ⟨(flush0_5 (adm m hO) t0_15).2 rfl, fun t hf => ?_, fun a => ?_⟩
  · have h := (flush0_5 (adm m hO) t).1 hf
    have ht : t.val < 16 := lt_of_lt_of_eq t.isLt (N_0 : (cfgM m hO).N = 16)
    exact Fin.ext (show t.val = 15 by omega)
  · match a with
    | ⟨0, _⟩ => exact ⟨rfl, rfl⟩
    | ⟨1, _⟩ => exact ⟨rfl, rfl⟩

theorem wholeAt6 : ((cfgM m hO).win 6).WholeAt t0_15 := by
  refine ⟨(flush0_6 (adm m hO) t0_15).2 rfl, fun t hf => ?_, fun a => ?_⟩
  · have h := (flush0_6 (adm m hO) t).1 hf
    have ht : t.val < 16 := lt_of_lt_of_eq t.isLt (N_0 : (cfgM m hO).N = 16)
    exact Fin.ext (show t.val = 15 by omega)
  · match a with
    | ⟨0, _⟩ => exact ⟨rfl, rfl⟩
    | ⟨1, _⟩ => exact ⟨rfl, rfl⟩
    | ⟨2, _⟩ => exact ⟨rfl, rfl⟩
    | ⟨3, _⟩ => exact ⟨rfl, rfl⟩

end Cert.KernelIdeal.Gen

end
-- ==== Proof.Entropy.lean ====
/-
  The cross entropy read off a running base-2 softmax is the natural one, and the sums over a column's lanes are the sums
  over all its entries. No program here.
-/
module

public import proofs.«01_k».proof.Proof.Softmax

@[expose] public section

noncomputable section

namespace Cert.Softmax

open Idealize.ShloMosaic

/-! ## Sums and maxima by lanes -/

/-- The column that lane `l` meets in place `k`. -/
def colN (l : Fin 128) (k : ℕ) : Fin 8192 := Fin.ofNat 8192 (128 * k + l.val)

/-- A sum by lanes is the sum over the columns. -/
theorem sum_lanes (f : Fin 8192 → EReal) : ∑ l : Fin 128, ∑ k ∈ Finset.range 64, f (colN l k) = ∑ j, f j := by
  rw [← Equiv.sum_comp (finProdFinEquiv (m := 64) (n := 128)) f, Fintype.sum_prod_type, Finset.sum_comm]
  refine (Finset.sum_congr rfl fun k hk => Finset.sum_congr rfl fun l _ => rfl).trans
    (Finset.sum_range (fun k => ∑ l : Fin 128, f (colN l k))) |>.trans (Finset.sum_congr rfl fun k _ => Finset.sum_congr rfl fun l _ => congrArg f (Fin.ext ?_))
  show (128 * k.val + l.val) % 8192 = l.val + 128 * k.val
  omega

/-- Every column is some lane's. -/
theorem col_lane (j : Fin 8192) : ∃ (l : Fin 128) (k : ℕ), k < 64 ∧ j = colN l k :=
  ⟨⟨j.val % 128, by omega⟩, j.val / 128, by omega, Fin.ext (by show j.val = (128 * (j.val / 128) + j.val % 128) % 8192; omega)⟩

/-- The maximum by lanes is the maximum over the columns. -/
theorem top_lanes (f : Fin 8192 → EReal) : (top fun l : Fin 128 => (Finset.range 64).sup fun k => f (colN l k)) = top f := by
  refine le_antisymm (Finset.sup_le fun l _ => Finset.sup_le fun k _ => Finset.le_sup (Finset.mem_univ _)) (Finset.sup_le fun j _ => ?_)
  obtain ⟨l, k, hk, rfl⟩ := col_lane j
  exact (Finset.le_sup (f := fun k => f (colN l k)) (Finset.mem_range.mpr hk)).trans
    (Finset.le_sup (f := fun l : Fin 128 => (Finset.range 64).sup fun k => f (colN l k)) (Finset.mem_univ l))

/-! ## Base two against base e -/

/-- The base-2 logarithm of `e`. -/
abbrev kap : ℝ := (Real.log 2)⁻¹

theorem log2_pos : 0 < Real.log 2 := Real.log_pos (by norm_num)
theorem kap_pos : 0 < kap := inv_pos.mpr log2_pos

theorem exp2_kap (x : EReal) : Ideal.exp2 (x * (kap : EReal)) = Ideal.exp x := by
  induction x with
  | bot => rw [EReal.bot_mul_coe_of_pos kap_pos]; rfl
  | top => rw [EReal.top_mul_coe_of_pos kap_pos]; rfl
  | coe x =>
    rw [← EReal.coe_mul, Ideal.exp2_coe, Ideal.exp_coe]
    congr 1
    refine (Real.rpow_def_of_pos (by norm_num) _).trans (congrArg Real.exp ?_)
    have := log2_pos.ne'
    simp only [kap]
    field_simp

variable {ι : Type} [Fintype ι]

/-- At a real maximum, the base-2 sum is the natural one times one positive real, whatever the weights. -/
theorem bsum_eq [Nonempty ι] (lo : ℝ) (z : ι → EReal) {t : ℝ} (ht : top z = (t : EReal)) :
    ∃ b : ℝ, max (lo : EReal) (top fun k => z k * (kap : EReal)) = ((b * kap : ℝ) : EReal)
      ∧ ∀ w, bsum lo (fun k => z k * (kap : EReal)) w = esum z w * ((Real.exp (t - b) : ℝ) : EReal) := by
  have hk := kap_pos
  refine ⟨max (lo / kap) t, ?_, fun w => ?_⟩
  · rw [top_mul z hk, ht, ← EReal.coe_mul, max_mul_of_nonneg _ _ hk.le, div_mul_cancel₀ _ hk.ne']
    exact (EReal.coe_strictMono.monotone.map_max).symm
  · have hm : max (lo : EReal) (top fun k => z k * (kap : EReal)) = ((max (lo / kap) t : ℝ) : EReal) * (kap : EReal) := by
      rw [top_mul z hk, ht, ← EReal.coe_mul, ← EReal.coe_mul, max_mul_of_nonneg _ _ hk.le, div_mul_cancel₀ _ hk.ne']
      exact (EReal.coe_strictMono.monotone.map_max).symm
    unfold bsum esum
    rw [sum_mul_real _ _ (Real.exp_pos _).le]
    refine Finset.sum_congr rfl fun k _ => ?_
    rw [hm, ← sub_mul_real hk.le, exp2_kap, mul_right_comm]
    congr 1
    have hz : z k ≤ (t : EReal) := ht ▸ le_top z k
    rw [ht]
    cases hzk : z k with
    | bot => rw [bot_sub, bot_sub]; simp
    | top => exact absurd (top_le_iff.mp (hzk ▸ hz)) (EReal.coe_ne_top t)
    | coe y =>
      rw [← EReal.coe_sub, ← EReal.coe_sub, Ideal.exp_coe, Ideal.exp_coe, ← EReal.coe_mul, ← Real.exp_add]
      congr 2
      ring

/-- At a real maximum the natural sum is a positive real. -/
theorem esum_one [Nonempty ι] (z : ι → EReal) {t : ℝ} (ht : top z = (t : EReal)) : ∃ s : ℝ, 0 < s ∧ esum z (fun _ => 1) = (s : EReal) := by
  have h : ∀ k, ∃ r : ℝ, 0 ≤ r ∧ Ideal.exp (z k - top z) * 1 = (r : EReal) ∧ (z k = (t : EReal) → 0 < r) := fun k => by
    have hz : z k ≤ (t : EReal) := ht ▸ le_top z k
    rw [ht]
    cases hzk : z k with
    | bot => exact ⟨0, le_rfl, by rw [bot_sub]; simp, fun h => absurd h (EReal.bot_ne_coe t)⟩
    | top => exact absurd (top_le_iff.mp (hzk ▸ hz)) (EReal.coe_ne_top t)
    | coe y => exact ⟨Real.exp (y - t), (Real.exp_pos _).le, by rw [← EReal.coe_sub, Ideal.exp_coe, mul_one], fun _ => Real.exp_pos _⟩
  choose r h0 h1 h2 using h
  obtain ⟨k, _, hk⟩ := Finset.exists_mem_eq_sup Finset.univ Finset.univ_nonempty z
  refine ⟨∑ k, r k, Finset.sum_pos' (fun k _ => h0 k) ⟨k, Finset.mem_univ k, h2 k (hk.symm.trans ht)⟩, ?_⟩
  unfold esum
  rw [Finset.sum_congr rfl fun k _ => h1 k]
  exact (map_sum (⟨⟨fun x : ℝ => (x : EReal), EReal.coe_zero⟩, EReal.coe_add⟩ : ℝ →+ EReal) r Finset.univ).symm

theorem cases_top (z : ι → EReal) : (top z = ⊥ ∨ top z = ⊤) ∨ ∃ t : ℝ, top z = (t : EReal) := by
  cases h : top z with
  | bot => exact .inl (.inl rfl)
  | top => exact .inl (.inr rfl)
  | coe t => exact .inr ⟨t, rfl⟩

theorem inf_mul_kap {x : EReal} (h : x = ⊥ ∨ x = ⊤) : x * (kap : EReal) = x := by
  rcases h with rfl | rfl
  · exact EReal.bot_mul_coe_of_pos kap_pos
  · exact EReal.top_mul_coe_of_pos kap_pos

theorem log_zero : Ideal.log 0 = ⊥ := by
  rw [← EReal.coe_zero, Ideal.log_coe, if_pos le_rfl]

theorem div_zero_zero : Ideal.div 0 0 = ⊥ := by simp [Ideal.div]

/-- The logarithm of the sum of exponentials, in base two. -/
theorem lse_eq [Nonempty ι] (lo : ℝ) (z : ι → EReal) :
    max (lo : EReal) (top fun k => z k * (kap : EReal)) + Ideal.log (bsum lo (fun k => z k * (kap : EReal)) fun _ => 1) * (kap : EReal)
      = (top z + Ideal.log (esum z fun _ => 1)) * (kap : EReal) := by
  rcases cases_top z with h | ⟨t, ht⟩
  · have h' : (top fun k => z k * (kap : EReal)) = ⊥ ∨ (top fun k => z k * (kap : EReal)) = ⊤ := by
      rw [top_mul z kap_pos, inf_mul_kap h]; exact h
    rw [bsum_of_inf _ _ _ h', esum_of_inf _ _ h, log_zero, EReal.bot_mul_coe_of_pos kap_pos, EReal.add_bot, EReal.add_bot, EReal.bot_mul_coe_of_pos kap_pos]
  · obtain ⟨b, h1, h2⟩ := bsum_eq lo z ht
    obtain ⟨s, hs, h3⟩ := esum_one z ht
    rw [h1, h2, h3, ht, ← EReal.coe_mul, Ideal.log_coe, Ideal.log_coe, if_neg (not_le.mpr (mul_pos hs (Real.exp_pos _))), if_neg (not_le.mpr hs),
      ← EReal.coe_mul, ← EReal.coe_add, ← EReal.coe_add, ← EReal.coe_mul, Real.log_mul hs.ne' (Real.exp_pos _).ne', Real.log_exp]
    congr 1
    ring

/-- The mean under the softmax, in base two. -/
theorem mean_eq [Nonempty ι] (lo : ℝ) (u z : ι → EReal) :
    Ideal.div (bsum lo (fun k => u k * (kap : EReal)) fun k => z k * (kap : EReal)) (bsum lo (fun k => u k * (kap : EReal)) fun _ => 1)
      = Ideal.div (esum u z) (esum u fun _ => 1) * (kap : EReal) := by
  rcases cases_top u with h | ⟨t, ht⟩
  · have h' : (top fun k => u k * (kap : EReal)) = ⊥ ∨ (top fun k => u k * (kap : EReal)) = ⊤ := by
      rw [top_mul u kap_pos, inf_mul_kap h]; exact h
    rw [bsum_of_inf _ _ _ h', bsum_of_inf _ _ _ h', esum_of_inf _ _ h, esum_of_inf _ _ h, div_zero_zero, EReal.bot_mul_coe_of_pos kap_pos]
  · obtain ⟨b, h1, h2⟩ := bsum_eq lo u ht
    obtain ⟨s, hs, h3⟩ := esum_one u ht
    have e : esum u (fun k => z k * (kap : EReal)) = esum u z * (kap : EReal) := by
      unfold esum
      rw [sum_mul_real _ _ kap_pos.le]
      exact Finset.sum_congr rfl fun k _ => (mul_assoc _ _ _).symm
    have hr := Real.exp_pos (t - b)
    rw [h2, h2, h3, e, ← EReal.coe_mul, Ideal.div_coe (mul_pos hs hr).ne', Ideal.div_coe hs.ne', mul_assoc, mul_assoc, mul_assoc,
      ← EReal.coe_mul, ← EReal.coe_mul, ← EReal.coe_mul]
    congr 2
    have := hr.ne'
    have := hs.ne'
    field_simp

/-- THE CROSS ENTROPY: from the base-2 sums of the base-2 logits, the natural cross entropy. -/
theorem ce_eq [Nonempty ι] (lo : ℝ) (u z : ι → EReal) :
    ((Real.log 2 : ℝ) : EReal) * ((max (lo : EReal) (top fun k => z k * (kap : EReal))
        + Ideal.log (bsum lo (fun k => z k * (kap : EReal)) fun _ => 1) * (kap : EReal))
      - Ideal.div (bsum lo (fun k => u k * (kap : EReal)) fun k => z k * (kap : EReal)) (bsum lo (fun k => u k * (kap : EReal)) fun _ => 1))
      = (top z + Ideal.log (esum z fun _ => 1)) - Ideal.div (esum u z) (esum u fun _ => 1) := by
  rw [lse_eq, mean_eq, ← sub_mul_real kap_pos.le, mul_comm, mul_assoc, ← EReal.coe_mul, inv_mul_cancel₀ log2_pos.ne', EReal.coe_one, mul_one]

end Cert.Softmax

end
-- ==== Proof.Scores.lean ====
/- The kernel's running quantities as the problem's scores. -/
module

public import proofs.«01_k».proof.Proof.Blocks
public import proofs.«01_k».proof.Proof.Entropy

@[expose] public section

set_option maxRecDepth 16384

noncomputable section

namespace Cert.KernelIdeal.Gen

open Idealize.ShloMosaic Idealize.ShloMosaic.TcCoe Idealize.ShloMosaic.Tactic Idealize.ShloMosaic.StableHlo
open Cert.Softmax

/-- A sum over 1024 entries, as 128 lanes of eight. -/
theorem sum_chunks (f : Fin 1024 → EReal) :
    ∑ x : Fin 128, (((((((f ⟨128 * (0 : Fin 8).val + x.val, by omega⟩ + f ⟨128 * (1 : Fin 8).val + x.val, by omega⟩) + f ⟨128 * (2 : Fin 8).val + x.val, by omega⟩) + f ⟨128 * (3 : Fin 8).val + x.val, by omega⟩)
      + f ⟨128 * (4 : Fin 8).val + x.val, by omega⟩) + f ⟨128 * (5 : Fin 8).val + x.val, by omega⟩) + f ⟨128 * (6 : Fin 8).val + x.val, by omega⟩) + f ⟨128 * (7 : Fin 8).val + x.val, by omega⟩) = ∑ d, f d := by
  rw [← Equiv.sum_comp (finProdFinEquiv (m := 8) (n := 128)) f, Fintype.sum_prod_type, Finset.sum_comm]
  refine Finset.sum_congr rfl fun x _ => ?_
  rw [Fin.sum_univ_eight]
  have h : ∀ k : Fin 8, finProdFinEquiv (m := 8) (n := 128) (k, x) = (⟨128 * k.val + x.val, by omega⟩ : Fin 1024) := fun k =>
    Fin.ext (Nat.add_comm _ _)
  simp only [h]

/-- A sum over the 640 rows, as the kernel's 80 trips of eight. -/
theorem sum_rows (f : Fin 640 → EReal) :
    ∑ r : Fin 8, ∑ k ∈ Finset.range 80, f (rowN k r) = ∑ b : Fin 5, ∑ s : Fin 128, f (row b s) := by
  have h1 : ∑ r : Fin 8, ∑ k ∈ Finset.range 80, f (rowN k r) = ∑ R, f R := by
    rw [← Equiv.sum_comp (finProdFinEquiv (m := 80) (n := 8)) f, Fintype.sum_prod_type, Finset.sum_comm]
    refine (Finset.sum_range (fun k => ∑ r : Fin 8, f (rowN k r))).trans
      (Finset.sum_congr rfl fun k _ => Finset.sum_congr rfl fun r _ => congrArg f (Fin.ext ?_))
    rw [rowN_val k.isLt]
    exact Nat.add_comm _ _
  have h2 : ∑ b : Fin 5, ∑ s : Fin 128, f (row b s) = ∑ R, f R := by
    rw [← Equiv.sum_comp (finProdFinEquiv (m := 5) (n := 128)) f, Fintype.sum_prod_type]
    exact Finset.sum_congr rfl fun b _ => Finset.sum_congr rfl fun s _ => congrArg f (Fin.ext (Nat.add_comm _ _))
  rw [h1, h2]

variable (m : (ℓ : Loc nD τ sig) → Buf (Elt Ideal) ℓ) (hO : Ok m) (c : Dev nD)

/-- The prototype at column `j` of point `t`'s tile. -/
def proto (t : Fin (cfgM m hO).N) (j : Fin 512) : Fin 8192 := Fin.ofNat 8192 (512 * t.val + j.val)

theorem nrm_eq (t : Fin (cfgM m hO).N) (j : Fin 512) : nrm (iblk m hO c 2 t) j = Spec.norm (inp m c) (proto m hO t j) := by
  unfold nrm Spec.norm
  refine congrArg Ideal.sqrt ?_
  rw [← sum_chunks fun d => (inp m c).v (proto m hO t j) d * (inp m c).v (proto m hO t j) d]
  have h : ∀ (x : Fin 128) (k : Fin 8), nrm.sq (iblk m hO c 2 t) j x k
      = (inp m c).v (proto m hO t j) ⟨128 * k.val + x.val, by omega⟩ * (inp m c).v (proto m hO t j) ⟨128 * k.val + x.val, by omega⟩ :=
    fun x k => congrArg₂ (fun a b : EReal => a * b) (iblk2 m hO c t j _) (iblk2 m hO c t j _)
  simp only [h]

theorem WV_eq (t : Fin (cfgM m hO).N) (j : Fin 512) :
    WV (iblk m hO c 2 t) (iblk m hO c 3 t) (ix2 0 j) = Spec.w (inp m c) (proto m hO t j) := by
  have h3 := iblk3 m hO c t j
  have h2 := nrm_eq m hO c t j
  show Ideal.div ((iblk m hO c 3 t : S1x512.Idx → EReal) (ix2 0 j)) (if 0 < nrm (iblk m hO c 2 t) j then nrm (iblk m hO c 2 t) j else 1) = _
  rw [h3, h2]
  rfl

theorem XV_t (t : Fin (cfgM m hO).N) (i : Fin 2) (R : Fin 640) (j : Fin 512) :
    XV (iblk m hO c 0 t) (iblk m hO c 2 t) (ix3 ⟨i.val, by omega⟩ R j)
      = ∑ d : Fin 1024, (inp m c).t i (rB R) (rS R) d * (inp m c).v (proto m hO t j) d :=
  Finset.sum_congr rfl fun d _ => congrArg₂ (fun a b : EReal => a * b) (iblk0_t m hO c t i R d) (iblk2 m hO c t j d)

theorem XV_s (t : Fin (cfgM m hO).N) (i : Fin 3) (R : Fin 640) (j : Fin 512) :
    XV (iblk m hO c 0 t) (iblk m hO c 2 t) (ix3 ⟨2 + i.val, by omega⟩ R j)
      = ∑ d : Fin 1024, (inp m c).s i (rB R) (rS R) d * (inp m c).v (proto m hO t j) d :=
  Finset.sum_congr rfl fun d _ => congrArg₂ (fun a b : EReal => a * b) (iblk0_s m hO c t i R d) (iblk2 m hO c t j d)

theorem NV_eq : NV (c := c) (tbl m 0) = (inp m c).n := by
  obtain rfl : c = 0 := Subsingleton.elim _ _
  rfl

theorem sS_t (i : Fin 2) (b : Fin 5) (s l : Fin 128) :
    sS m hO c (ix3 ⟨i.val, by omega⟩ (row b s) l)
      = Scalar.select (Spec.valid (inp m c) b s) ((inp m c).ts i b s * ((kap * 25 : ℝ) : EReal)) 0 := by
  refine (SV_row (iblk m hO c 1 (pt m hO 0)) (NV (c := c) (tbl m 0)) ⟨i.val, by omega⟩ b s l).trans ?_
  unfold sv
  rw [if_pos i.isLt, iblk1_t, NV_eq]
  rfl

theorem sS_s (v : Fin 3) (b : Fin 5) (s l : Fin 128) :
    sS m hO c (ix3 ⟨2 + v.val, by omega⟩ (row b s) l) = (inp m c).ss v b s * ((kap * 10 : ℝ) : EReal) := by
  refine (SV_row (iblk m hO c 1 (pt m hO 0)) (NV (c := c) (tbl m 0)) ⟨2 + v.val, by omega⟩ b s l).trans ?_
  unfold sv
  rw [if_neg (Nat.not_lt.mpr (Nat.le_add_right 2 v.val)), iblk1_s]

/-- The column a lane meets at its `k`-th score. -/
theorem proto_col (l : Fin 128) (k : ℕ) (hk : k < 64) : proto m hO (pt m hO (k / 4)) (col (Fin.ofNat 4 k) l) = colN l k := by
  apply Fin.ext
  show (512 * (k / 4 % 16) + (128 * (k % 4) + l.val)) % 8192 = (128 * k + l.val) % 8192
  omega

theorem yk_t (t : Fin (cfgM m hO).N) (i : Fin 2) (b : Fin 5) (s : Fin 128) (q : Fin 4) (l : Fin 128) :
    yk (XV (iblk m hO c 0 t) (iblk m hO c 2 t)) (sS m hO c) (WV (iblk m hO c 2 t) (iblk m hO c 3 t)) ⟨i.val, by omega⟩ (row b s) q l
      = Scalar.select (Spec.valid (inp m c) b s) (Spec.tt (inp m c) i b s (proto m hO t (col q l))) 0 * ((kap * 25 : ℝ) : EReal) := by
  unfold yk Spec.tt
  rw [XV_t, WV_eq, sS_t, rB_row, rS_row]
  unfold Scalar.select
  split
  · ac_rfl
  · rw [mul_zero, zero_mul]

theorem zS_t (i : Fin 2) (b : Fin 5) (s : Fin 128) (hv : Spec.valid (inp m c) b s = 1#1) (l : Fin 128) (k : ℕ) (hk : k < 64) :
    zS m hO c ⟨i.val, by omega⟩ (row b s) l k = Spec.u (inp m c) i b s (colN l k) * (kap : EReal) := by
  unfold zS zP zk
  rw [if_pos i.isLt, yk_t, iblk4, proto_col m hO l k hk]
  rw [show Fin.ofNat 8192 (512 * (pt m hO (k / 4)).val + (col (Fin.ofNat 4 k) l).val) = colN l k from proto_col m hO l k hk]
  rw [hv]
  show Spec.tt (inp m c) i b s (colN l k) * ((kap * 25 : ℝ) : EReal) - (inp m c).c (colN l k) * ((kap * 25 : ℝ) : EReal) = _
  rw [← sub_mul_real (by have := kap_pos; positivity), mul_comm kap, EReal.coe_mul, ← mul_assoc]
  rfl

theorem zS_s (v : Fin 3) (b : Fin 5) (s : Fin 128) (l : Fin 128) (k : ℕ) (hk : k < 64) :
    zS m hO c ⟨2 + v.val, by omega⟩ (row b s) l k = Spec.z (inp m c) v b s (colN l k) * (kap : EReal) := by
  unfold zS zP zk
  rw [if_neg (Nat.not_lt.mpr (Nat.le_add_right 2 v.val))]
  unfold yk
  rw [XV_s, WV_eq, sS_s, rB_row, rS_row, proto_col m hO l k hk, mul_comm kap, EReal.coe_mul]
  unfold Spec.z Spec.sl
  ac_rfl

end Cert.KernelIdeal.Gen

end
-- ==== Proof.Results.lean ====
/- The kernel's last values as the problem's results. -/
module

public import proofs.«01_k».proof.Proof.Scores
public import proofs.«01_k».proof.Proof.Last

@[expose] public section

set_option maxRecDepth 16384

noncomputable section

namespace Cert.KernelIdeal.Gen

open Idealize.ShloMosaic Idealize.ShloMosaic.TcCoe Idealize.ShloMosaic.Tactic Idealize.ShloMosaic.StableHlo
open Cert.Softmax

theorem lo_real : lo = ((-(13234890 * 2 ^ 76) : ℝ) : EReal) := by
  unfold lo
  simp [Ideal.ofBits, Ideal.ieee]

/-- The largest of the lanes' maxima is the largest score. -/
theorem lanes_top (zz : Fin 128 → ℕ → EReal) (Z : Fin 8192 → EReal) (hz : ∀ l k, k < 64 → zz l k = Z (colN l k)) :
    (top fun l => mx lo (zz l) 64) = max lo (top Z) := by
  rw [top_mx, ← top_lanes Z]
  refine congrArg (max lo) (congrArg top (funext fun l => ?_))
  exact Finset.sup_congr rfl fun k hk => hz l k (Finset.mem_range.mp hk)

/-- The lanes' weighted sums, brought to the largest maximum, add up to the sum over all columns. -/
theorem lanes_bsum (zz ww : Fin 128 → ℕ → EReal) (Z W : Fin 8192 → EReal) (hz : ∀ l k, k < 64 → zz l k = Z (colN l k))
    (hw : ∀ l k, k < 64 → ww l k = W (colN l k)) :
    ∑ l, wsum lo (zz l) (ww l) 64 * Ideal.exp2 (mx lo (zz l) 64 - max lo (top Z)) = bsum lo Z W := by
  rw [← lanes_top zz Z hz, lanes_sum lo_ne_bot, lanes_top zz Z hz]
  refine (Finset.sum_congr rfl fun l _ => Finset.sum_congr rfl fun k hk => ?_).trans
    (sum_lanes fun j => Ideal.exp2 (Z j - max lo (top Z)) * W j)
  rw [hz l k (Finset.mem_range.mp hk), hw l k (Finset.mem_range.mp hk)]

variable (m : (ℓ : Loc nD τ sig) → Buf (Elt Ideal) ℓ) (hO : Ok m) (c : Dev nD)

/-- The lanes' running quantities after the last point. -/
def lastM : Vec Ideal S5x640x128 .f32 := fun j => mx lo (zS m hO c (j 0) (j 1) (j 2)) 64
def lastL : Vec Ideal S5x640x128 .f32 := fun j => wsum lo (zS m hO c (j 0) (j 1) (j 2)) (fun _ => 1) 64
def lastA : Vec Ideal S4x640x128 .f32 := fun j => wsum lo (zS m hO c (pT (j 0)) (j 1) (j 2)) (zS m hO c (pS (j 0)) (j 1) (j 2)) 64

theorem topL_eq (C : Fin 5) (R : Fin 640) (Z : Fin 8192 → EReal) (hz : ∀ l k, k < 64 → zS m hO c C R l k = Z (colN l k)) :
    topL (lastM m hO c) C R = max lo (top Z) := by
  rw [← lanes_top (zS m hO c C R) Z hz]
  unfold topL
  rw [show Ideal.ofBits .f32 4286578688#32 = (⊥ : EReal) by simp [Ideal.ofBits, Ideal.ieee]]
  rfl

theorem sumL_eq (C : Fin 5) (R : Fin 640) (Z : Fin 8192 → EReal) (hz : ∀ l k, k < 64 → zS m hO c C R l k = Z (colN l k)) :
    sumL (lastM m hO c) (lastL m hO c) C R = bsum lo Z fun _ => 1 := by
  unfold sumL
  rw [topL_eq m hO c C R Z hz]
  exact lanes_bsum (zS m hO c C R) (fun _ _ => 1) Z (fun _ => 1) hz fun _ _ _ => rfl

theorem sumA_eq (p : Fin 4) (R : Fin 640) (Z W : Fin 8192 → EReal) (hz : ∀ l k, k < 64 → zS m hO c (pT p) R l k = Z (colN l k))
    (hw : ∀ l k, k < 64 → zS m hO c (pS p) R l k = W (colN l k)) :
    sumA (lastM m hO c) (lastA m hO c) p R = bsum lo Z W := by
  unfold sumA
  rw [topL_eq m hO c (pT p) R Z hz]
  exact lanes_bsum (zS m hO c (pT p) R) (zS m hO c (pS p) R) Z W hz hw

theorem pT_eq (p : Fin 4) : pT p = ⟨(pI p).val, by omega⟩ := by revert p; decide
theorem pS_eq (p : Fin 4) : pS p = ⟨2 + (pV p).val, by omega⟩ := by revert p; decide
theorem pI_ne (p : Fin 4) : (pI p).val ≠ (pV p).val := by revert p; decide

/-- The cross entropy of a valid token, of each pair. -/
theorem ceV_eq (p : Fin 4) (b : Fin 5) (s : Fin 128) (hv : Spec.valid (inp m c) b s = 1#1) :
    ceV (lastM m hO c) (lastL m hO c) (lastA m hO c) p (row b s) = Spec.ce (inp m c) (pI p) (pV p) b s := by
  have ht : ∀ l k, k < 64 → zS m hO c (pT p) (row b s) l k = Spec.u (inp m c) (pI p) b s (colN l k) * (kap : EReal) := fun l k hk => by
    rw [pT_eq]; exact zS_t m hO c (pI p) b s hv l k hk
  have hs : ∀ l k, k < 64 → zS m hO c (pS p) (row b s) l k = Spec.z (inp m c) (pV p) b s (colN l k) * (kap : EReal) := fun l k hk => by
    rw [pS_eq]; exact zS_s m hO c (pV p) b s l k hk
  unfold ceV
  rw [topL_eq m hO c (pS p) (row b s) (fun k => Spec.z (inp m c) (pV p) b s k * (kap : EReal)) hs,
    sumL_eq m hO c (pS p) (row b s) (fun k => Spec.z (inp m c) (pV p) b s k * (kap : EReal)) hs,
    sumL_eq m hO c (pT p) (row b s) (fun k => Spec.u (inp m c) (pI p) b s k * (kap : EReal)) ht,
    sumA_eq m hO c p (row b s) (fun k => Spec.u (inp m c) (pI p) b s k * (kap : EReal))
      (fun k => Spec.z (inp m c) (pV p) b s k * (kap : EReal)) ht hs, lo_real]
  exact ce_eq _ _ _

theorem rowV_eq (p : Fin 4) (b : Fin 5) (s : Fin 128) :
    rowV (lastM m hO c) (lastL m hO c) (lastA m hO c) (inp m c).n p b s = Spec.row (inp m c) (pI p) (pV p) b s := by
  unfold Spec.row
  rw [if_neg (pI_ne p)]
  show Scalar.select (Spec.valid (inp m c) b s) _ 0 = _
  by_cases hv : Spec.valid (inp m c) b s = 1#1
  · rw [ceV_eq m hO c p b s hv]
  · exact (if_neg hv).trans (if_neg hv).symm

theorem NT_eq (n : Fin 5 → BitVec 32) : NT n = Spec.NT n := rfl

theorem pairV_eq (p : Fin 4) :
    pairV (lastM m hO c) (lastL m hO c) (lastA m hO c) (inp m c).n p = Spec.pair (inp m c) (pI p) (pV p) := by
  unfold pairV Spec.pair
  rw [Fin.sum_univ_five, NT_eq]
  simp only [rowV_eq]

theorem NT_real (n : Fin 5 → BitVec 32) : ∃ r : ℝ, 0 < r ∧ Spec.NT n = (r : EReal) := by
  unfold Spec.NT
  split
  · next h => exact ⟨_, EReal.coe_pos.mp h, rfl⟩
  · exact ⟨1, one_pos, rfl⟩

theorem bcV_eq (t : Fin (cfgM m hO).N) (q : Fin 4) (l : Fin 128) :
    bcV (XV (iblk m hO c 0 t) (iblk m hO c 2 t)) (sS m hO c) (WV (iblk m hO c 2 t) (iblk m hO c 3 t)) (inp m c).n q l
      = Spec.centre (inp m c) (proto m hO t (col q l)) := by
  have h0 : ∀ b s, yk (XV (iblk m hO c 0 t) (iblk m hO c 2 t)) (sS m hO c) (WV (iblk m hO c 2 t) (iblk m hO c 3 t)) 0 (row b s) q l = _ :=
    fun b s => yk_t m hO c t 0 b s q l
  have h1 : ∀ b s, yk (XV (iblk m hO c 0 t) (iblk m hO c 2 t)) (sS m hO c) (WV (iblk m hO c 2 t) (iblk m hO c 3 t)) 1 (row b s) q l = _ :=
    fun b s => yk_t m hO c t 1 b s q l
  have hk : (0 : ℝ) ≤ kap * 25 := by have := kap_pos; positivity
  have hk' : (kap * 25 : ℝ) ≠ 0 := by have := kap_pos; positivity
  obtain ⟨r, hr, e⟩ := NT_real (inp m c).n
  unfold bcV Spec.centre
  have hs : ∑ r : Fin 8, ∑ k ∈ Finset.range 80, bcTerm (XV (iblk m hO c 0 t) (iblk m hO c 2 t)) (sS m hO c) (WV (iblk m hO c 2 t) (iblk m hO c 3 t)) q k r l
      = (∑ i : Fin 2, ∑ b : Fin 5, ∑ s : Fin 128, Scalar.select (Spec.valid (inp m c) b s) (Spec.tt (inp m c) i b s (proto m hO t (col q l))) 0) * ((kap * 25 : ℝ) : EReal) := by
    unfold bcTerm
    rw [sum_rows fun R => yk (XV (iblk m hO c 0 t) (iblk m hO c 2 t)) (sS m hO c) (WV (iblk m hO c 2 t) (iblk m hO c 3 t)) 0 R q l
      + yk (XV (iblk m hO c 0 t) (iblk m hO c 2 t)) (sS m hO c) (WV (iblk m hO c 2 t) (iblk m hO c 3 t)) 1 R q l]
    simp only [h0, h1, sum_mul_real _ _ hk, Fin.sum_univ_two, Finset.sum_add_distrib, add_mul_real hk]
  rw [hs, NT_eq, e, show (((Real.log 2)⁻¹ * 50 : ℝ) : EReal) * (r : EReal) = ((kap * 25 * (2 * r) : ℝ) : EReal) by
      rw [← EReal.coe_mul]; congr 1; unfold kap; ring, ← EReal.coe_mul,
    Ideal.div_coe (mul_ne_zero hk' (by positivity)), Ideal.div_coe (by positivity), mul_assoc, ← EReal.coe_mul]
  congr 2
  field_simp

end Cert.KernelIdeal.Gen

end
-- ==== Proof.Arrays.lean ====
/- The kernel's result arrays as the problem's function. -/
module

public import proofs.«01_k».proof.Proof.Results
public import Idealize.ShloMosaic.Lib.Pipeline.Covers

@[expose] public section

set_option maxRecDepth 16384

noncomputable section

namespace Cert.KernelIdeal.Gen

open Idealize.ShloMosaic Idealize.ShloMosaic.TcCoe Idealize.ShloMosaic.Tactic Idealize.ShloMosaic.StableHlo
open Idealize.SL.Sem
open Cert.Softmax

variable (m : (ℓ : Loc nD τ sig) → Buf (Elt Ideal) ℓ) (hO : Ok m) (c : Dev nD)

/-- The three results' contents, the third also as the kernel's own array holds it. -/
def pairK : Buf (Elt Ideal) ((c.tc : Thread nD τ).loc main_v5_0) := fun j : S2x3.Idx => Spec.pair (inp m c) (j 0) (j 1)
def rowK : Buf (Elt Ideal) ((c.tc : Thread nD τ).loc main_v5_1) := fun j : S2x3x5x128.Idx => Spec.row (inp m c) (j 0) (j 1) (j 2) (j 3)
def tileK : Buf (Elt Ideal) ((c.tc : Thread nD τ).loc main_v5_2) := fun j : S1x8192.Idx => Spec.centre (inp m c) (j 1)
def centreK : Buf (Elt Ideal) ((c.tc : Thread nD τ).loc main_v6) := fun j : S8192.Idx => Spec.centre (inp m c) (j 0)

/-- Every pair of crops is one of the kernel's four, or a crop with itself. -/
theorem pair_cases (i : Fin 2) (v : Fin 3) : (∃ p, i = pI p ∧ v = pV p) ∨ (i = 0 ∧ v = 0) ∨ (i = 1 ∧ v = 1) := by
  revert i v; decide

/-- What the last point leaves in the first two results' buffers. -/
theorem last_row (t : Fin (cfgM m hO).N) (ht : t.val % 16 = 15) :
    (∀ p b s, (outsAt0 m hO c t.val t.isLt).2.1 (ix4 (pI p) (pV p) b s) = rowV (lastM m hO c) (lastL m hO c) (lastA m hO c) (inp m c).n p b s)
    ∧ (∀ b s, (outsAt0 m hO c t.val t.isLt).2.1 (ix4 0 0 b s) = 0 ∧ (outsAt0 m hO c t.val t.isLt).2.1 (ix4 1 1 b s) = 0) := by
  have hN : t.val < 16 := lt_of_lt_of_eq t.isLt (show (cfgM m hO).N = 16 from N_0)
  have e := outsAt0_C m hO c t (show ¬(t.val % 16 = 0) by omega) ht
  obtain ⟨-, i2, i3, i4⟩ := carried m hO c t.val t.isLt
  rw [show 4 * t.val + 4 = 64 by omega] at i2 i3 i4
  rw [e] at i2 i3 i4
  rw [e]
  dsimp only at i2 i3 i4 ⊢
  have j2 : _ = lastM m hO c := i2
  have j3 : _ = lastL m hO c := i3
  have j4 : _ = lastA m hO c := i4
  refine ⟨fun p b s => ?_, fun b s => out6D _ _ _ _ _ _ _ _ _ _ _ _ _ _ _ _ _ _ _ _ _ _ _ _ _ _ _ _ _ _ _ _ _ _ _ _ _ _ _ _ _ _ b s⟩
  refine (out6 _ _ _ _ _ _ _ _ _ _ _ _ _ _ _ _ _ _ _ _ _ _ _ _ _ _ _ _ _ _ _ _ _ _ _ _ _ _ _ _ _ _ p b s).trans ?_
  rw [← j2, ← j3, ← j4, ← NV_eq]

theorem last_pair (t : Fin (cfgM m hO).N) (ht : t.val % 16 = 15) :
    (∀ p, (outsAt0 m hO c t.val t.isLt).1 (ix2 (pI p) (pV p)) = pairV (lastM m hO c) (lastL m hO c) (lastA m hO c) (inp m c).n p)
    ∧ ((outsAt0 m hO c t.val t.isLt).1 (ix2 0 0) = 0 ∧ (outsAt0 m hO c t.val t.isLt).1 (ix2 1 1) = 0) := by
  have hN : t.val < 16 := lt_of_lt_of_eq t.isLt (show (cfgM m hO).N = 16 from N_0)
  have e := outsAt0_C m hO c t (show ¬(t.val % 16 = 0) by omega) ht
  obtain ⟨-, i2, i3, i4⟩ := carried m hO c t.val t.isLt
  rw [show 4 * t.val + 4 = 64 by omega] at i2 i3 i4
  rw [e] at i2 i3 i4
  rw [e]
  dsimp only at i2 i3 i4 ⊢
  have j2 : _ = lastM m hO c := i2
  have j3 : _ = lastL m hO c := i3
  have j4 : _ = lastA m hO c := i4
  refine ⟨fun p => ?_, out5D _ _ _ _ _ _ _ _ _ _ _ _ _ _ _ _ _ _ _ _ _ _ _ _ _ _ _ _ _ _ _ _ _ _ _ _ _ _ _ _ _ _⟩
  refine (out5 _ _ _ _ _ _ _ _ _ _ _ _ _ _ _ _ _ _ _ _ _ _ _ _ _ _ _ _ _ _ _ _ _ _ _ _ _ _ _ _ _ _ p).trans ?_
  rw [← j2, ← j3, ← j4, ← NV_eq]

theorem last6 (t : Fin (cfgM m hO).N) (ht : t.val % 16 = 15) (i : Fin 2) (v : Fin 3) (b : Fin 5) (s : Fin 128) :
    (outsAt0 m hO c t.val t.isLt).2.1 (ix4 i v b s) = Spec.row (inp m c) i v b s := by
  obtain ⟨h1, h2⟩ := last_row m hO c t ht
  rcases pair_cases i v with ⟨p, rfl, rfl⟩ | ⟨rfl, rfl⟩ | ⟨rfl, rfl⟩
  · rw [h1, rowV_eq]
  · rw [(h2 b s).1]; rfl
  · rw [(h2 b s).2]; rfl

theorem pair_same (i : Fin 2) (v : Fin 3) (h : i.val = v.val) : Spec.pair (inp m c) i v = 0 := by
  obtain ⟨r, hr, e⟩ := NT_real (inp m c).n
  have hz : ∀ b s, Spec.row (inp m c) i v b s = 0 := fun b s => if_pos h
  unfold Spec.pair
  simp only [hz, Finset.sum_const_zero]
  rw [e, Ideal.div_coe hr.ne', zero_mul]

theorem last5 (t : Fin (cfgM m hO).N) (ht : t.val % 16 = 15) (i : Fin 2) (v : Fin 3) : (outsAt0 m hO c t.val t.isLt).1 (ix2 i v) = Spec.pair (inp m c) i v := by
  obtain ⟨h1, h2⟩ := last_pair m hO c t ht
  rcases pair_cases i v with ⟨p, rfl, rfl⟩ | ⟨rfl, rfl⟩ | ⟨rfl, rfl⟩
  · rw [h1, pairV_eq]
  · rw [h2.1, pair_same m c 0 0 rfl]
  · rw [h2.2, pair_same m c 1 1 rfl]

/-- The first result's array after the run. -/
theorem arr5_of (t : Fin (cfgM m hO).N) (ht : t.val % 16 = 15) (hw : ((cfgM m hO).win 5).WholeAt t) :
    (dats m hO 0 c).arrAt 5 (cfgM m hO).N = pairK m c := by
  refine (dats m hO 0 c).arrAt_eq_of_after_last 5 t hw (pairK m c) fun j => ?_
  have h : ∀ j : S2x3.Idx, (outsAt0 m hO c t.val t.isLt).1 j = Spec.pair (inp m c) (j 0) (j 1) := fun j =>
    (congrArg _ (eq_ix2 j)).trans (last5 m hO c t ht (j 0) (j 1))
  exact (congrFun (after0_5 m hO c t) _).trans (h j)

theorem arr5 : (dats m hO 0 c).arrAt 5 (cfgM m hO).N = pairK m c :=
  arr5_of m hO c t0_15 rfl (wholeAt5 m hO)

/-- The second result's array after the run. -/
theorem arr6_of (t : Fin (cfgM m hO).N) (ht : t.val % 16 = 15) (hw : ((cfgM m hO).win 6).WholeAt t) :
    (dats m hO 0 c).arrAt 6 (cfgM m hO).N = rowK m c := by
  refine (dats m hO 0 c).arrAt_eq_of_after_last 6 t hw (rowK m c) fun j => ?_
  have h : ∀ j : S2x3x5x128.Idx, (outsAt0 m hO c t.val t.isLt).2.1 j = Spec.row (inp m c) (j 0) (j 1) (j 2) (j 3) := fun j =>
    (congrArg _ (eq_ix4 j)).trans (last6 m hO c t ht (j 0) (j 1) (j 2) (j 3))
  exact (congrFun (after0_6 m hO c t) _).trans (h j)

theorem arr6 : (dats m hO 0 c).arrAt 6 (cfgM m hO).N = rowK m c :=
  arr6_of m hO c t0_15 rfl (wholeAt6 m hO)

theorem covers7 : ((cfgM m hO).win 7).Covers :=
  Pipeline.Window.covers_of_index_surj ((cfgM m hO).win 7) rfl (fun a => match a with | ⟨0, _⟩ => Nat.one_pos | ⟨1, _⟩ => (by decide : 0 < 512)) fun β => by
    have h0 : (β (0 : Fin 2)).val < 1 := lt_of_lt_of_eq (β (0 : Fin 2)).isLt (show ((1 + 1 - 1) / 1 : ℕ) = 1 by norm_num)
    have h1 : (β (1 : Fin 2)).val < 16 := lt_of_lt_of_eq (β (1 : Fin 2)).isLt (show ((8192 + 512 - 1) / 512 : ℕ) = 16 by norm_num)
    have hN : (β (1 : Fin 2)).val < (cfgM m hO).N := lt_of_lt_of_eq h1 (N_0.symm : 16 = (cfgM m hO).N)
    refine ⟨⟨(β (1 : Fin 2)).val, hN⟩, fun a => ?_⟩
    match a with
    | ⟨0, _⟩ => exact (congrFun (coord7 ⟨(β (1 : Fin 2)).val, hN⟩) 0).trans (Nat.lt_one_iff.mp h0).symm
    | ⟨1, _⟩ => exact congrFun (coord7 ⟨(β (1 : Fin 2)).val, hN⟩) 1

/-- The third result's array after the run: every point's tile. -/
theorem arr7 : (dats m hO 0 c).arrAt 7 (cfgM m hO).N = tileK m c := by
  refine (dats m hO 0 c).arrAt_eq_of_covers 7 (tileK m c) (covers7 m hO) fun t hf y => ?_
  have h : ∀ y : S1x512.Idx, (outsAt0 m hO c t.val t.isLt).2.2.1 y
      = (tileK m c : S1x8192.Idx → EReal) ((((cfgM m hO).win 7).blk t).view.emb y : S1x8192.Idx) := fun y => by
    obtain ⟨z, a, rfl⟩ : ∃ (z : Fin 1) (a : Fin 512), y = ix2 z a := ⟨y 0, y 1, eq_ix2 y⟩
    obtain rfl : z = 0 := Subsingleton.elim _ _
    obtain ⟨q, l, rfl⟩ := col_eq a
    refine (centre m hO c t q l).trans ?_
    rw [NV_eq, bcV_eq]
    exact (congrArg (tileK m c : S1x8192.Idx → EReal) (emb7 m hO t (col q l))).symm
  exact (congrFun (after0_7 m hO c t) _).trans (h y)

/-- The third result: the array without its leading axis. -/
theorem tail_v6 : Pipeline.afterTail pcfgs (fun _ => adm m hO) (dats m hO) 0 (V0 m) [hostOps1] c main_v6 = centreK m c := by
  have h7 : Pipeline.withArrays (Pipeline.pin pcfgs (fun _ => adm m hO) 0).spec c (V0 m c)
      (fun w => (dats m hO 0 c).arrAt w (Pipeline.pin pcfgs (fun _ => adm m hO) 0).N) (Proc.devRef .tc main_v5_2) = tileK m c :=
    (Pipeline.withArrays_arr spec0 (by decide) c (V0 m c) (fun w => (dats m hO 0 c).arrAt w (cfgM m hO).N) 7).trans (arr7 m hO c)
  unfold Pipeline.afterTail
  generalize Pipeline.withArrays (Pipeline.pin pcfgs (fun _ => adm m hO) 0).spec c (V0 m c)
      (fun w => (dats m hO 0 c).arrAt w (Pipeline.pin pcfgs (fun _ => adm m hO) 0).N) = W at h7 ⊢
  have h : ∀ k : Fin 8192, (StableHlo.after [hostOps1].flatten W (Proc.devRef .tc main_v6) : S8192.Idx → EReal) (ix1 k)
      = (W (Proc.devRef .tc main_v5_2) : S1x8192.Idx → EReal) (ix2 0 k) := fun k => by
    after_reads_at
  refine funext fun j : S8192.Idx => ?_
  obtain ⟨k, rfl⟩ : ∃ k : Fin 8192, j = ix1 k := ⟨j 0, eq_ix1 j⟩
  refine (h k).trans ?_
  rw [h7]
  rfl

/-- Every run of the kernel ends with the three results, its arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v5_0) = pairK m c
      ∧ r.2.mem ((c.tc : Thread nD τ).loc main_v5_1) = rowK m c
      ∧ r.2.mem ((c.tc : Thread nD τ).loc main_v6) = centreK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 5).trans (arr5 m trivial c), ((h.1 c).1 6).trans (arr6 m trivial c),
      ((h.1 c).2 main_v6 (by decide : main_v6 ∈ Pipeline.restRefs sig spec0)).trans (tail_v6 m trivial c), h.2 c⟩)
    (θ_run_and (run_main m ρ trivial) (unchanged m ρ trivial))

end Cert.KernelIdeal.Gen

end
-- ==== Proof.Ref.lean ====
/- The reference's named intermediate values, read at an index, as the problem's function. -/
module

public import proofs.«01_k».proof.Proof.Gen.ReferenceIdeal.Run
public import proofs.«01_k».proof.Proof.Spec
public import Idealize.ShloMosaic.Lib.Pointwise
public import Idealize.ShloMosaic.Lib.IdealHost
public import Idealize.ShloMosaic.Lib.Tactic.CleanTypes

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Softmax

/-- The buffers `V` hold the arguments `x`. -/
structure Reads (V : Valuation τ sig (Elt Ideal)) (x : Spec.In) : Prop where
  t : ∀ i b s d, (V (Proc.devRef .tc main_v0_0) : Vec Ideal S2x5x128x1024 .f32) (ix4 i b s d) = x.t i b s d
  ts : ∀ i b s, (V (Proc.devRef .tc main_arg1) : Vec Ideal S2x5x128 .f32) (ix3 i b s) = x.ts i b s
  s : ∀ i b s d, (V (Proc.devRef .tc main_v0_1) : Vec Ideal S3x5x128x1024 .f32) (ix4 i b s d) = x.s i b s d
  ss : ∀ i b s, (V (Proc.devRef .tc main_arg3) : Vec Ideal S3x5x128 .f32) (ix3 i b s) = x.ss i b s
  v : ∀ k d, (V (Proc.devRef .tc main_v0_2) : Vec Ideal S8192x1024 .f32) (ix2 k d) = x.v k d
  g : ∀ k, (V (Proc.devRef .tc main_arg5) : Vec Ideal S8192 .f32) (ix1 k) = x.g k
  c : ∀ k, (V (Proc.devRef .tc main_arg6) : Vec Ideal S8192 .f32) (ix1 k) = x.c k
  n : ∀ b, (V (Proc.devRef .tc main_arg7) : S5.Idx → BitVec 32) (ix1 b) = x.n b

/-- The maximum fold from `-∞` is the supremum. -/
theorem fold_top {n : ℕ} (f : Fin n → EReal) : Finset.fold max (Ideal.ofBits .f32 4286578688#32) f Finset.univ = top f := by
  have e : Ideal.ofBits .f32 4286578688#32 = ⊥ := by simp [Ideal.ofBits, Ideal.ieee]
  rw [e]; rfl

theorem bits_25 : Ideal.ofBits .f32 1103626240#32 = ((25 : ℝ) : EReal) := by
  simp [Ideal.ofBits, Ideal.ieee]; rw [← EReal.coe_mul]; norm_num

theorem bits_10 : Ideal.ofBits .f32 1092616192#32 = ((10 : ℝ) : EReal) := by
  simp [Ideal.ofBits, Ideal.ieee]; rw [← EReal.coe_mul]; norm_num

theorem bits_2 : Ideal.ofBits .f32 1073741824#32 = ((2 : ℝ) : EReal) := by
  simp [Ideal.ofBits, Ideal.ieee]; rw [← EReal.coe_mul]; norm_num

/-- A host sum over the first three of four axes. -/
theorem sum_012 (f : S2x5x128x8192.Idx → EReal) (init : EReal) (k : Fin 8192) :
    Ideal.hostReduceAdd reducesTo_S2x5x128x8192_S8192_d0_1_2 f init (ix1 k) = init + ∑ i : Fin 2, ∑ b : Fin 5, ∑ s : Fin 128, f (ix4 i b s k) := by
  refine congrArg (init + ·) ((Finset.sum_filter_eq_sum_of_fiber _ (fun a : Fin 2 × Fin 5 × Fin 128 => (ix4 a.1 a.2.1 a.2.2 k : S2x5x128x8192.Idx))
    (fun _ _ e => Prod.ext (congrFun e 0) (Prod.ext (congrFun e 1) (congrFun e 2))) (fun i => ?_) f).trans ?_)
  · constructor
    · intro e
      refine ⟨(i 0, i 1, i 2), ?_⟩
      funext a; apply Fin.ext
      match a with
      | ⟨0, _⟩ => rfl
      | ⟨1, _⟩ => rfl
      | ⟨2, _⟩ => rfl
      | ⟨3, _⟩ => exact (congrArg Fin.val (congrFun e 0)).symm
    · rintro ⟨a, rfl⟩
      funext b
      apply Fin.ext
      match b with
      | ⟨0, _⟩ => rfl
  · simp only [Fintype.sum_prod_type]

/-- The fold of the five counts is their sum. -/
theorem fold_counts (n : Fin 5 → BitVec 32) : Finset.fold IntOp.addi 0#32 n Finset.univ = Spec.ntI n := by
  have e : Finset.fold IntOp.addi 0#32 n Finset.univ = n 0 + (n 1 + (n 2 + (n 3 + (n 4 + 0#32)))) := rfl
  rw [e, Spec.ntI]; simp only [BitVec.add_zero, BitVec.add_assoc]

/-! The second result's term, in pieces over the logits, their maxima and the teacher's exponentials. -/

section
variable (v58 : S5x128.Idx → BitVec 1) (z : FVec Ideal S3x5x128x8192 .f32) (zm : FVec Ideal S3x5x128x1 .f32) (e : FVec Ideal S2x5x128x8192 .f32)

def maskF : S2x3x5x128.Idx → BitVec 1 := (andi (broadcastInDim S2x3x5x128 ![0, 1, 2, 3] bcast_S2x3x1x1_S2x3x5x128_0_1_2_3 (broadcastInDim S2x3x1x1 ![0, 1] bcast_S2x3_S2x3x1x1_0_1 (cmpi .ne (broadcastInDim S2x3 ![0, 1] bcast_S2x1_S2x3_0_1 (broadcastInDim S2x1 ![0] bcast_S2_S2x1_0 (iotaInDim S2 32 0))) (broadcastInDim S2x3 ![0, 1] bcast_S1x3_S2x3_0_1 (broadcastInDim S1x3 ![1] bcast_S3_S1x3_1 (iotaInDim S3 32 0)))))) (broadcastInDim S2x3x5x128 ![0, 1, 2, 3] bcast_S1x1x5x128_S2x3x5x128_0_1_2_3 (broadcastInDim S1x1x5x128 ![2, 3] bcast_S5x128_S1x1x5x128_2_3 v58)))
def dotF : FVec Ideal S5x128x3x2 .f32 := (Host.dotGeneral (φ₁ := .f32) (φ₂ := .f32) dot_S3x5x128x8192_S2x5x128x8192_S5x128x3x2_3_3_0_0_12_12 (some .fp32) z e)
def lseF : FVec Ideal S3x5x128x1 .f32 := (addf zm (Host.log (broadcastInDim S3x5x128x1 ![0, 1, 2] bcast_S3x5x128_S3x5x128x1_0_1_2 (Host.reduceAdd (Host.exp (subf z (broadcastInDim S3x5x128x8192 ![0, 1, 2, 3] bcast_S3x5x128x1_S3x5x128x8192_0_1_2_3 zm))) (constant S_ .f32 0x00000000#32) reducesTo_S3x5x128x8192_S3x5x128_d3 h_S_))))
def sumF : FVec Ideal S2x5x128 .f32 := (Host.reduceAdd e (constant S_ .f32 0x00000000#32) reducesTo_S2x5x128x8192_S2x5x128_d3 h_S_)
def rowF : FVec Ideal S2x3x5x128 .f32 :=
  select (maskF v58) (subf (broadcastInDim S2x3x5x128 ![0, 1, 2, 3] bcast_S1x3x5x128_S2x3x5x128_0_1_2_3 (broadcastInDim S1x3x5x128 ![1, 2, 3] bcast_S3x5x128_S1x3x5x128_1_2_3 (shapeCast S3x5x128 (lseF z zm) shapeCasts_S3x5x128x1_S3x5x128))) (Host.divf (transpose S2x3x5x128 [3, 2, 0, 1] (dotF z e) transposes_S5x128x3x2_S2x3x5x128_3_2_0_1) (broadcastInDim S2x3x5x128 ![0, 1, 2, 3] bcast_S2x1x5x128_S2x3x5x128_0_1_2_3 (broadcastInDim S2x1x5x128 ![0, 2, 3] bcast_S2x5x128_S2x1x5x128_0_2_3 (sumF e))))) (broadcastInDim S2x3x5x128 ![] bcast_S_S2x3x5x128 (constant S_ .f32 0x00000000#32))

theorem maskF_at (i v b s) : maskF v58 (ix4 i v b s) = IntOp.andi (IntOp.cmpi CmpIPredicate.ne (BitVec.ofNat 32 i.val) (BitVec.ofNat 32 v.val)) (v58 (ix2 b s)) := by
  unfold maskF; pointwise
theorem dotF_at (i v b s) : dotF z e (ix4 b s v i) = ∑ k, z (ix4 v b s k) * e (ix4 i b s k) := by
  unfold dotF; pointwise
theorem lseF_at (v b s) : lseF z zm (ix4 v b s 0) = zm (ix4 v b s 0) + Ideal.log (∑ k, Ideal.exp (z (ix4 v b s k) - zm (ix4 v b s 0))) := by
  unfold lseF; pointwise
theorem sumF_at (i b s) : sumF e (ix3 i b s) = ∑ k, e (ix4 i b s k) := by
  unfold sumF; pointwise
theorem rowF_at (i v b s) : rowF v58 z zm e (ix4 i v b s) = Scalar.select (maskF v58 (ix4 i v b s)) (lseF z zm (ix4 v b s 0) - Ideal.div (dotF z e (ix4 b s v i)) (sumF e (ix3 i b s))) 0 := by
  unfold rowF; pointwise

theorem select_ne (i : Fin 2) (v : Fin 3) (a : BitVec 1) (y : EReal) :
    Scalar.select (IntOp.andi (IntOp.cmpi CmpIPredicate.ne (BitVec.ofNat 32 i.val) (BitVec.ofNat 32 v.val)) a) y 0 = if i.val = v.val then 0 else Scalar.select a y 0 := by
  have ha : a = 0 ∨ a = 1 := by revert a; decide
  fin_cases i <;> fin_cases v <;> rcases ha with rfl | rfl <;> rfl
end

variable (V : Valuation τ sig (Elt Ideal))

/-- The second result's term. -/
def rowT : FVec Ideal S2x3x5x128 .f32 := rowF (res_main_v58 V) (res_main_v33 V) (res_main_v35 V) (res_main_v31 V)

/-- The first result's term. -/
def pairT : FVec Ideal S2x3 .f32 :=
  Host.divf (Host.reduceAdd (rowT V) (constant S_ .f32 0x00000000#32) reducesTo_S2x3x5x128_S2x3_d2_3 h_S_) (broadcastInDim S2x3 ![] bcast_S_S2x3 (res_main_v75 V))

/-- The third result's term. -/
def centreT : FVec Ideal S8192 .f32 :=
  Host.divf (Host.reduceAdd (select (broadcastInDim S2x5x128x8192 ![0, 1, 2, 3] bcast_S1x5x128x1_S2x5x128x8192_0_1_2_3 (broadcastInDim S1x5x128x1 ![1, 2] bcast_S5x128_S1x5x128x1_1_2 (res_main_v58 V))) (res_main_v14 V) (broadcastInDim S2x5x128x8192 ![] bcast_S_S2x5x128x8192 (constant S_ .f32 0x00000000#32))) (constant S_ .f32 0x00000000#32) reducesTo_S2x5x128x8192_S8192_d0_1_2 h_S_) (broadcastInDim S8192 ![] bcast_S_S8192 (mulf (constant S_ .f32 0x40000000#32) (res_main_v75 V)))

variable {V} {x : Spec.In} (h : Reads V x)
include h

theorem v3_at (k : Fin 8192) : (res_main_v3 V : Vec Ideal S8192 .f32) (ix1 k) = Spec.norm x k := by
  unfold res_main_v3
  clean_types
  pointwise
  simp only [h.v, Spec.norm]

theorem v7_at (k : Fin 8192) : (res_main_v7 V : Vec Ideal S8192 .f32) (ix1 k) = Spec.w x k := by
  unfold res_main_v7
  clean_types
  dsimp only [id]
  pointwise
  simp only [h.g, v3_at h, Spec.w]

theorem v14_at (i b s k) : (res_main_v14 V : Vec Ideal S2x5x128x8192 .f32) (ix4 i b s k) = Spec.tt x i b s k := by
  unfold res_main_v14
  clean_types
  pointwise
  simp only [h.t, h.ts, h.v, v7_at h, Spec.tt]

theorem v26_at (i b s k) : (res_main_v26 V : Vec Ideal S2x5x128x8192 .f32) (ix4 i b s k) = Spec.u x i b s k := by
  unfold res_main_v26
  clean_types
  pointwise
  simp only [v14_at h, h.c, Spec.u, bits_25]

theorem v31_at (i b s k) : (res_main_v31 V : Vec Ideal S2x5x128x8192 .f32) (ix4 i b s k) = Ideal.exp (Spec.u x i b s k - top (Spec.u x i b s)) := by
  unfold res_main_v31
  clean_types
  pointwise
  simp only [v26_at h, fold_top]

theorem v33_at (i b s k) : (res_main_v33 V : Vec Ideal S3x5x128x8192 .f32) (ix4 i b s k) = Spec.z x i b s k := by
  unfold res_main_v33
  clean_types
  pointwise
  simp only [h.s, h.ss, h.v, v7_at h, Spec.sl, Spec.z, bits_10]

theorem v35_at (i b s) : (res_main_v35 V : Vec Ideal S3x5x128x1 .f32) (ix4 i b s 0) = top (Spec.z x i b s) := by
  unfold res_main_v35
  clean_types
  pointwise
  simp only [v33_at h, fold_top]

theorem v58_at (b s) : (res_main_v58 V : S5x128.Idx → BitVec 1) (ix2 b s) = Spec.valid x b s := by
  unfold res_main_v58
  clean_types
  pointwise
  simp only [h.n, Spec.valid]

theorem v73_at (j) : (res_main_v73 V : Vec Ideal S_ .f32) j = (((Spec.ntI x.n).toInt : ℝ) : EReal) := by
  unfold res_main_v73
  clean_types
  pointwise
  simp only [h.n, fold_counts]
  rfl

theorem v75_at (j) : (res_main_v75 V : Vec Ideal S_ .f32) j = Spec.NT x.n := by
  unfold res_main_v75
  clean_types
  dsimp only [id]
  pointwise
  simp only [v73_at h, Spec.NT]

theorem row_at (i v b s) : (rowT V : Vec Ideal S2x3x5x128 .f32) (ix4 i v b s) = Spec.row x i v b s := by
  unfold rowT
  rw [rowF_at, maskF_at, lseF_at, dotF_at, sumF_at, select_ne]
  simp only [v58_at h, v31_at h, v33_at h, v35_at h, Spec.row, Spec.ce, esum, mul_one]
  simp only [mul_comm (Spec.z x v b s _)]

theorem pair_at (i v) : pairT V (ix2 i v) = Spec.pair x i v := by
  unfold pairT
  clean_types
  pointwise
  simp only [row_at h, v75_at h, Spec.pair]

theorem centre_at (k) : centreT V (ix1 k) = Spec.centre x k := by
  unfold centreT
  clean_types
  pointwise
  rw [sum_012]
  pointwise
  simp only [v58_at h, v14_at h, v75_at h, Spec.centre, bits_2]

end Cert.ReferenceIdeal.Value

end
-- ==== Proof.RefValue.lean ====
/- The reference's run: every result is the problem's function of the arguments. -/
module

public import proofs.«01_k».proof.Proof.Ref
public import Idealize.ShloMosaic.Lib.Pipeline.ValueKit

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo Idealize.ShloMosaic.Tactic

variable (m : (ℓ : Loc nD τ sig) → Buf (Elt Ideal) ℓ) (c : Dev nD)

/-- The decoding kernel leaves the teacher's codes as they are. -/
theorem reg0 : (reg_main_v0_0 m c : S2x5x128x1024.Idx → EReal) = m ((c.tc : Thread nD τ).loc main_arg0) := by
  refine (dats m 0 c).arrAt_eq_of_after_last 3 t0_0 (by decide +kernel) _ fun j => ?_
  blk_simp
  rw [after0_3]
  frame_out
  unfold k0_pay1 iblk
  pointwise
  blk_simp
  refine (congrFun (V_main_arg0 m c) _).trans ?_
  blk_ext [show ∀ a, win0_0.index t0_0 a = 0 by decide +kernel]

/-- And the student's. -/
theorem reg1 : (reg_main_v0_1 m c : S3x5x128x1024.Idx → EReal) = m ((c.tc : Thread nD τ).loc main_arg2) := by
  refine (dats m 0 c).arrAt_eq_of_after_last 4 t0_0 (by decide +kernel) _ fun j => ?_
  blk_simp
  rw [after0_4]
  frame_out
  unfold k0_pay2 iblk
  pointwise
  blk_simp
  refine (congrFun (V_main_arg2 m c) _).trans ?_
  blk_ext [show ∀ a, win0_1.index t0_0 a = 0 by decide +kernel]

/-- And the prototypes'. -/
theorem reg2 : (reg_main_v0_2 m c : S8192x1024.Idx → EReal) = m ((c.tc : Thread nD τ).loc main_arg4) := by
  refine (dats m 0 c).arrAt_eq_of_after_last 5 t0_0 (by decide +kernel) _ fun j => ?_
  blk_simp
  rw [after0_5]
  frame_out
  unfold k0_pay3 iblk
  pointwise
  blk_simp
  refine (congrFun (V_main_arg4 m c) _).trans ?_
  blk_ext [show ∀ a, win0_2.index t0_0 a = 0 by decide +kernel]

/-- The arguments. -/
def inp : Spec.In where
  t i b s d := (m ((c.tc : Thread nD τ).loc main_arg0) : S2x5x128x1024.Idx → EReal) (ix4 i b s d)
  ts i b s := (m ((c.tc : Thread nD τ).loc main_arg1) : S2x5x128.Idx → EReal) (ix3 i b s)
  s i b s d := (m ((c.tc : Thread nD τ).loc main_arg2) : S3x5x128x1024.Idx → EReal) (ix4 i b s d)
  ss i b s := (m ((c.tc : Thread nD τ).loc main_arg3) : S3x5x128.Idx → EReal) (ix3 i b s)
  v k d := (m ((c.tc : Thread nD τ).loc main_arg4) : S8192x1024.Idx → EReal) (ix2 k d)
  g k := (m ((c.tc : Thread nD τ).loc main_arg5) : S8192.Idx → EReal) (ix1 k)
  c k := (m ((c.tc : Thread nD τ).loc main_arg6) : S8192.Idx → EReal) (ix1 k)
  n b := (m ((c.tc : Thread nD τ).loc main_arg7) : S5.Idx → BitVec 32) (ix1 b)

theorem reads : Reads (exitV m c) (inp m c) where
  t i b s d := congrFun ((exit_main_v0_0 m c).trans (reg0 m c)) (ix4 i b s d)
  ts i b s := congrFun (exit_main_arg1 m c) (ix3 i b s)
  s i b s d := congrFun ((exit_main_v0_1 m c).trans (reg1 m c)) (ix4 i b s d)
  ss i b s := congrFun (exit_main_arg3 m c) (ix3 i b s)
  v k d := congrFun ((exit_main_v0_2 m c).trans (reg2 m c)) (ix2 k d)
  g k := congrFun (exit_main_arg5 m c) (ix1 k)
  c k := congrFun (exit_main_arg6 m c) (ix1 k)
  n b := congrFun (exit_main_arg7 m c) (ix1 b)

/-- The three results as buffers. -/
def pairB : Buf (Elt Ideal) ((c.tc : Thread nD τ).loc main_v78) := fun j : S2x3.Idx => Spec.pair (inp m c) (j 0) (j 1)
def rowB : Buf (Elt Ideal) ((c.tc : Thread nD τ).loc main_v71) := fun j : S2x3x5x128.Idx => Spec.row (inp m c) (j 0) (j 1) (j 2) (j 3)
def centreB : Buf (Elt Ideal) ((c.tc : Thread nD τ).loc main_v84) := fun j : S8192.Idx => Spec.centre (inp m c) (j 0)

theorem pairT_eq : pairT (exitV m c) = pairB m c :=
  funext fun j : S2x3.Idx => (congrArg (pairT (exitV m c)) (eq_ix2 j)).trans (pair_at (reads m c) (j 0) (j 1))

theorem rowT_eq : rowT (exitV m c) = rowB m c :=
  funext fun j : S2x3x5x128.Idx => (congrArg (rowT (exitV m c)) (eq_ix4 j)).trans (row_at (reads m c) (j 0) (j 1) (j 2) (j 3))

theorem centreT_eq : centreT (exitV m c) = centreB m c :=
  funext fun j : S8192.Idx => (congrArg (centreT (exitV m c)) (eq_ix1 j)).trans (centre_at (reads m c) (j 0))

end Cert.ReferenceIdeal.Value

end
-- ==== Proof.Algebraic.lean ====
/- The value claim: the kernel and the reference return the same three arrays. -/
module

public import proofs.«01_k».proof.Proof.Frames
public import proofs.«01_k».proof.Proof.Arrays
public import proofs.«01_k».proof.Proof.RefValue
public import proofs.«01_k».proof.Proof.Gen.ReferenceIdeal.Run

@[expose] public section

noncomputable section

namespace Cert.Proof

open Idealize.ShloMosaic Idealize.SL.Sem

attribute [local instance] Cert.KernelIdeal.Gen.facts Cert.ReferenceIdeal.Gen.facts

theorem algebraic : Cert.algebraic_KernelIdeal_ReferenceIdeal := by
  intro m g m' g' _ ha
  have hin : ∀ c, Cert.ReferenceIdeal.Value.inp m' c = Cert.KernelIdeal.Gen.inp m c := fun c => by
    obtain ⟨h0, h1, h2, h3, h4, h5, h6, h7⟩ := ha c
    unfold Cert.ReferenceIdeal.Value.inp Cert.KernelIdeal.Gen.inp
    congr 1
    · funext i b s d; exact congrFun h0 _
    · funext i b s; exact congrFun h1 _
    · funext i b s d; exact congrFun h2 _
    · funext i b s; exact congrFun h3 _
    · funext k d; exact congrFun h4 _
    · funext k; exact congrFun h5 _
    · funext k; exact congrFun h6 _
    · funext b; exact congrFun h7 _
  refine ⟨Cert.KernelIdeal.Gen.pairK m, Cert.KernelIdeal.Gen.rowK m, Cert.KernelIdeal.Gen.centreK m,
    Cert.KernelIdeal.Gen.run_value m g, ?_⟩
  refine (θ_run Cert.ReferenceIdeal.defs _ _).mono (fun r h c => ?_) (Cert.ReferenceIdeal.Value.run m' g')
  refine ⟨((h c).1.trans (Cert.ReferenceIdeal.Value.pairT_eq m' c)).trans ?_,
    ((h c).2.1.trans (Cert.ReferenceIdeal.Value.rowT_eq m' c)).trans ?_,
    ((h c).2.2.1.trans (Cert.ReferenceIdeal.Value.centreT_eq m' c)).trans ?_, (h c).2.2.2⟩
  · unfold Cert.ReferenceIdeal.Value.pairB Cert.KernelIdeal.Gen.pairK
    rw [hin c]
  · unfold Cert.ReferenceIdeal.Value.rowB Cert.KernelIdeal.Gen.rowK
    rw [hin c]
  · unfold Cert.ReferenceIdeal.Value.centreB Cert.KernelIdeal.Gen.centreK
    rw [hin c]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_p, frame_pi, frame_ri, preserves, algebraic⟩

end Cert.Proof

end
